-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Gateup (m : (ℓ : Loc Cert.Gateup.nD Cert.Gateup.τ Cert.Gateup.sig) → Buf (Elt Bits) ℓ) : Prop :=
  True

def Pre_GateupIdeal (m : (ℓ : Loc Cert.GateupIdeal.nD Cert.GateupIdeal.τ Cert.GateupIdeal.sig) → Buf (Elt Ideal) ℓ) : Prop :=
  True

def Pre_GateupRefIdeal (m : (ℓ : Loc Cert.GateupRefIdeal.nD Cert.GateupRefIdeal.τ Cert.GateupRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxRefIdeal (m : (ℓ : Loc Cert.AmaxRefIdeal.nD Cert.AmaxRefIdeal.τ Cert.AmaxRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Gateup [hGateup : Cert.Gateup.Facts] : Prop :=
  ∀ (m : (ℓ : Loc Cert.Gateup.nD Cert.Gateup.τ Cert.Gateup.sig) → Buf (Elt Bits) ℓ) (g : Dev Cert.Gateup.nD → PrngReg), Pre_Gateup m →
    θ_run (Cert.Gateup.defs (F := Bits)) (onTc (τ := Cert.Gateup.τ) (Cert.Gateup.main (F := Bits))) ⟨m, fun _ => 0, g⟩ (fun r => (∀ c : Dev Cert.Gateup.nD,
      r.2.mem ((c.tc : Thread Cert.Gateup.nD Cert.Gateup.τ).loc Cert.Gateup.main_arg0) = m ((c.tc : Thread Cert.Gateup.nD Cert.Gateup.τ).loc Cert.Gateup.main_arg0)
      ∧ r.2.mem ((c.tc : Thread Cert.Gateup.nD Cert.Gateup.τ).loc Cert.Gateup.main_arg1) = m ((c.tc : Thread Cert.Gateup.nD Cert.Gateup.τ).loc Cert.Gateup.main_arg1)
      ∧ r.2.mem ((c.tc : Thread Cert.Gateup.nD Cert.Gateup.τ).loc Cert.Gateup.main_arg2) = m ((c.tc : Thread Cert.Gateup.nD Cert.Gateup.τ).loc Cert.Gateup.main_arg2)
      ∧ r.2.mem ((c.tc : Thread Cert.Gateup.nD Cert.Gateup.τ).loc Cert.Gateup.main_arg3) = m ((c.tc : Thread Cert.Gateup.nD Cert.Gateup.τ).loc Cert.Gateup.main_arg3))
      ∧ r.2.sem = fun _ => 0)

def quiescent_GateupIdeal [hGateupIdeal : Cert.GateupIdeal.Facts] : Prop :=
  ∀ (m : (ℓ : Loc Cert.GateupIdeal.nD Cert.GateupIdeal.τ Cert.GateupIdeal.sig) → Buf (Elt Ideal) ℓ) (g : Dev Cert.GateupIdeal.nD → PrngReg), Pre_GateupIdeal m →
    θ_run (Cert.GateupIdeal.defs (F := Ideal)) (onTc (τ := Cert.GateupIdeal.τ) (Cert.GateupIdeal.main (F := Ideal))) ⟨m, fun _ => 0, g⟩ (fun r => (∀ c : Dev Cert.GateupIdeal.nD,
      r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
      ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
      ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
      ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3))
      ∧ r.2.sem = fun _ => 0)

def quiescent_GateupRefIdeal [hGateupRefIdeal : Cert.GateupRefIdeal.Facts] : Prop :=
  ∀ (m : (ℓ : Loc Cert.GateupRefIdeal.nD Cert.GateupRefIdeal.τ Cert.GateupRefIdeal.sig) → Buf (Elt Ideal) ℓ) (g : Dev Cert.GateupRefIdeal.nD → PrngReg), Pre_GateupRefIdeal m →
    θ_run (Cert.GateupRefIdeal.defs (F := Ideal)) (onTc (τ := Cert.GateupRefIdeal.τ) (Cert.GateupRefIdeal.main (F := Ideal))) ⟨m, fun _ => 0, g⟩ (fun r => (∀ c : Dev Cert.GateupRefIdeal.nD,
      r.2.mem ((c.tc : Thread Cert.GateupRefIdeal.nD Cert.GateupRefIdeal.τ).loc Cert.GateupRefIdeal.main_arg0) = m ((c.tc : Thread Cert.GateupRefIdeal.nD Cert.GateupRefIdeal.τ).loc Cert.GateupRefIdeal.main_arg0)
      ∧ r.2.mem ((c.tc : Thread Cert.GateupRefIdeal.nD Cert.GateupRefIdeal.τ).loc Cert.GateupRefIdeal.main_arg1) = m ((c.tc : Thread Cert.GateupRefIdeal.nD Cert.GateupRefIdeal.τ).loc Cert.GateupRefIdeal.main_arg1)
      ∧ r.2.mem ((c.tc : Thread Cert.GateupRefIdeal.nD Cert.GateupRefIdeal.τ).loc Cert.GateupRefIdeal.main_arg2) = m ((c.tc : Thread Cert.GateupRefIdeal.nD Cert.GateupRefIdeal.τ).loc Cert.GateupRefIdeal.main_arg2)
      ∧ r.2.mem ((c.tc : Thread Cert.GateupRefIdeal.nD Cert.GateupRefIdeal.τ).loc Cert.GateupRefIdeal.main_arg3) = m ((c.tc : Thread Cert.GateupRefIdeal.nD Cert.GateupRefIdeal.τ).loc Cert.GateupRefIdeal.main_arg3))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ r.2.sem = fun _ => 0)

def quiescent_AmaxRefIdeal [hAmaxRefIdeal : Cert.AmaxRefIdeal.Facts] : Prop :=
  ∀ (m : (ℓ : Loc Cert.AmaxRefIdeal.nD Cert.AmaxRefIdeal.τ Cert.AmaxRefIdeal.sig) → Buf (Elt Ideal) ℓ) (g : Dev Cert.AmaxRefIdeal.nD → PrngReg), Pre_AmaxRefIdeal m →
    θ_run (Cert.AmaxRefIdeal.defs (F := Ideal)) (onTc (τ := Cert.AmaxRefIdeal.τ) (Cert.AmaxRefIdeal.main (F := Ideal))) ⟨m, fun _ => 0, g⟩ (fun r => (∀ c : Dev Cert.AmaxRefIdeal.nD,
      r.2.mem ((c.tc : Thread Cert.AmaxRefIdeal.nD Cert.AmaxRefIdeal.τ).loc Cert.AmaxRefIdeal.main_arg0) = m ((c.tc : Thread Cert.AmaxRefIdeal.nD Cert.AmaxRefIdeal.τ).loc Cert.AmaxRefIdeal.main_arg0))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)) (v2 : (c : Dev Cert.DownIdeal.nD) → Buf (Elt Ideal) ((c.tc : Thread Cert.DownIdeal.nD Cert.DownIdeal.τ).loc Cert.DownIdeal.main_v4_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_v4_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1_0) = v0 c
          ∧ r.2.mem ((c.tc : Thread Cert.DownRefIdeal.nD Cert.DownRefIdeal.τ).loc Cert.DownRefIdeal.main_v20) = v1 c
          ∧ r.2.mem ((c.tc : Thread Cert.DownRefIdeal.nD Cert.DownRefIdeal.τ).loc Cert.DownRefIdeal.main_v19) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Gateup_GateupIdeal : Prop :=
  True

def algebraic_GateupIdeal_GateupRefIdeal [hGateupIdeal : Cert.GateupIdeal.Facts] [hGateupRefIdeal : Cert.GateupRefIdeal.Facts] : Prop :=
  ∀ (m : (ℓ : Loc Cert.GateupIdeal.nD Cert.GateupIdeal.τ Cert.GateupIdeal.sig) → Buf (Elt Ideal) ℓ) (g : Dev Cert.GateupIdeal.nD → PrngReg)
    (m' : (ℓ : Loc Cert.GateupRefIdeal.nD Cert.GateupRefIdeal.τ Cert.GateupRefIdeal.sig) → Buf (Elt Ideal) ℓ) (g' : Dev Cert.GateupRefIdeal.nD → PrngReg), Pre_GateupIdeal m →
    (∀ c : Dev Cert.GateupIdeal.nD,
      m' ((c.tc : Thread Cert.GateupRefIdeal.nD Cert.GateupRefIdeal.τ).loc Cert.GateupRefIdeal.main_arg0) = m ((c.tc : Thread Cert.GateupIdeal.nD Cert.GateupIdeal.τ).loc Cert.GateupIdeal.main_arg0)
      ∧ m' ((c.tc : Thread Cert.GateupRefIdeal.nD Cert.GateupRefIdeal.τ).loc Cert.GateupRefIdeal.main_arg1) = m ((c.tc : Thread Cert.GateupIdeal.nD Cert.GateupIdeal.τ).loc Cert.GateupIdeal.main_arg1)
      ∧ m' ((c.tc : Thread Cert.GateupRefIdeal.nD Cert.GateupRefIdeal.τ).loc Cert.GateupRefIdeal.main_arg2) = m ((c.tc : Thread Cert.GateupIdeal.nD Cert.GateupIdeal.τ).loc Cert.GateupIdeal.main_arg2)
      ∧ m' ((c.tc : Thread Cert.GateupRefIdeal.nD Cert.GateupRefIdeal.τ).loc Cert.GateupRefIdeal.main_arg3) = m ((c.tc : Thread Cert.GateupIdeal.nD Cert.GateupIdeal.τ).loc Cert.GateupIdeal.main_arg3)) →
    ∃ (v0 : (c : Dev Cert.GateupIdeal.nD) → Buf (Elt Ideal) ((c.tc : Thread Cert.GateupIdeal.nD Cert.GateupIdeal.τ).loc Cert.GateupIdeal.main_v4_0)) (v1 : (c : Dev Cert.GateupIdeal.nD) → Buf (Elt Ideal) ((c.tc : Thread Cert.GateupIdeal.nD Cert.GateupIdeal.τ).loc Cert.GateupIdeal.main_v4_1)) (v2 : (c : Dev Cert.GateupIdeal.nD) → Buf (Elt Ideal) ((c.tc : Thread Cert.GateupIdeal.nD Cert.GateupIdeal.τ).loc Cert.GateupIdeal.main_v8)),
      θ_run (Cert.GateupIdeal.defs (F := Ideal)) (onTc (τ := Cert.GateupIdeal.τ) (Cert.GateupIdeal.main (F := Ideal))) ⟨m, fun _ => 0, g⟩ (fun r => ∀ c : Dev Cert.GateupIdeal.nD,
          r.2.mem ((c.tc : Thread Cert.GateupIdeal.nD Cert.GateupIdeal.τ).loc Cert.GateupIdeal.main_v4_0) = v0 c
          ∧ r.2.mem ((c.tc : Thread Cert.GateupIdeal.nD Cert.GateupIdeal.τ).loc Cert.GateupIdeal.main_v4_1) = v1 c
          ∧ r.2.mem ((c.tc : Thread Cert.GateupIdeal.nD Cert.GateupIdeal.τ).loc Cert.GateupIdeal.main_v8) = v2 c
          ∧ r.2.mem ((c.tc : Thread Cert.GateupIdeal.nD Cert.GateupIdeal.τ).loc Cert.GateupIdeal.main_arg0) = m ((c.tc : Thread Cert.GateupIdeal.nD Cert.GateupIdeal.τ).loc Cert.GateupIdeal.main_arg0)
          ∧ r.2.mem ((c.tc : Thread Cert.GateupIdeal.nD Cert.GateupIdeal.τ).loc Cert.GateupIdeal.main_arg1) = m ((c.tc : Thread Cert.GateupIdeal.nD Cert.GateupIdeal.τ).loc Cert.GateupIdeal.main_arg1)
          ∧ r.2.mem ((c.tc : Thread Cert.GateupIdeal.nD Cert.GateupIdeal.τ).loc Cert.GateupIdeal.main_arg2) = m ((c.tc : Thread Cert.GateupIdeal.nD Cert.GateupIdeal.τ).loc Cert.GateupIdeal.main_arg2)
          ∧ r.2.mem ((c.tc : Thread Cert.GateupIdeal.nD Cert.GateupIdeal.τ).loc Cert.GateupIdeal.main_arg3) = m ((c.tc : Thread Cert.GateupIdeal.nD Cert.GateupIdeal.τ).loc Cert.GateupIdeal.main_arg3))
      ∧ θ_run (Cert.GateupRefIdeal.defs (F := Ideal)) (onTc (τ := Cert.GateupRefIdeal.τ) (Cert.GateupRefIdeal.main (F := Ideal))) ⟨m', fun _ => 0, g'⟩ (fun r => ∀ c : Dev Cert.GateupRefIdeal.nD,
          r.2.mem ((c.tc : Thread Cert.GateupRefIdeal.nD Cert.GateupRefIdeal.τ).loc Cert.GateupRefIdeal.main_v2_0) = v0 c
          ∧ r.2.mem ((c.tc : Thread Cert.GateupRefIdeal.nD Cert.GateupRefIdeal.τ).loc Cert.GateupRefIdeal.main_v12) = v1 c
          ∧ r.2.mem ((c.tc : Thread Cert.GateupRefIdeal.nD Cert.GateupRefIdeal.τ).loc Cert.GateupRefIdeal.main_v17) = v2 c
          ∧ r.2.mem ((c.tc : Thread Cert.GateupRefIdeal.nD Cert.GateupRefIdeal.τ).loc Cert.GateupRefIdeal.main_arg0) = m' ((c.tc : Thread Cert.GateupRefIdeal.nD Cert.GateupRefIdeal.τ).loc Cert.GateupRefIdeal.main_arg0)
          ∧ r.2.mem ((c.tc : Thread Cert.GateupRefIdeal.nD Cert.GateupRefIdeal.τ).loc Cert.GateupRefIdeal.main_arg1) = m' ((c.tc : Thread Cert.GateupRefIdeal.nD Cert.GateupRefIdeal.τ).loc Cert.GateupRefIdeal.main_arg1)
          ∧ r.2.mem ((c.tc : Thread Cert.GateupRefIdeal.nD Cert.GateupRefIdeal.τ).loc Cert.GateupRefIdeal.main_arg2) = m' ((c.tc : Thread Cert.GateupRefIdeal.nD Cert.GateupRefIdeal.τ).loc Cert.GateupRefIdeal.main_arg2)
          ∧ r.2.mem ((c.tc : Thread Cert.GateupRefIdeal.nD Cert.GateupRefIdeal.τ).loc Cert.GateupRefIdeal.main_arg3) = m' ((c.tc : Thread Cert.GateupRefIdeal.nD Cert.GateupRefIdeal.τ).loc Cert.GateupRefIdeal.main_arg3))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v6_0)) (v1 : (c : Dev Cert.OprojIdeal.nD) → Buf (Elt Ideal) ((c.tc : Thread Cert.OprojIdeal.nD Cert.OprojIdeal.τ).loc Cert.OprojIdeal.main_v6_1)) (v2 : (c : Dev Cert.OprojIdeal.nD) → Buf (Elt Ideal) ((c.tc : Thread Cert.OprojIdeal.nD Cert.OprojIdeal.τ).loc Cert.OprojIdeal.main_v6_2)) (v3 : (c : Dev Cert.OprojIdeal.nD) → Buf (Elt Ideal) ((c.tc : Thread Cert.OprojIdeal.nD Cert.OprojIdeal.τ).loc Cert.OprojIdeal.main_v10)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v6_0) = v0 c
          ∧ r.2.mem ((c.tc : Thread Cert.OprojIdeal.nD Cert.OprojIdeal.τ).loc Cert.OprojIdeal.main_v6_1) = v1 c
          ∧ r.2.mem ((c.tc : Thread Cert.OprojIdeal.nD Cert.OprojIdeal.τ).loc Cert.OprojIdeal.main_v6_2) = v2 c
          ∧ r.2.mem ((c.tc : Thread Cert.OprojIdeal.nD Cert.OprojIdeal.τ).loc Cert.OprojIdeal.main_v10) = v3 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v4_0) = v0 c
          ∧ r.2.mem ((c.tc : Thread Cert.OprojRefIdeal.nD Cert.OprojRefIdeal.τ).loc Cert.OprojRefIdeal.main_v22) = v1 c
          ∧ r.2.mem ((c.tc : Thread Cert.OprojRefIdeal.nD Cert.OprojRefIdeal.τ).loc Cert.OprojRefIdeal.main_v21) = v2 c
          ∧ r.2.mem ((c.tc : Thread Cert.OprojRefIdeal.nD Cert.OprojRefIdeal.τ).loc Cert.OprojRefIdeal.main_v27) = v3 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v13_0)) (v1 : (c : Dev Cert.QkvIdeal.nD) → Buf (Elt Ideal) ((c.tc : Thread Cert.QkvIdeal.nD Cert.QkvIdeal.τ).loc Cert.QkvIdeal.main_v13_1)) (v2 : (c : Dev Cert.QkvIdeal.nD) → Buf (Elt Ideal) ((c.tc : Thread Cert.QkvIdeal.nD Cert.QkvIdeal.τ).loc Cert.QkvIdeal.main_v13_2)) (v3 : (c : Dev Cert.QkvIdeal.nD) → Buf (Elt Ideal) ((c.tc : Thread Cert.QkvIdeal.nD Cert.QkvIdeal.τ).loc Cert.QkvIdeal.main_v13_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v13_0) = v0 c
          ∧ r.2.mem ((c.tc : Thread Cert.QkvIdeal.nD Cert.QkvIdeal.τ).loc Cert.QkvIdeal.main_v13_1) = v1 c
          ∧ r.2.mem ((c.tc : Thread Cert.QkvIdeal.nD Cert.QkvIdeal.τ).loc Cert.QkvIdeal.main_v13_2) = v2 c
          ∧ r.2.mem ((c.tc : Thread Cert.QkvIdeal.nD Cert.QkvIdeal.τ).loc Cert.QkvIdeal.main_v13_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v73) = v0 c
          ∧ r.2.mem ((c.tc : Thread Cert.QkvRefIdeal.nD Cert.QkvRefIdeal.τ).loc Cert.QkvRefIdeal.main_v75) = v1 c
          ∧ r.2.mem ((c.tc : Thread Cert.QkvRefIdeal.nD Cert.QkvRefIdeal.τ).loc Cert.QkvRefIdeal.main_v76) = v2 c
          ∧ r.2.mem ((c.tc : Thread Cert.QkvRefIdeal.nD Cert.QkvRefIdeal.τ).loc Cert.QkvRefIdeal.main_v78) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def preserves_Amax_AmaxIdeal : Prop :=
  True

def algebraic_AmaxIdeal_AmaxRefIdeal [hAmaxIdeal : Cert.AmaxIdeal.Facts] [hAmaxRefIdeal : Cert.AmaxRefIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxRefIdeal.nD Cert.AmaxRefIdeal.τ Cert.AmaxRefIdeal.sig) → Buf (Elt Ideal) ℓ) (g' : Dev Cert.AmaxRefIdeal.nD → PrngReg), Pre_AmaxIdeal m →
    (∀ c : Dev Cert.AmaxIdeal.nD,
      m' ((c.tc : Thread Cert.AmaxRefIdeal.nD Cert.AmaxRefIdeal.τ).loc Cert.AmaxRefIdeal.main_arg0) = m ((c.tc : Thread Cert.AmaxIdeal.nD Cert.AmaxIdeal.τ).loc Cert.AmaxIdeal.main_arg0)) →
    ∃ (v0 : (c : Dev Cert.AmaxIdeal.nD) → Buf (Elt Ideal) ((c.tc : Thread Cert.AmaxIdeal.nD Cert.AmaxIdeal.τ).loc Cert.AmaxIdeal.main_v5)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v5) = v0 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ θ_run (Cert.AmaxRefIdeal.defs (F := Ideal)) (onTc (τ := Cert.AmaxRefIdeal.τ) (Cert.AmaxRefIdeal.main (F := Ideal))) ⟨m', fun _ => 0, g'⟩ (fun r => ∀ c : Dev Cert.AmaxRefIdeal.nD,
          r.2.mem ((c.tc : Thread Cert.AmaxRefIdeal.nD Cert.AmaxRefIdeal.τ).loc Cert.AmaxRefIdeal.main_v5) = v0 c
          ∧ r.2.mem ((c.tc : Thread Cert.AmaxRefIdeal.nD Cert.AmaxRefIdeal.τ).loc Cert.AmaxRefIdeal.main_arg0) = m' ((c.tc : Thread Cert.AmaxRefIdeal.nD Cert.AmaxRefIdeal.τ).loc Cert.AmaxRefIdeal.main_arg0))

def Claim : Prop :=
  ∃ (hDown : Cert.Down.Facts) (hDownIdeal : Cert.DownIdeal.Facts) (hDownRefIdeal : Cert.DownRefIdeal.Facts) (hGateup : Cert.Gateup.Facts) (hGateupIdeal : Cert.GateupIdeal.Facts) (hGateupRefIdeal : Cert.GateupRefIdeal.Facts) (hOproj : Cert.Oproj.Facts) (hOprojIdeal : Cert.OprojIdeal.Facts) (hOprojRefIdeal : Cert.OprojRefIdeal.Facts) (hQkv : Cert.Qkv.Facts) (hQkvIdeal : Cert.QkvIdeal.Facts) (hQkvRefIdeal : Cert.QkvRefIdeal.Facts) (hAmax : Cert.Amax.Facts) (hAmaxIdeal : Cert.AmaxIdeal.Facts) (hAmaxRefIdeal : Cert.AmaxRefIdeal.Facts),
    quiescent_Down (hDown := hDown)
    ∧ quiescent_DownIdeal (hDownIdeal := hDownIdeal)
    ∧ quiescent_DownRefIdeal (hDownRefIdeal := hDownRefIdeal)
    ∧ quiescent_Gateup (hGateup := hGateup)
    ∧ quiescent_GateupIdeal (hGateupIdeal := hGateupIdeal)
    ∧ quiescent_GateupRefIdeal (hGateupRefIdeal := hGateupRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Amax (hAmax := hAmax)
    ∧ quiescent_AmaxIdeal (hAmaxIdeal := hAmaxIdeal)
    ∧ quiescent_AmaxRefIdeal (hAmaxRefIdeal := hAmaxRefIdeal)
    ∧ preserves_Down_DownIdeal
    ∧ algebraic_DownIdeal_DownRefIdeal (hDownIdeal := hDownIdeal) (hDownRefIdeal := hDownRefIdeal)
    ∧ preserves_Gateup_GateupIdeal
    ∧ algebraic_GateupIdeal_GateupRefIdeal (hGateupIdeal := hGateupIdeal) (hGateupRefIdeal := hGateupRefIdeal)
    ∧ preserves_Oproj_OprojIdeal
    ∧ algebraic_OprojIdeal_OprojRefIdeal (hOprojIdeal := hOprojIdeal) (hOprojRefIdeal := hOprojRefIdeal)
    ∧ preserves_Qkv_QkvIdeal
    ∧ algebraic_QkvIdeal_QkvRefIdeal (hQkvIdeal := hQkvIdeal) (hQkvRefIdeal := hQkvRefIdeal)
    ∧ preserves_Amax_AmaxIdeal
    ∧ algebraic_AmaxIdeal_AmaxRefIdeal (hAmaxIdeal := hAmaxIdeal) (hAmaxRefIdeal := hAmaxRefIdeal)
-- ==== Down.lean ====
abbrev S21504x8192 : Shape := ⟨2, ![21504, 8192]⟩
abbrev S_ : Shape := ⟨0, ![]⟩
abbrev S21504x2048 : Shape := ⟨2, ![21504, 2048]⟩
abbrev S8192x2048 : Shape := ⟨2, ![8192, 2048]⟩
abbrev S2048 : Shape := ⟨1, ![2048]⟩
abbrev S1 : Shape := ⟨1, ![1]⟩
abbrev S2 : Shape := ⟨1, ![2]⟩
abbrev S1x2048 : Shape := ⟨2, ![1, 2048]⟩
abbrev S256x8192 : Shape := ⟨2, ![256, 8192]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 12
  | .smem => 1
  | _ => 0

abbrev bufTy : (tb : Table) → Fin (tcTables nBuf tb) → BufTy
  | .hbm, ⟨0, _⟩ => ⟨S21504x8192, .f32⟩
  | .hbm, ⟨1, _⟩ => ⟨S_, .f32⟩
  | .hbm, ⟨2, _⟩ => ⟨S21504x2048, .f32⟩
  | .hbm, ⟨3, _⟩ => ⟨S8192x2048, .fp8e4m3⟩
  | .hbm, ⟨4, _⟩ => ⟨S_, .f32⟩
  | .hbm, ⟨5, _⟩ => ⟨S2048, .f32⟩
  | .hbm, ⟨6, _⟩ => ⟨S1, .f32⟩
  | .hbm, ⟨7, _⟩ => ⟨S1, .f32⟩
  | .hbm, ⟨8, _⟩ => ⟨S2, .f32⟩
  | .hbm, ⟨9, _⟩ => ⟨S1x2048, .f32⟩
  | .hbm, ⟨10, _⟩ => ⟨S21504x8192, .fp8e4m3⟩
  | .hbm, ⟨11, _⟩ => ⟨S21504x2048, .bf16⟩
  | .hbm, ⟨12, _⟩ => ⟨S21504x2048, .bf16⟩
  | .local _ .vmem, ⟨0, _⟩ => ⟨S256x8192, .f32⟩
  | .local _ .vmem, ⟨1, _⟩ => ⟨S256x8192, .f32⟩
  | .local _ .vmem, ⟨2, _⟩ => ⟨S256x2048, .f32⟩
  | .local _ .vmem, ⟨3, _⟩ => ⟨S256x2048, .f32⟩
  | .local _ .vmem, ⟨4, _⟩ => ⟨S8192x2048, .fp8e4m3⟩
  | .local _ .vmem, ⟨5, _⟩ => ⟨S1x2048, .f32⟩
  | .local _ .vmem, ⟨6, _⟩ => ⟨S256x8192, .fp8e4m3⟩
  | .local _ .vmem, ⟨7, _⟩ => ⟨S256x8192, .fp8e4m3⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .smem, ⟨0, _⟩ => ⟨S2, .f32⟩
  | _, _ => ⟨S21504x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![84], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownRefIdeal.lean ====
abbrev S21504x8192 : Shape := ⟨2, ![21504, 8192]⟩
abbrev S_ : Shape := ⟨0, ![]⟩
abbrev S21504x2048 : Shape := ⟨2, ![21504, 2048]⟩
abbrev S8192x2048 : Shape := ⟨2, ![8192, 2048]⟩
abbrev S2048 : Shape := ⟨1, ![2048]⟩
abbrev S1 : Shape := ⟨1, ![1]⟩
abbrev S21504 : Shape := ⟨1, ![21504]⟩
abbrev S21504x1 : Shape := ⟨2, ![21504, 1]⟩
abbrev S1x2048 : Shape := ⟨2, ![1, 2048]⟩

abbrev nBuf : Space → Nat
  | .hbm => 31
  | .vmem => 4
  | .smem => 1
  | _ => 0

abbrev bufTy : (tb : Table) → Fin (tcTables nBuf tb) → BufTy
  | .hbm, ⟨0, _⟩ => ⟨S21504x8192, .f32⟩
  | .hbm, ⟨1, _⟩ => ⟨S_, .f32⟩
  | .hbm, ⟨2, _⟩ => ⟨S21504x2048, .f32⟩
  | .hbm, ⟨3, _⟩ => ⟨S8192x2048, .fp8e4m3⟩
  | .hbm, ⟨4, _⟩ => ⟨S_, .f32⟩
  | .hbm, ⟨5, _⟩ => ⟨S2048, .f32⟩
  | .hbm, ⟨6, _⟩ => ⟨S1, .f32⟩
  | .hbm, ⟨7, _⟩ => ⟨S21504x8192, .fp8e4m3⟩
  | .hbm, ⟨8, _⟩ => ⟨S21504x2048, .f32⟩
  | .hbm, ⟨9, _⟩ => ⟨S_, .f32⟩
  | .hbm, ⟨10, _⟩ => ⟨S21504x2048, .f32⟩
  | .hbm, ⟨11, _⟩ => ⟨S21504x2048, .f32⟩
  | .hbm, ⟨12, _⟩ => ⟨S21504x2048, .f32⟩
  | .hbm, ⟨13, _⟩ => ⟨S_, .f32⟩
  | .hbm, ⟨14, _⟩ => ⟨S21504, .f32⟩
  | .hbm, ⟨15, _⟩ => ⟨S21504x1, .f32⟩
  | .hbm, ⟨16, _⟩ => ⟨S_, .f32⟩
  | .hbm, ⟨17, _⟩ => ⟨S21504x1, .f32⟩
  | .hbm, ⟨18, _⟩ => ⟨S21504x1, .f32⟩
  | .hbm, ⟨19, _⟩ => ⟨S_, .f32⟩
  | .hbm, ⟨20, _⟩ => ⟨S21504x1, .f32⟩
  | .hbm, ⟨21, _⟩ => ⟨S21504x1, .f32⟩
  | .hbm, ⟨22, _⟩ => ⟨S21504x1, .f32⟩
  | .hbm, ⟨23, _⟩ => ⟨S21504x2048, .f32⟩
  | .hbm, ⟨24, _⟩ => ⟨S21504x2048, .f32⟩
  | .hbm, ⟨25, _⟩ => ⟨S1x2048, .f32⟩
  | .hbm, ⟨26, _⟩ => ⟨S21504x2048, .f32⟩
  | .hbm, ⟨27, _⟩ => ⟨S21504x2048, .f32⟩
  | .hbm, ⟨28, _⟩ => ⟨S21504x2048, .f32⟩
  | .hbm, ⟨29, _⟩ => ⟨S21504x2048, .bf16⟩
  | .hbm, ⟨30, _⟩ => ⟨S21504x2048, .bf16⟩
  | .local _ .vmem, ⟨0, _⟩ => ⟨S21504x8192, .f32⟩
  | .local _ .vmem, ⟨1, _⟩ => ⟨S8192x2048, .fp8e4m3⟩
  | .local _ .vmem, ⟨2, _⟩ => ⟨S21504x8192, .fp8e4m3⟩
  | .local _ .vmem, ⟨3, _⟩ => ⟨S21504x2048, .f32⟩
  | .local _ .smem, ⟨0, _⟩ => ⟨S1, .f32⟩
  | _, _ => ⟨S21504x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S21504x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S21504x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S21504x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Gateup.lean ====
abbrev S21504x2048 : Shape := ⟨2, ![21504, 2048]⟩
abbrev S_ : Shape := ⟨0, ![]⟩
abbrev S2048x2x8192 : Shape := ⟨3, ![2048, 2, 8192]⟩
abbrev S1 : Shape := ⟨1, ![1]⟩
abbrev S2 : Shape := ⟨1, ![2]⟩
abbrev S2x2048x8192 : Shape := ⟨3, ![2, 2048, 8192]⟩
abbrev S21504x8192 : Shape := ⟨2, ![21504, 8192]⟩
abbrev S8x128 : Shape := ⟨2, ![8, 128]⟩
abbrev S256x2048 : Shape := ⟨2, ![256, 2048]⟩
abbrev S256x8192 : Shape := ⟨2, ![256, 8192]⟩
abbrev S1x2048x256 : Shape := ⟨3, ![1, 2048, 256]⟩
abbrev S2048x256 : Shape := ⟨2, ![2048, 256]⟩
abbrev S256x256 : Shape := ⟨2, ![256, 256]⟩
abbrev S32x8x256 : Shape := ⟨3, ![32, 8, 256]⟩
abbrev S8x256 : Shape := ⟨2, ![8, 256]⟩

abbrev nBuf : Space → Nat
  | .hbm => 20
  | .vmem => 8
  | .smem => 1
  | _ => 0

abbrev bufTy : (tb : Table) → Fin (tcTables nBuf tb) → BufTy
  | .hbm, ⟨0, _⟩ => ⟨S21504x2048, .f32⟩
  | .hbm, ⟨1, _⟩ => ⟨S_, .f32⟩
  | .hbm, ⟨2, _⟩ => ⟨S2048x2x8192, .fp8e4m3⟩
  | .hbm, ⟨3, _⟩ => ⟨S_, .f32⟩
  | .hbm, ⟨4, _⟩ => ⟨S1, .f32⟩
  | .hbm, ⟨5, _⟩ => ⟨S1, .f32⟩
  | .hbm, ⟨6, _⟩ => ⟨S2, .f32⟩
  | .hbm, ⟨7, _⟩ => ⟨S2x2048x8192, .fp8e4m3⟩
  | .hbm, ⟨8, _⟩ => ⟨S21504x2048, .fp8e4m3⟩
  | .hbm, ⟨9, _⟩ => ⟨S21504x8192, .f32⟩
  | .hbm, ⟨10, _⟩ => ⟨S8x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S2x2048x8192, .fp8e4m3⟩
  | .local _ .vmem, ⟨3, _⟩ => ⟨S256x2048, .fp8e4m3⟩
  | .local _ .vmem, ⟨4, _⟩ => ⟨S256x2048, .fp8e4m3⟩
  | .local _ .vmem, ⟨5, _⟩ => ⟨S256x8192, .f32⟩
  | .local _ .vmem, ⟨6, _⟩ => ⟨S256x8192, .f32⟩
  | .local _ .vmem, ⟨7, _⟩ => ⟨S8x128, .f32⟩
  | .local _ .smem, ⟨0, _⟩ => ⟨S2, .f32⟩
  | _, _ => ⟨S21504x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_call0_v0 : Ref sig .tc := ⟨.hbm, 18, rfl⟩
abbrev main_v8 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![84], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateupRefIdeal.lean ====
abbrev S21504x2048 : Shape := ⟨2, ![21504, 2048]⟩
abbrev S_ : Shape := ⟨0, ![]⟩
abbrev S2048x2x8192 : Shape := ⟨3, ![2048, 2, 8192]⟩
abbrev S2048x16384 : Shape := ⟨2, ![2048, 16384]⟩
abbrev S1 : Shape := ⟨1, ![1]⟩
abbrev S21504x16384 : Shape := ⟨2, ![21504, 16384]⟩
abbrev S21504x2x8192 : Shape := ⟨3, ![21504, 2, 8192]⟩
abbrev S21504x1x8192 : Shape := ⟨3, ![21504, 1, 8192]⟩
abbrev S21504x8192 : Shape := ⟨2, ![21504, 8192]⟩

abbrev nBuf : Space → Nat
  | .hbm => 36
  | .vmem => 4
  | .smem => 1
  | _ => 0

abbrev bufTy : (tb : Table) → Fin (tcTables nBuf tb) → BufTy
  | .hbm, ⟨0, _⟩ => ⟨S21504x2048, .f32⟩
  | .hbm, ⟨1, _⟩ => ⟨S_, .f32⟩
  | .hbm, ⟨2, _⟩ => ⟨S2048x2x8192, .fp8e4m3⟩
  | .hbm, ⟨3, _⟩ => ⟨S_, .f32⟩
  | .hbm, ⟨4, _⟩ => ⟨S2048x16384, .fp8e4m3⟩
  | .hbm, ⟨5, _⟩ => ⟨S1, .f32⟩
  | .hbm, ⟨6, _⟩ => ⟨S21504x2048, .fp8e4m3⟩
  | .hbm, ⟨7, _⟩ => ⟨S21504x16384, .f32⟩
  | .hbm, ⟨8, _⟩ => ⟨S21504x2x8192, .f32⟩
  | .hbm, ⟨9, _⟩ => ⟨S_, .f32⟩
  | .hbm, ⟨10, _⟩ => ⟨S21504x2x8192, .f32⟩
  | .hbm, ⟨11, _⟩ => ⟨S21504x2x8192, .f32⟩
  | .hbm, ⟨12, _⟩ => ⟨S21504x1x8192, .f32⟩
  | .hbm, ⟨13, _⟩ => ⟨S21504x8192, .f32⟩
  | .hbm, ⟨14, _⟩ => ⟨S21504x8192, .f32⟩
  | .hbm, ⟨15, _⟩ => ⟨S21504x8192, .f32⟩
  | .hbm, ⟨16, _⟩ => ⟨S_, .f32⟩
  | .hbm, ⟨17, _⟩ => ⟨S21504x8192, .f32⟩
  | .hbm, ⟨18, _⟩ => ⟨S21504x8192, .f32⟩
  | .hbm, ⟨19, _⟩ => ⟨S_, .f32⟩
  | .hbm, ⟨20, _⟩ => ⟨S21504x8192, .f32⟩
  | .hbm, ⟨21, _⟩ => ⟨S21504x8192, .f32⟩
  | .hbm, ⟨22, _⟩ => ⟨S21504x8192, .f32⟩
  | .hbm, ⟨23, _⟩ => ⟨S21504x1x8192, .f32⟩
  | .hbm, ⟨24, _⟩ => ⟨S21504x8192, .f32⟩
  | .hbm, ⟨25, _⟩ => ⟨S21504x8192, .f32⟩
  | .hbm, ⟨26, _⟩ => ⟨S21504x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S21504x2048, .f32⟩
  | .local _ .vmem, ⟨1, _⟩ => ⟨S2048x16384, .fp8e4m3⟩
  | .local _ .vmem, ⟨2, _⟩ => ⟨S21504x2048, .fp8e4m3⟩
  | .local _ .vmem, ⟨3, _⟩ => ⟨S21504x16384, .f32⟩
  | .local _ .smem, ⟨0, _⟩ => ⟨S1, .f32⟩
  | _, _ => ⟨S21504x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_call1_v0 : Ref sig .tc := ⟨.hbm, 34, rfl⟩
abbrev main_v17 : Ref sig .tc := ⟨.hbm, 35, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S21504x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S21504x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S21504x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Oproj.lean ====
abbrev S21504x2048 : Shape := ⟨2, ![21504, 2048]⟩
abbrev S_ : Shape := ⟨0, ![]⟩
abbrev S3x7168x2048 : Shape := ⟨3, ![3, 7168, 2048]⟩
abbrev S16x128x2048 : Shape := ⟨3, ![16, 128, 2048]⟩
abbrev S2048 : Shape := ⟨1, ![2048]⟩
abbrev S1 : Shape := ⟨1, ![1]⟩
abbrev S2 : Shape := ⟨1, ![2]⟩
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩
abbrev S8x2048 : Shape := ⟨2, ![8, 2048]⟩

abbrev nBuf : Space → Nat
  | .hbm => 25
  | .vmem => 13
  | .smem => 1
  | _ => 0

abbrev bufTy : (tb : Table) → Fin (tcTables nBuf tb) → BufTy
  | .hbm, ⟨0, _⟩ => ⟨S21504x2048, .f32⟩
  | .hbm, ⟨1, _⟩ => ⟨S_, .f32⟩
  | .hbm, ⟨2, _⟩ => ⟨S3x7168x2048, .bf16⟩
  | .hbm, ⟨3, _⟩ => ⟨S16x128x2048, .fp8e4m3⟩
  | .hbm, ⟨4, _⟩ => ⟨S_, .f32⟩
  | .hbm, ⟨5, _⟩ => ⟨S2048, .f32⟩
  | .hbm, ⟨6, _⟩ => ⟨S1, .f32⟩
  | .hbm, ⟨7, _⟩ => ⟨S1, .f32⟩
  | .hbm, ⟨8, _⟩ => ⟨S2, .f32⟩
  | .hbm, ⟨9, _⟩ => ⟨S21504x2048, .bf16⟩
  | .hbm, ⟨10, _⟩ => ⟨S2048x2048, .fp8e4m3⟩
  | .hbm, ⟨11, _⟩ => ⟨S1x2048, .f32⟩
  | .hbm, ⟨12, _⟩ => ⟨S21504x2048, .fp8e4m3⟩
  | .hbm, ⟨13, _⟩ => ⟨S21504x2048, .bf16⟩
  | .hbm, ⟨14, _⟩ => ⟨S21504x2048, .f32⟩
  | .hbm, ⟨15, _⟩ => ⟨S8x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .fp8e4m3⟩
  | .local _ .vmem, ⟨5, _⟩ => ⟨S1x2048, .f32⟩
  | .local _ .vmem, ⟨6, _⟩ => ⟨S256x2048, .fp8e4m3⟩
  | .local _ .vmem, ⟨7, _⟩ => ⟨S256x2048, .fp8e4m3⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S8x128, .f32⟩
  | .local _ .smem, ⟨0, _⟩ => ⟨S2, .f32⟩
  | _, _ => ⟨S21504x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_cst_2 : Ref sig .tc := ⟨.hbm, 22, rfl⟩
abbrev main_call0_v0 : Ref sig .tc := ⟨.hbm, 23, rfl⟩
abbrev main_v10 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![84], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OprojRefIdeal.lean ====
abbrev S21504x2048 : Shape := ⟨2, ![21504, 2048]⟩
abbrev S_ : Shape := ⟨0, ![]⟩
abbrev S3x7168x2048 : Shape := ⟨3, ![3, 7168, 2048]⟩
abbrev S16x128x2048 : Shape := ⟨3, ![16, 128, 2048]⟩
abbrev S2048 : Shape := ⟨1, ![2048]⟩
abbrev S2048x2048 : Shape := ⟨2, ![2048, 2048]⟩
abbrev S1 : Shape := ⟨1, ![1]⟩
abbrev S21504 : Shape := ⟨1, ![21504]⟩
abbrev S21504x1 : Shape := ⟨2, ![21504, 1]⟩
abbrev S1x2048 : Shape := ⟨2, ![1, 2048]⟩

abbrev nBuf : Space → Nat
  | .hbm => 43
  | .vmem => 4
  | .smem => 1
  | _ => 0

abbrev bufTy : (tb : Table) → Fin (tcTables nBuf tb) → BufTy
  | .hbm, ⟨0, _⟩ => ⟨S21504x2048, .f32⟩
  | .hbm, ⟨1, _⟩ => ⟨S_, .f32⟩
  | .hbm, ⟨2, _⟩ => ⟨S3x7168x2048, .bf16⟩
  | .hbm, ⟨3, _⟩ => ⟨S16x128x2048, .fp8e4m3⟩
  | .hbm, ⟨4, _⟩ => ⟨S_, .f32⟩
  | .hbm, ⟨5, _⟩ => ⟨S2048, .f32⟩
  | .hbm, ⟨6, _⟩ => ⟨S21504x2048, .bf16⟩
  | .hbm, ⟨7, _⟩ => ⟨S21504x2048, .f32⟩
  | .hbm, ⟨8, _⟩ => ⟨S2048x2048, .fp8e4m3⟩
  | .hbm, ⟨9, _⟩ => ⟨S1, .f32⟩
  | .hbm, ⟨10, _⟩ => ⟨S21504x2048, .fp8e4m3⟩
  | .hbm, ⟨11, _⟩ => ⟨S21504x2048, .f32⟩
  | .hbm, ⟨12, _⟩ => ⟨S_, .f32⟩
  | .hbm, ⟨13, _⟩ => ⟨S21504x2048, .f32⟩
  | .hbm, ⟨14, _⟩ => ⟨S21504x2048, .f32⟩
  | .hbm, ⟨15, _⟩ => ⟨S21504x2048, .f32⟩
  | .hbm, ⟨16, _⟩ => ⟨S_, .f32⟩
  | .hbm, ⟨17, _⟩ => ⟨S21504, .f32⟩
  | .hbm, ⟨18, _⟩ => ⟨S21504x1, .f32⟩
  | .hbm, ⟨19, _⟩ => ⟨S_, .f32⟩
  | .hbm, ⟨20, _⟩ => ⟨S21504x1, .f32⟩
  | .hbm, ⟨21, _⟩ => ⟨S21504x1, .f32⟩
  | .hbm, ⟨22, _⟩ => ⟨S_, .f32⟩
  | .hbm, ⟨23, _⟩ => ⟨S21504x1, .f32⟩
  | .hbm, ⟨24, _⟩ => ⟨S21504x1, .f32⟩
  | .hbm, ⟨25, _⟩ => ⟨S21504x1, .f32⟩
  | .hbm, ⟨26, _⟩ => ⟨S21504x2048, .f32⟩
  | .hbm, ⟨27, _⟩ => ⟨S21504x2048, .f32⟩
  | .hbm, ⟨28, _⟩ => ⟨S1x2048, .f32⟩
  | .hbm, ⟨29, _⟩ => ⟨S21504x2048, .f32⟩
  | .hbm, ⟨30, _⟩ => ⟨S21504x2048, .f32⟩
  | .hbm, ⟨31, _⟩ => ⟨S21504x2048, .f32⟩
  | .hbm, ⟨32, _⟩ => ⟨S21504x2048, .bf16⟩
  | .hbm, ⟨33, _⟩ => ⟨S21504x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S21504x2048, .f32⟩
  | .local _ .vmem, ⟨1, _⟩ => ⟨S2048x2048, .fp8e4m3⟩
  | .local _ .vmem, ⟨2, _⟩ => ⟨S21504x2048, .fp8e4m3⟩
  | .local _ .vmem, ⟨3, _⟩ => ⟨S21504x2048, .f32⟩
  | .local _ .smem, ⟨0, _⟩ => ⟨S1, .f32⟩
  | _, _ => ⟨S21504x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_cst_5 : Ref sig .tc := ⟨.hbm, 40, rfl⟩
abbrev main_call0_v0 : Ref sig .tc := ⟨.hbm, 41, rfl⟩
abbrev main_v27 : Ref sig .tc := ⟨.hbm, 42, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S21504x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S21504x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S21504x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Qkv.lean ====
abbrev S3x7168x2048 : Shape := ⟨3, ![3, 7168, 2048]⟩
abbrev S_ : Shape := ⟨0, ![]⟩
abbrev S3x7168x64 : Shape := ⟨3, ![3, 7168, 64]⟩
abbrev S2048x6144 : Shape := ⟨2, ![2048, 6144]⟩
abbrev S16x128 : Shape := ⟨2, ![16, 128]⟩
abbrev S2048x2048 : Shape := ⟨2, ![2048, 2048]⟩
abbrev S2048x4096 : Shape := ⟨2, ![2048, 4096]⟩
abbrev S4096x2048 : Shape := ⟨2, ![4096, 2048]⟩
abbrev S2048x1 : Shape := ⟨2, ![2048, 1]⟩
abbrev S2048x128 : Shape := ⟨2, ![2048, 128]⟩
abbrev S1x2048 : Shape := ⟨2, ![1, 2048]⟩
abbrev S1 : Shape := ⟨1, ![1]⟩
abbrev S2 : Shape := ⟨1, ![2]⟩
abbrev S3x64x7168 : Shape := ⟨3, ![3, 64, 7168]⟩
abbrev S3x2048x7168 : Shape := ⟨3, ![3, 2048, 7168]⟩
abbrev S1x512x2048 : Shape := ⟨3, ![1, 512, 2048]⟩
abbrev S1x64x512 : Shape := ⟨3, ![1, 64, 512]⟩
abbrev S1x2048x512 : Shape := ⟨3, ![1, 2048, 512]⟩
abbrev S512x2048 : Shape := ⟨2, ![512, 2048]⟩
abbrev S64x512 : Shape := ⟨2, ![64, 512]⟩
abbrev S512x512 : Shape := ⟨2, ![512, 512]⟩
abbrev S128x512 : Shape := ⟨2, ![128, 512]⟩
abbrev S512 : Shape := ⟨1, ![512]⟩
abbrev S1x512 : Shape := ⟨2, ![1, 512]⟩
abbrev S128x128 : Shape := ⟨2, ![128, 128]⟩
abbrev S1x512x512 : Shape := ⟨3, ![1, 512, 512]⟩
abbrev S512x128 : Shape := ⟨2, ![512, 128]⟩
abbrev S2048x512 : Shape := ⟨2, ![2048, 512]⟩
abbrev S512x1 : Shape := ⟨2, ![512, 1]⟩
abbrev S1x128 : Shape := ⟨2, ![1, 128]⟩
abbrev S1x512x128 : Shape := ⟨3, ![1, 512, 128]⟩

abbrev nBuf : Space → Nat
  | .hbm => 25
  | .vmem => 18
  | .smem => 1
  | _ => 0

abbrev bufTy : (tb : Table) → Fin (tcTables nBuf tb) → BufTy
  | .hbm, ⟨0, _⟩ => ⟨S3x7168x2048, .bf16⟩
  | .hbm, ⟨1, _⟩ => ⟨S_, .f32⟩
  | .hbm, ⟨2, _⟩ => ⟨S3x7168x64, .f32⟩
  | .hbm, ⟨3, _⟩ => ⟨S3x7168x64, .f32⟩
  | .hbm, ⟨4, _⟩ => ⟨S2048x6144, .fp8e4m3⟩
  | .hbm, ⟨5, _⟩ => ⟨S_, .f32⟩
  | .hbm, ⟨6, _⟩ => ⟨S16x128, .f32⟩
  | .hbm, ⟨7, _⟩ => ⟨S16x128, .f32⟩
  | .hbm, ⟨8, _⟩ => ⟨S2048x2048, .fp8e4m3⟩
  | .hbm, ⟨9, _⟩ => ⟨S2048x2048, .fp8e4m3⟩
  | .hbm, ⟨10, _⟩ => ⟨S2048x2048, .fp8e4m3⟩
  | .hbm, ⟨11, _⟩ => ⟨S2048x4096, .fp8e4m3⟩
  | .hbm, ⟨12, _⟩ => ⟨S4096x2048, .fp8e4m3⟩
  | .hbm, ⟨13, _⟩ => ⟨S2048x1, .f32⟩
  | .hbm, ⟨14, _⟩ => ⟨S2048x128, .f32⟩
  | .hbm, ⟨15, _⟩ => ⟨S1x2048, .f32⟩
  | .hbm, ⟨16, _⟩ => ⟨S1, .f32⟩
  | .hbm, ⟨17, _⟩ => ⟨S1, .f32⟩
  | .hbm, ⟨18, _⟩ => ⟨S2, .f32⟩
  | .hbm, ⟨19, _⟩ => ⟨S3x64x7168, .f32⟩
  | .hbm, ⟨20, _⟩ => ⟨S3x64x7168, .f32⟩
  | .hbm, ⟨21, _⟩ => ⟨S3x7168x2048, .fp8e4m3⟩
  | .hbm, ⟨22, _⟩ => ⟨S3x2048x7168, .bf16⟩
  | .hbm, ⟨23, _⟩ => ⟨S3x7168x2048, .bf16⟩
  | .hbm, ⟨24, _⟩ => ⟨S3x2048x7168, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S4096x2048, .fp8e4m3⟩
  | .local _ .vmem, ⟨7, _⟩ => ⟨S2048x2048, .fp8e4m3⟩
  | .local _ .vmem, ⟨8, _⟩ => ⟨S2048x128, .f32⟩
  | .local _ .vmem, ⟨9, _⟩ => ⟨S1x2048, .f32⟩
  | .local _ .vmem, ⟨10, _⟩ => ⟨S1x512x2048, .fp8e4m3⟩
  | .local _ .vmem, ⟨11, _⟩ => ⟨S1x512x2048, .fp8e4m3⟩
  | .local _ .vmem, ⟨12, _⟩ => ⟨S1x2048x512, .bf16⟩
  | .local _ .vmem, ⟨13, _⟩ => ⟨S1x2048x512, .bf16⟩
  | .local _ .vmem, ⟨14, _⟩ => ⟨S1x512x2048, .bf16⟩
  | .local _ .vmem, ⟨15, _⟩ => ⟨S1x512x2048, .bf16⟩
  | .local _ .vmem, ⟨16, _⟩ => ⟨S1x2048x512, .bf16⟩
  | .local _ .vmem, ⟨17, _⟩ => ⟨S1x2048x512, .bf16⟩
  | .local _ .smem, ⟨0, _⟩ => ⟨S2, .f32⟩
  | _, _ => ⟨S3x7168x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![3, 14], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4096x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== QkvRefIdeal.lean ====
abbrev S3x7168x2048 : Shape := ⟨3, ![3, 7168, 2048]⟩
abbrev S_ : Shape := ⟨0, ![]⟩
abbrev S3x7168x64 : Shape := ⟨3, ![3, 7168, 64]⟩
abbrev S2048x6144 : Shape := ⟨2, ![2048, 6144]⟩
abbrev S16x128 : Shape := ⟨2, ![16, 128]⟩
abbrev S21504x2048 : Shape := ⟨2, ![21504, 2048]⟩
abbrev S1 : Shape := ⟨1, ![1]⟩
abbrev S21504x6144 : Shape := ⟨2, ![21504, 6144]⟩
abbrev S3x7168x6144 : Shape := ⟨3, ![3, 7168, 6144]⟩
abbrev S3x7168x16x128 : Shape := ⟨4, ![3, 7168, 16, 128]⟩
abbrev S3x7168x16 : Shape := ⟨3, ![3, 7168, 16]⟩
abbrev S3x7168x16x1 : Shape := ⟨4, ![3, 7168, 16, 1]⟩
abbrev S1x1x16x128 : Shape := ⟨4, ![1, 1, 16, 128]⟩
abbrev S3x7168x16x64 : Shape := ⟨4, ![3, 7168, 16, 64]⟩
abbrev S3x7168x1x64 : Shape := ⟨4, ![3, 7168, 1, 64]⟩
abbrev S3x2048x7168 : Shape := ⟨3, ![3, 2048, 7168]⟩

abbrev nBuf : Space → Nat
  | .hbm => 94
  | .vmem => 4
  | .smem => 1
  | _ => 0

abbrev bufTy : (tb : Table) → Fin (tcTables nBuf tb) → BufTy
  | .hbm, ⟨0, _⟩ => ⟨S3x7168x2048, .bf16⟩
  | .hbm, ⟨1, _⟩ => ⟨S_, .f32⟩
  | .hbm, ⟨2, _⟩ => ⟨S3x7168x64, .f32⟩
  | .hbm, ⟨3, _⟩ => ⟨S3x7168x64, .f32⟩
  | .hbm, ⟨4, _⟩ => ⟨S2048x6144, .fp8e4m3⟩
  | .hbm, ⟨5, _⟩ => ⟨S_, .f32⟩
  | .hbm, ⟨6, _⟩ => ⟨S16x128, .f32⟩
  | .hbm, ⟨7, _⟩ => ⟨S16x128, .f32⟩
  | .hbm, ⟨8, _⟩ => ⟨S21504x2048, .bf16⟩
  | .hbm, ⟨9, _⟩ => ⟨S21504x2048, .f32⟩
  | .hbm, ⟨10, _⟩ => ⟨S1, .f32⟩
  | .hbm, ⟨11, _⟩ => ⟨S21504x2048, .fp8e4m3⟩
  | .hbm, ⟨12, _⟩ => ⟨S21504x6144, .f32⟩
  | .hbm, ⟨13, _⟩ => ⟨S3x7168x6144, .f32⟩
  | .hbm, ⟨14, _⟩ => ⟨S_, .f32⟩
  | .hbm, ⟨15, _⟩ => ⟨S3x7168x6144, .f32⟩
  | .hbm, ⟨16, _⟩ => ⟨S3x7168x6144, .f32⟩
  | .hbm, ⟨17, _⟩ => ⟨S3x7168x2048, .f32⟩
  | .hbm, ⟨18, _⟩ => ⟨S3x7168x2048, .f32⟩
  | .hbm, ⟨19, _⟩ => ⟨S3x7168x2048, .f32⟩
  | .hbm, ⟨20, _⟩ => ⟨S3x7168x16x128, .f32⟩
  | .hbm, ⟨21, _⟩ => ⟨S3x7168x16x128, .f32⟩
  | .hbm, ⟨22, _⟩ => ⟨S3x7168x16x128, .f32⟩
  | .hbm, ⟨23, _⟩ => ⟨S3x7168x16x128, .f32⟩
  | .hbm, ⟨24, _⟩ => ⟨S_, .f32⟩
  | .hbm, ⟨25, _⟩ => ⟨S3x7168x16, .f32⟩
  | .hbm, ⟨26, _⟩ => ⟨S3x7168x16x1, .f32⟩
  | .hbm, ⟨27, _⟩ => ⟨S_, .f32⟩
  | .hbm, ⟨28, _⟩ => ⟨S3x7168x16x1, .f32⟩
  | .hbm, ⟨29, _⟩ => ⟨S3x7168x16x1, .f32⟩
  | .hbm, ⟨30, _⟩ => ⟨S_, .f32⟩
  | .hbm, ⟨31, _⟩ => ⟨S3x7168x16x1, .f32⟩
  | .hbm, ⟨32, _⟩ => ⟨S3x7168x16x1, .f32⟩
  | .hbm, ⟨33, _⟩ => ⟨S3x7168x16x1, .f32⟩
  | .hbm, ⟨34, _⟩ => ⟨S3x7168x16x128, .f32⟩
  | .hbm, ⟨35, _⟩ => ⟨S3x7168x16x128, .f32⟩
  | .hbm, ⟨36, _⟩ => ⟨S1x1x16x128, .f32⟩
  | .hbm, ⟨37, _⟩ => ⟨S3x7168x16x128, .f32⟩
  | .hbm, ⟨38, _⟩ => ⟨S3x7168x16x128, .f32⟩
  | .hbm, ⟨39, _⟩ => ⟨S3x7168x16x64, .f32⟩
  | .hbm, ⟨40, _⟩ => ⟨S3x7168x16x64, .f32⟩
  | .hbm, ⟨41, _⟩ => ⟨S3x7168x1x64, .f32⟩
  | .hbm, ⟨42, _⟩ => ⟨S3x7168x1x64, .f32⟩
  | .hbm, ⟨43, _⟩ => ⟨S3x7168x16x64, .f32⟩
  | .hbm, ⟨44, _⟩ => ⟨S3x7168x16x64, .f32⟩
  | .hbm, ⟨45, _⟩ => ⟨S3x7168x16x64, .f32⟩
  | .hbm, ⟨46, _⟩ => ⟨S3x7168x16x64, .f32⟩
  | .hbm, ⟨47, _⟩ => ⟨S3x7168x16x64, .f32⟩
  | .hbm, ⟨48, _⟩ => ⟨S3x7168x16x64, .f32⟩
  | .hbm, ⟨49, _⟩ => ⟨S3x7168x16x64, .f32⟩
  | .hbm, ⟨50, _⟩ => ⟨S3x7168x16x64, .f32⟩
  | .hbm, ⟨51, _⟩ => ⟨S3x7168x16x64, .f32⟩
  | .hbm, ⟨52, _⟩ => ⟨S3x7168x16x64, .f32⟩
  | .hbm, ⟨53, _⟩ => ⟨S3x7168x16x128, .f32⟩
  | .hbm, ⟨54, _⟩ => ⟨S3x7168x16x128, .bf16⟩
  | .hbm, ⟨55, _⟩ => ⟨S3x7168x16x128, .f32⟩
  | .hbm, ⟨56, _⟩ => ⟨S_, .f32⟩
  | .hbm, ⟨57, _⟩ => ⟨S3x7168x16, .f32⟩
  | .hbm, ⟨58, _⟩ => ⟨S3x7168x16x1, .f32⟩
  | .hbm, ⟨59, _⟩ => ⟨S_, .f32⟩
  | .hbm, ⟨60, _⟩ => ⟨S3x7168x16x1, .f32⟩
  | .hbm, ⟨61, _⟩ => ⟨S3x7168x16x1, .f32⟩
  | .hbm, ⟨62, _⟩ => ⟨S_, .f32⟩
  | .hbm, ⟨63, _⟩ => ⟨S3x7168x16x1, .f32⟩
  | .hbm, ⟨64, _⟩ => ⟨S3x7168x16x1, .f32⟩
  | .hbm, ⟨65, _⟩ => ⟨S3x7168x16x1, .f32⟩
  | .hbm, ⟨66, _⟩ => ⟨S3x7168x16x128, .f32⟩
  | .hbm, ⟨67, _⟩ => ⟨S3x7168x16x128, .f32⟩
  | .hbm, ⟨68, _⟩ => ⟨S1x1x16x128, .f32⟩
  | .hbm, ⟨69, _⟩ => ⟨S3x7168x16x128, .f32⟩
  | .hbm, ⟨70, _⟩ => ⟨S3x7168x16x128, .f32⟩
  | .hbm, ⟨71, _⟩ => ⟨S3x7168x16x64, .f32⟩
  | .hbm, ⟨72, _⟩ => ⟨S3x7168x16x64, .f32⟩
  | .hbm, ⟨73, _⟩ => ⟨S3x7168x1x64, .f32⟩
  | .hbm, ⟨74, _⟩ => ⟨S3x7168x1x64, .f32⟩
  | .hbm, ⟨75, _⟩ => ⟨S3x7168x16x64, .f32⟩
  | .hbm, ⟨76, _⟩ => ⟨S3x7168x16x64, .f32⟩
  | .hbm, ⟨77, _⟩ => ⟨S3x7168x16x64, .f32⟩
  | .hbm, ⟨78, _⟩ => ⟨S3x7168x16x64, .f32⟩
  | .hbm, ⟨79, _⟩ => ⟨S3x7168x16x64, .f32⟩
  | .hbm, ⟨80, _⟩ => ⟨S3x7168x16x64, .f32⟩
  | .hbm, ⟨81, _⟩ => ⟨S3x7168x16x64, .f32⟩
  | .hbm, ⟨82, _⟩ => ⟨S3x7168x16x64, .f32⟩
  | .hbm, ⟨83, _⟩ => ⟨S3x7168x16x64, .f32⟩
  | .hbm, ⟨84, _⟩ => ⟨S3x7168x16x64, .f32⟩
  | .hbm, ⟨85, _⟩ => ⟨S3x7168x16x128, .f32⟩
  | .hbm, ⟨86, _⟩ => ⟨S3x7168x16x128, .bf16⟩
  | .hbm, ⟨87, _⟩ => ⟨S3x7168x16x128, .bf16⟩
  | .hbm, ⟨88, _⟩ => ⟨S3x7168x2048, .fp8e4m3⟩
  | .hbm, ⟨89, _⟩ => ⟨S3x7168x2048, .bf16⟩
  | .hbm, ⟨90, _⟩ => ⟨S3x2048x7168, .bf16⟩
  | .hbm, ⟨91, _⟩ => ⟨S3x7168x2048, .bf16⟩
  | .hbm, ⟨92, _⟩ => ⟨S3x7168x2048, .bf16⟩
  | .hbm, ⟨93, _⟩ => ⟨S3x2048x7168, .bf16⟩
  | .local _ .vmem, ⟨0, _⟩ => ⟨S21504x2048, .f32⟩
  | .local _ .vmem, ⟨1, _⟩ => ⟨S2048x6144, .fp8e4m3⟩
  | .local _ .vmem, ⟨2, _⟩ => ⟨S21504x2048, .fp8e4m3⟩
  | .local _ .vmem, ⟨3, _⟩ => ⟨S21504x6144, .f32⟩
  | .local _ .smem, ⟨0, _⟩ => ⟨S1, .f32⟩
  | _, _ => ⟨S3x7168x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_2 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S21504x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S21504x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S21504x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Amax.lean ====
abbrev S3x7168x2048 : Shape := ⟨3, ![3, 7168, 2048]⟩
abbrev S21504x2048 : Shape := ⟨2, ![21504, 2048]⟩
abbrev S8x128 : Shape := ⟨2, ![8, 128]⟩
abbrev S1024x2048 : Shape := ⟨2, ![1024, 2048]⟩
abbrev S128x8x2048 : Shape := ⟨3, ![128, 8, 2048]⟩
abbrev S8x2048 : Shape := ⟨2, ![8, 2048]⟩
abbrev S_ : Shape := ⟨0, ![]⟩

abbrev nBuf : Space → Nat
  | .hbm => 12
  | .vmem => 3
  | .smem => 0
  | _ => 0

abbrev bufTy : (tb : Table) → Fin (tcTables nBuf tb) → BufTy
  | .hbm, ⟨0, _⟩ => ⟨S3x7168x2048, .bf16⟩
  | .hbm, ⟨1, _⟩ => ⟨S21504x2048, .bf16⟩
  | .hbm, ⟨2, _⟩ => ⟨S8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S8x128, .f32⟩
  | _, _ => ⟨S3x7168x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_call0_v0 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== AmaxRefIdeal.lean ====
abbrev S3x7168x2048 : Shape := ⟨3, ![3, 7168, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S3x7168x2048, .bf16⟩
  | .hbm, ⟨1, _⟩ => ⟨S3x7168x2048, .f32⟩
  | .hbm, ⟨2, _⟩ => ⟨S3x7168x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S3x7168x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Math.lean ====
/-
  The scalar facts every call's value proof uses, over the extended reals: the quantiser's clamp of a quotient, and the
  root-mean-square norm, where multiplying by the reciprocal of the root is dividing by the root because the root of a
  mean of squares plus a positive number is never zero.
-/
module

public import Idealize.ShloMosaic.PureOps.Ideal.Laws
public import Idealize.ShloMosaic.Lib.Pointwise

@[expose] public section

noncomputable section

namespace Cert.Proof.Math

open Idealize.ShloMosaic

/-- A block coordinate at block index zero. -/
theorem at_zero {a n k : Nat} (h : a = 0) : a * n + k = k := by rw [h, Nat.zero_mul, Nat.zero_add]
/-- A block coordinate at a known block index. -/
theorem at_idx {a b n k : Nat} (h : a = b) : a * n + k = b * n + k := by rw [h]

/-- The quantiser on one element: the quotient by the scale, clamped to the largest finite code on either side. -/
def quant (v s : EReal) : EReal :=
  min (Ideal.ofBits .f32 0x43E00000#32) (max (Ideal.ofBits .f32 0xC3E00000#32) (Ideal.div v s))

/-- The norm's small constant. -/
def eps : EReal := Ideal.ofBits .f32 0x358637BD#32

theorem eps_pos : 0 < eps := by
  unfold eps
  simp [Ideal.ofBits, Ideal.ieee, ← EReal.coe_mul]
  try norm_num

theorem one_f32 : Ideal.ofBits .f32 0x3F800000#32 = 1 := by
  simp [Ideal.ofBits, Ideal.ieee, ← EReal.coe_mul]
  try norm_num
theorem one_bf16 : Ideal.ofBits .bf16 0x3F80#16 = 1 := by
  simp [Ideal.ofBits, Ideal.ieee, ← EReal.coe_mul]
  try norm_num

theorem n2048_pos : 0 < Ideal.ofBits .f32 0x45000000#32 := by
  simp [Ideal.ofBits, Ideal.ieee, ← EReal.coe_mul]
  try norm_num
theorem n128_pos : 0 < Ideal.ofBits .f32 0x43000000#32 := by
  simp [Ideal.ofBits, Ideal.ieee, ← EReal.coe_mul]
  try norm_num

theorem mul_self_nonneg' (x : EReal) : 0 ≤ x * x := by
  rcases le_total 0 x with h | h
  · exact EReal.mul_nonneg_iff.mpr (.inl ⟨h, h⟩)
  · exact EReal.mul_nonneg_iff.mpr (.inr ⟨h, h⟩)

theorem sum_sq_nonneg {ι : Type*} (s : Finset ι) (f : ι → EReal) : 0 ≤ ∑ k ∈ s, f k * f k :=
  Finset.sum_nonneg fun k _ => mul_self_nonneg' _

theorem div_nonneg' {x n : EReal} (hx : 0 ≤ x) (hn : 0 < n) : 0 ≤ Ideal.div x n := by
  unfold Ideal.div
  rw [if_neg hn.ne']
  exact EReal.mul_nonneg_iff.mpr (.inl ⟨hx, EReal.inv_nonneg_of_nonneg hn.le⟩)

theorem sqrt_ne_zero {x : EReal} (hx : 0 < x) : Ideal.sqrt x ≠ 0 := by
  induction x with
  | bot => simp at hx
  | top => exact EReal.top_ne_zero
  | coe r =>
    have hr : 0 < r := by exact_mod_cast hx
    show (if r < 0 then ⊥ else (Real.sqrt r : EReal)) ≠ 0
    rw [if_neg (not_lt.mpr hr.le)]
    exact_mod_cast (Real.sqrt_pos.mpr hr).ne'

/-- Multiplying by the reciprocal root is dividing by the root. -/
theorem mul_recip_root (d ss n : EReal) (hs : 0 ≤ ss) (hn : 0 < n) :
    d * Ideal.div 1 (Ideal.sqrt (Ideal.div ss n + eps)) = Ideal.div d (Ideal.sqrt (Ideal.div ss n + eps)) := by
  have h : 0 < Ideal.div ss n + eps := lt_of_lt_of_le eps_pos (le_add_of_nonneg_left (div_nonneg' hs hn))
  have h0 := sqrt_ne_zero h
  unfold Ideal.div at h0 ⊢
  rw [if_neg h0, if_neg h0, one_mul]

/-- One element of a quantised product: a row of codes times a column of weights. -/
def qdot {K : Nat} (v : Fin K → EReal) (s : EReal) (w : Fin K → EReal) : EReal := ∑ k : Fin K, quant (v k) s * w k

/-- One element of the root-mean-square norm of a row. -/
def rms {N : Nat} (n : EReal) (d : Fin N → EReal) (w : EReal) (j : Fin N) : EReal :=
  Ideal.div (d j) (Ideal.sqrt (Ideal.div (∑ k : Fin N, d k * d k) n + eps)) * w

/-- The kernels multiply by the reciprocal root. -/
theorem rms_eq {N : Nat} (n : EReal) (hn : 0 < n) (d : Fin N → EReal) (w : EReal) (j : Fin N) :
    d j * Ideal.div 1 (Ideal.sqrt (Ideal.div (∑ k : Fin N, d k * d k) n + eps)) * w = rms n d w j := by
  unfold rms; rw [mul_recip_root _ _ _ (sum_sq_nonneg _ _) hn]

end Cert.Proof.Math

end
-- ==== Proof.DownKernel.lean ====
/-
  The down projection's kernel: what its 84 row blocks leave in the three result arrays, as functions of the arguments.
-/
module

public import proofs.«01_k».proof.Proof.Math
public import proofs.«01_k».proof.Proof.Gen.DownIdeal.Value
public import Idealize.ShloMosaic.Lib.Pipeline.Value
public import Idealize.ShloMosaic.Lib.UnfoldOut

@[expose] public section

set_option maxRecDepth 16384

noncomputable section

namespace Cert.DownIdeal.Hand

open Cert.DownIdeal Cert.DownIdeal.Gen Idealize.ShloMosaic Idealize.ShloMosaic.TcCoe Idealize.SL.Sem
open Idealize.ShloMosaic.Pipeline (Dat)
open Idealize.ShloMosaic.Pointwise
open Cert.Proof.Math

section Blocks

variable {F : FTy → Type} [FloatOps F]
variable (m : (ℓ : Loc nD τ sig) → Buf (Elt F) ℓ)

/-- The whole-array windows' one block starts at the array's origin. -/
theorem index0_0 : ∀ (t : Fin cfg0.N) (a : Fin win0_0.shape.rank), win0_0.index t a = 0 :=
  (by decide +kernel : ∀ (t : Fin grid0.N) (a : Fin win0_0.shape.rank), win0_0.index t a = 0)
theorem index0_3 : ∀ (t : Fin cfg0.N) (a : Fin win0_3.shape.rank), win0_3.index t a = 0 :=
  (by decide +kernel : ∀ (t : Fin grid0.N) (a : Fin win0_3.shape.rank), win0_3.index t a = 0)
theorem index0_4 : ∀ (t : Fin cfg0.N) (a : Fin win0_4.shape.rank), win0_4.index t a = 0 :=
  (by decide +kernel : ∀ (t : Fin grid0.N) (a : Fin win0_4.shape.rank), win0_4.index t a = 0)

/-- A row window's block at point `t` is row block `t`. -/
theorem index0_1 : ∀ t : Fin cfg0.N, win0_1.index t 0 = t.val ∧ win0_1.index t 1 = 0 :=
  (by decide +kernel : ∀ t : Fin grid0.N, win0_1.index t 0 = t.val ∧ win0_1.index t 1 = 0)
theorem index0_2 : ∀ t : Fin cfg0.N, win0_2.index t 0 = t.val ∧ win0_2.index t 1 = 0 :=
  (by decide +kernel : ∀ t : Fin grid0.N, win0_2.index t 0 = t.val ∧ win0_2.index t 1 = 0)
theorem index0_5 : ∀ t : Fin cfg0.N, win0_5.index t 0 = t.val ∧ win0_5.index t 1 = 0 :=
  (by decide +kernel : ∀ t : Fin grid0.N, win0_5.index t 0 = t.val ∧ win0_5.index t 1 = 0)
theorem index0_6 : ∀ t : Fin cfg0.N, win0_6.index t 0 = t.val ∧ win0_6.index t 1 = 0 :=
  (by decide +kernel : ∀ t : Fin grid0.N, win0_6.index t 0 = t.val ∧ win0_6.index t 1 = 0)
theorem index0_7 : ∀ t : Fin cfg0.N, win0_7.index t 0 = t.val ∧ win0_7.index t 1 = 0 :=
  (by decide +kernel : ∀ t : Fin grid0.N, win0_7.index t 0 = t.val ∧ win0_7.index t 1 = 0)

/-- Row `r` of row block `t`, as a row of the array. -/
abbrev row (t : Fin cfg0.N) (r : Fin 256) : Fin 21504 :=
  ⟨t.val * 256 + r.val, by have h : t.val < grid0.N := t.isLt; rw [N_0] at h; omega⟩

theorem emb_1 (t : Fin cfg0.N) (r : Fin 256) (k : Fin 8192) : (win0_1.rect t).emb (ix2 r k) = ix2 (row t r) k :=
  funext fun a => Fin.ext (by
    rw [win0_1.rect_emb_val t _ a rfl]
    match a with
    | ⟨0, _⟩ => exact at_idx (index0_1 t).1
    | ⟨1, _⟩ => exact at_zero (index0_1 t).2)
theorem emb_2 (t : Fin cfg0.N) (r : Fin 256) (k : Fin 2048) : (win0_2.rect t).emb (ix2 r k) = ix2 (row t r) k :=
  funext fun a => Fin.ext (by
    rw [win0_2.rect_emb_val t _ a rfl]
    match a with
    | ⟨0, _⟩ => exact at_idx (index0_2 t).1
    | ⟨1, _⟩ => exact at_zero (index0_2 t).2)
theorem emb_5 (t : Fin cfg0.N) (r : Fin 256) (k : Fin 8192) : (win0_5.rect t).emb (ix2 r k) = ix2 (row t r) k :=
  funext fun a => Fin.ext (by
    rw [win0_5.rect_emb_val t _ a rfl]
    match a with
    | ⟨0, _⟩ => exact at_idx (index0_5 t).1
    | ⟨1, _⟩ => exact at_zero (index0_5 t).2)
theorem emb_6 (t : Fin cfg0.N) (r : Fin 256) (k : Fin 2048) : (win0_6.rect t).emb (ix2 r k) = ix2 (row t r) k :=
  funext fun a => Fin.ext (by
    rw [win0_6.rect_emb_val t _ a rfl]
    match a with
    | ⟨0, _⟩ => exact at_idx (index0_6 t).1
    | ⟨1, _⟩ => exact at_zero (index0_6 t).2)
theorem emb_7 (t : Fin cfg0.N) (r : Fin 256) (k : Fin 2048) : (win0_7.rect t).emb (ix2 r k) = ix2 (row t r) k :=
  funext fun a => Fin.ext (by
    rw [win0_7.rect_emb_val t _ a rfl]
    match a with
    | ⟨0, _⟩ => exact at_idx (index0_7 t).1
    | ⟨1, _⟩ => exact at_zero (index0_7 t).2)

theorem iblk_0 (c : Dev nD) (t : Fin cfg0.N) : iblk m c 0 t = V m c main_v2 :=
  funext fun y => congrArg (V m c main_v2) (funext fun a => Fin.ext (win0_0.rect_emb_val_of_index_zero t a (index0_0 t a) y))
theorem iblk_1 (c : Dev nD) (t : Fin cfg0.N) (r : Fin 256) (k : Fin 8192) :
    (iblk m c 1 t : S256x8192.Idx → Elt F .f32) (ix2 r k) = m ((c.tc : Thread nD τ).loc main_arg0) (ix2 (row t r) k) :=
  (congrArg (V m c main_arg0) (emb_1 t r k)).trans (congrFun (V_main_arg0 m c) _)
theorem iblk_2 (c : Dev nD) (t : Fin cfg0.N) (r : Fin 256) (k : Fin 2048) :
    (iblk m c 2 t : S256x2048.Idx → Elt F .f32) (ix2 r k) = m ((c.tc : Thread nD τ).loc main_arg2) (ix2 (row t r) k) :=
  (congrArg (V m c main_arg2) (emb_2 t r k)).trans (congrFun (V_main_arg2 m c) _)
theorem iblk_3 (c : Dev nD) (t : Fin cfg0.N) : iblk m c 3 t = m ((c.tc : Thread nD τ).loc main_arg3) :=
  (funext fun y => congrArg (V m c main_arg3) (funext fun a => Fin.ext (win0_3.rect_emb_val_of_index_zero t a (index0_3 t a) y))).trans (V_main_arg3 m c)
theorem iblk_4 (c : Dev nD) (t : Fin cfg0.N) : iblk m c 4 t = V m c main_v3 :=
  funext fun y => congrArg (V m c main_v3) (funext fun a => Fin.ext (win0_4.rect_emb_val_of_index_zero t a (index0_4 t a) y))

/-- Every row is in some row block. -/
theorem row_surj (i : Fin 21504) : ∃ (t : Fin cfg0.N) (r : Fin 256), row t r = i := by
  refine ⟨⟨i.val / 256, by show i.val / 256 < grid0.N; rw [N_0]; omega⟩, ⟨i.val % 256, by omega⟩, Fin.ext ?_⟩
  show i.val / 256 * 256 + i.val % 256 = i.val
  omega

theorem cover_5 (i : S21504x8192.Idx) : ∃ t : Fin cfg0.N, (cfg0.win 5).flush t = true ∧ i ∈ ((cfg0.win 5).blk t).view.set := by
  obtain ⟨t, r, h⟩ := row_surj (i 0)
  refine ⟨t, flush0_5 t, ?_⟩
  have hm := ((cfg0.win 5).blk t).view.emb_mem_set (ix2 r (i 1) : S256x8192.Idx)
  have e : ((cfg0.win 5).blk t).view.emb (ix2 r (i 1) : S256x8192.Idx) = i := by
    refine (emb_5 t r (i 1)).trans ?_
    rw [h]; exact (eq_ix2 i).symm
  rwa [e] at hm
theorem cover_6 (i : S21504x2048.Idx) : ∃ t : Fin cfg0.N, (cfg0.win 6).flush t = true ∧ i ∈ ((cfg0.win 6).blk t).view.set := by
  obtain ⟨t, r, h⟩ := row_surj (i 0)
  refine ⟨t, flush0_6 t, ?_⟩
  have hm := ((cfg0.win 6).blk t).view.emb_mem_set (ix2 r (i 1) : S256x2048.Idx)
  have e : ((cfg0.win 6).blk t).view.emb (ix2 r (i 1) : S256x2048.Idx) = i := by
    refine (emb_6 t r (i 1)).trans ?_
    rw [h]; exact (eq_ix2 i).symm
  rwa [e] at hm
theorem cover_7 (i : S21504x2048.Idx) : ∃ t : Fin cfg0.N, (cfg0.win 7).flush t = true ∧ i ∈ ((cfg0.win 7).blk t).view.set := by
  obtain ⟨t, r, h⟩ := row_surj (i 0)
  refine ⟨t, flush0_7 t, ?_⟩
  have hm := ((cfg0.win 7).blk t).view.emb_mem_set (ix2 r (i 1) : S256x2048.Idx)
  have e : ((cfg0.win 7).blk t).view.emb (ix2 r (i 1) : S256x2048.Idx) = i := by
    refine (emb_7 t r (i 1)).trans ?_
    rw [h]; exact (eq_ix2 i).symm
  rwa [e] at hm

theorem hz2 : (![0, 0] : Fin 2 → Nat) = fun _ => 0 := funext fun a => by fin_cases a <;> rfl

/-- The two scales, read from their array. -/
abbrev word0 (x : Vec F S2 .f32) : F .f32 := x (ix1 0)
abbrev word1 (x : Vec F S2 .f32) : F .f32 := x (ix1 1)

theorem ld_word0 (x : Vec F S2 .f32) (h) (y) : View.ld x (Rect.unit (s := S2) ![0] ![1] h) y = word0 x := by
  refine congrArg x (funext fun a => Fin.ext ?_)
  match a with
  | ⟨0, _⟩ => have : (y 0 : Nat) < 1 := (y 0).isLt
              show 0 + 1 * (y 0 : Nat) = 0
              omega
theorem ld_word1 (x : Vec F S2 .f32) (h) (y) : View.ld x (Rect.unit (s := S2) ![1] ![1] h) y = word1 x := by
  refine congrArg x (funext fun a => Fin.ext ?_)
  match a with
  | ⟨0, _⟩ => have : (y 0 : Nat) < 1 := (y 0).isLt
              show 1 + 1 * (y 0 : Nat) = 1
              omega

/-- The codes block the body stores. -/
theorem outs_5 (c : Dev nD) (t : Fin cfg0.N) :
    (outsAt0 m c t).1 = k0_pay2 (iblk m c 1 t) (word0 (iblk m c 0 t)) := by
  unfold outsAt0 out0_A_5
  dsimp only
  rw [View.read_writes_eq_canon _ _ _ (cover0_A_5 c _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero hz2]
  repeat first | rw [View.ld_unit_zero hz2] | rw [ld_word0] | rw [ld_word1]

/-- The product block the body stores. -/
theorem outs_6 (c : Dev nD) (t : Fin cfg0.N) :
    (outsAt0 m c t).2.1 = k0_pay4 (k0_pay2 (iblk m c 1 t) (word0 (iblk m c 0 t))) (iblk m c 3 t) (word0 (iblk m c 0 t)) (word1 (iblk m c 0 t)) := by
  unfold outsAt0 out0_A_6
  dsimp only
  rw [View.read_writes_eq_canon _ _ _ (cover0_A_6 c _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero hz2]
  repeat first | rw [View.ld_unit_zero hz2] | rw [ld_word0] | rw [ld_word1] | rw [View.readCov_unit_zero _ hz2]

/-- The layer output block the body stores. -/
theorem outs_7 (c : Dev nD) (t : Fin cfg0.N) :
    (outsAt0 m c t).2.2 = k0_pay1 (iblk m c 2 t) (k0_pay5 (k0_pay2 (iblk m c 1 t) (word0 (iblk m c 0 t))) (iblk m c 3 t) (word0 (iblk m c 0 t)) (word1 (iblk m c 0 t))) (iblk m c 4 t) := by
  unfold outsAt0 out0_A_7
  dsimp only
  rw [View.read_writes_eq_canon _ _ _ (cover0_A_7 c _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero hz2]
  repeat first | rw [View.ld_unit_zero hz2] | rw [ld_word0] | rw [ld_word1] | rw [View.readCov_unit_zero _ hz2]

theorem V_main_v2 (c : Dev nD) : V m c main_v2 = concatenate S2 0 [⟨S1, broadcastInDim S1 ![] bcast_S_S1 (m ((c.tc : Thread nD τ).loc main_arg1))⟩, ⟨S1, broadcastInDim S1 ![] bcast_S_S1 (m ((c.tc : Thread nD τ).loc main_arg4))⟩] concatenates_S1_S1_S2_d0 := by
  show StableHlo.after hostOps0 _ _ = _
  after_results
  try rfl
theorem V_main_v3 (c : Dev nD) : V m c main_v3 = shapeCast S1x2048 (m ((c.tc : Thread nD τ).loc main_arg5)) shapeCasts_S2048_S1x2048 := by
  show StableHlo.after hostOps0 _ _ = _
  after_results
  try rfl

theorem scale_0 (c : Dev nD) (t : Fin cfg0.N) : word0 (iblk m c 0 t) = m ((c.tc : Thread nD τ).loc main_arg1) ix0 := by
  rw [iblk_0, V_main_v2]; unfold word0
  pointwise
theorem scale_1 (c : Dev nD) (t : Fin cfg0.N) : word1 (iblk m c 0 t) = m ((c.tc : Thread nD τ).loc main_arg4) ix0 := by
  rw [iblk_0, V_main_v2]; unfold word1
  pointwise
theorem normw (c : Dev nD) (t : Fin cfg0.N) (k : Fin 2048) :
    (iblk m c 4 t : S1x2048.Idx → Elt F .f32) (ix2 0 k) = m ((c.tc : Thread nD τ).loc main_arg5) (ix1 k) := by
  rw [iblk_4, V_main_v3]
  pointwise

end Blocks

/-! ## At the extended reals, element by element -/

section AtIdeal

variable (m : (ℓ : Loc nD τ sig) → Buf (Elt Ideal) ℓ)

/-- The arguments, as arrays of extended reals. -/
abbrev act (c : Dev nD) : S21504x8192.Idx → EReal := m ((c.tc : Thread nD τ).loc main_arg0)
abbrev actScale (c : Dev nD) : EReal := m ((c.tc : Thread nD τ).loc main_arg1) ix0
abbrev resid (c : Dev nD) : S21504x2048.Idx → EReal := m ((c.tc : Thread nD τ).loc main_arg2)
abbrev wts (c : Dev nD) : S8192x2048.Idx → EReal := m ((c.tc : Thread nD τ).loc main_arg3)
abbrev wScale (c : Dev nD) : EReal := m ((c.tc : Thread nD τ).loc main_arg4) ix0
abbrev normW (c : Dev nD) : S2048.Idx → EReal := m ((c.tc : Thread nD τ).loc main_arg5)

/-- The codes of the gated activations. -/
def codes (c : Dev nD) : S21504x8192.Idx → EReal := fun i => quant (act m c i) (actScale m c)
/-- The rescaled product. -/
def downAt (c : Dev nD) (i : Fin 21504) (j : Fin 2048) : EReal :=
  qdot (fun k => act m c (ix2 i k)) (actScale m c) (fun k => wts m c (ix2 k j)) * (actScale m c * wScale m c)
def down (c : Dev nD) : S21504x2048.Idx → EReal := fun i => downAt m c (i 0) (i 1)
/-- The layer's output: the residual plus the norm of the product's row. -/
def out (c : Dev nD) : S21504x2048.Idx → EReal := fun i =>
  resid m c i + rms (Ideal.ofBits .f32 0x45000000#32) (downAt m c (i 0)) (normW m c (ix1 (i 1))) (i 1)

theorem pay2_apply (v : FVec Ideal S256x8192 .f32) (s : Ideal .f32) (r : Fin 256) (k : Fin 8192) :
    k0_pay2 (F := Ideal) v s (ix2 r k) = quant (v (ix2 r k)) s := by
  pointwise [k0_pay2, quant]

theorem pay3_apply (v : FVec Ideal S256x8192 .fp8e4m3) (w : FVec Ideal S8192x2048 .fp8e4m3) (s t : Ideal .f32) (r : Fin 256) (j : Fin 2048) :
    k0_pay3 (F := Ideal) v w s t (ix2 r j) = (∑ k : Fin 8192, v (ix2 r k) * w (ix2 k j)) * (s * t) := by
  pointwise [k0_pay3]

theorem pay5_apply (v : FVec Ideal S256x8192 .fp8e4m3) (w : FVec Ideal S8192x2048 .fp8e4m3) (s t : Ideal .f32) (x : FVec Ideal S256x2048 .f32)
    (nw : FVec Ideal S1x2048 .f32) (r : Fin 256) (j : Fin 2048) :
    k0_pay1 (F := Ideal) x (k0_pay5 v w s t) nw (ix2 r j)
      = x (ix2 r j) + rms (Ideal.ofBits .f32 0x45000000#32) (fun j => k0_pay3 (F := Ideal) v w s t (ix2 r j)) (nw (ix2 0 j)) j := by
  rw [← rms_eq _ n2048_pos]
  unfold eps
  rw [← one_f32]
  generalize hd : k0_pay3 (F := Ideal) v w s t = d
  pointwise [k0_pay1, k0_pay5, hd]

theorem down_blk (c : Dev nD) (t : Fin cfg0.N) (r : Fin 256) (j : Fin 2048) :
    k0_pay3 (F := Ideal) (k0_pay2 (iblk m c 1 t) (word0 (iblk m c 0 t))) (iblk m c 3 t) (word0 (iblk m c 0 t)) (word1 (iblk m c 0 t)) (ix2 r j)
      = downAt m c (row t r) j := by
  rw [pay3_apply, scale_0, scale_1, iblk_3]
  unfold downAt qdot
  refine congrArg (· * (actScale m c * wScale m c)) (Finset.sum_congr rfl fun k _ => ?_)
  rw [pay2_apply, iblk_1]

/-- The codes' array after the run. -/
theorem codes_eq (c : Dev nD) : (dats m 0 c).arrAt 5 cfg0.N = codes m c := by
  refine (dats m 0 c).arrAt_eq_of_cover 5 _ (fun t _ => ?_) cover_5
  rw [Value.flushed5]
  funext (y : S256x8192.Idx)
  obtain ⟨r, k, rfl⟩ : ∃ r k, y = ix2 r k := ⟨y 0, y 1, eq_ix2 y⟩
  refine Eq.trans (congrFun (outs_5 m c t) (ix2 r k)) ?_
  refine Eq.trans ?_ (congrArg (codes m c) (emb_5 t r k)).symm
  rw [pay2_apply, iblk_1, scale_0]
  rfl

/-- The rescaled product's array after the run. -/
theorem down_eq (c : Dev nD) : (dats m 0 c).arrAt 6 cfg0.N = down m c := by
  refine (dats m 0 c).arrAt_eq_of_cover 6 _ (fun t _ => ?_) cover_6
  rw [Value.flushed6]
  funext (y : S256x2048.Idx)
  obtain ⟨r, k, rfl⟩ : ∃ r k, y = ix2 r k := ⟨y 0, y 1, eq_ix2 y⟩
  refine Eq.trans (congrFun (outs_6 m c t) (ix2 r k)) ?_
  refine Eq.trans ?_ (congrArg (down m c) (emb_6 t r k)).symm
  exact down_blk m c t r k

/-- The layer output's array after the run. -/
theorem out_eq (c : Dev nD) : (dats m 0 c).arrAt 7 cfg0.N = out m c := by
  refine (dats m 0 c).arrAt_eq_of_cover 7 _ (fun t _ => ?_) cover_7
  rw [Value.flushed7]
  funext (y : S256x2048.Idx)
  obtain ⟨r, k, rfl⟩ : ∃ r k, y = ix2 r k := ⟨y 0, y 1, eq_ix2 y⟩
  refine Eq.trans (congrFun (outs_7 m c t) (ix2 r k)) ?_
  refine Eq.trans ?_ (congrArg (out m c) (emb_7 t r k)).symm
  rw [pay5_apply, iblk_2, normw]
  simp only [down_blk]
  rfl

end AtIdeal

end Cert.DownIdeal.Hand

end
-- ==== Proof.DownRef.lean ====
/-
  The reference of the down projection: what its one gridless kernel leaves in its two result arrays, as functions of
  the arguments.
-/
module

public import proofs.«01_k».proof.Proof.Math
public import proofs.«01_k».proof.Proof.Gen.DownRefIdeal.Run
public import proofs.«01_k».proof.Proof.Gen.DownRefIdeal.Read
public import Idealize.ShloMosaic.Lib.Pipeline.Value
public import Idealize.ShloMosaic.Lib.UnfoldOut

@[expose] public section

set_option maxRecDepth 16384

noncomputable section

namespace Cert.DownRefIdeal.Hand

open Cert.DownRefIdeal Cert.DownRefIdeal.Gen Idealize.ShloMosaic Idealize.ShloMosaic.TcCoe Idealize.SL.Sem
open Idealize.ShloMosaic.Pipeline (Dat)
open Idealize.ShloMosaic.Pointwise

variable {F : FTy → Type} [FloatOps F]
variable (m : (ℓ : Loc nD τ sig) → Buf (Elt F) ℓ)

/-- Every window's one block starts at the array's origin. -/
theorem index0_0 : ∀ (t : Fin cfg0.N) (a : Fin win0_0.shape.rank), win0_0.index t a = 0 :=
  (by decide +kernel : ∀ (t : Fin grid0.N) (a : Fin win0_0.shape.rank), win0_0.index t a = 0)
theorem index0_1 : ∀ (t : Fin cfg0.N) (a : Fin win0_1.shape.rank), win0_1.index t a = 0 :=
  (by decide +kernel : ∀ (t : Fin grid0.N) (a : Fin win0_1.shape.rank), win0_1.index t a = 0)
theorem index0_2 : ∀ (t : Fin cfg0.N) (a : Fin win0_2.shape.rank), win0_2.index t a = 0 :=
  (by decide +kernel : ∀ (t : Fin grid0.N) (a : Fin win0_2.shape.rank), win0_2.index t a = 0)
theorem index0_3 : ∀ (t : Fin cfg0.N) (a : Fin win0_3.shape.rank), win0_3.index t a = 0 :=
  (by decide +kernel : ∀ (t : Fin grid0.N) (a : Fin win0_3.shape.rank), win0_3.index t a = 0)
theorem index0_4 : ∀ (t : Fin cfg0.N) (a : Fin win0_4.shape.rank), win0_4.index t a = 0 :=
  (by decide +kernel : ∀ (t : Fin grid0.N) (a : Fin win0_4.shape.rank), win0_4.index t a = 0)

/-- So each input block is its whole array. -/
theorem iblk_0 (c : Dev nD) (t : Fin cfg0.N) : iblk m c 0 t = V m c main_arg0 :=
  funext fun y => congrArg (V m c main_arg0) (funext fun a => Fin.ext (win0_0.rect_emb_val_of_index_zero t a (index0_0 t a) y))
theorem iblk_1 (c : Dev nD) (t : Fin cfg0.N) : iblk m c 1 t = V m c main_v0 :=
  funext fun y => congrArg (V m c main_v0) (funext fun a => Fin.ext (win0_1.rect_emb_val_of_index_zero t a (index0_1 t a) y))
theorem iblk_2 (c : Dev nD) (t : Fin cfg0.N) : iblk m c 2 t = V m c main_arg3 :=
  funext fun y => congrArg (V m c main_arg3) (funext fun a => Fin.ext (win0_2.rect_emb_val_of_index_zero t a (index0_2 t a) y))

/-- and reading a whole array through an output's one block is the array. -/
theorem read_3 (t : Fin cfg0.N) (G : S21504x8192.Idx → Elt F .fp8e4m3) : (win0_3.blk t).view.read (Elt F) G = G :=
  funext fun y => congrArg G (funext fun a => Fin.ext (win0_3.rect_emb_val_of_index_zero t a (index0_3 t a) y))
theorem read_4 (t : Fin cfg0.N) (G : S21504x2048.Idx → Elt F .f32) : (win0_4.blk t).view.read (Elt F) G = G :=
  funext fun y => congrArg G (funext fun a => Fin.ext (win0_4.rect_emb_val_of_index_zero t a (index0_4 t a) y))

theorem cover_3 (i : S21504x8192.Idx) : ∃ t : Fin cfg0.N, (cfg0.win 3).flush t = true ∧ i ∈ ((cfg0.win 3).blk t).view.set := by
  refine ⟨⟨0, by show 0 < grid0.N; rw [N_0]; exact Nat.one_pos⟩, flush0_3 _, ?_⟩
  generalize (⟨0, by show 0 < grid0.N; rw [N_0]; exact Nat.one_pos⟩ : Fin cfg0.N) = t
  have h := ((cfg0.win 3).blk t).view.emb_mem_set i
  have e : ((cfg0.win 3).blk t).view.emb i = i :=
    funext fun a => Fin.ext (win0_3.rect_emb_val_of_index_zero t a (index0_3 t a) i)
  rwa [e] at h
theorem cover_4 (i : S21504x2048.Idx) : ∃ t : Fin cfg0.N, (cfg0.win 4).flush t = true ∧ i ∈ ((cfg0.win 4).blk t).view.set := by
  refine ⟨⟨0, by show 0 < grid0.N; rw [N_0]; exact Nat.one_pos⟩, flush0_4 _, ?_⟩
  generalize (⟨0, by show 0 < grid0.N; rw [N_0]; exact Nat.one_pos⟩ : Fin cfg0.N) = t
  have h := ((cfg0.win 4).blk t).view.emb_mem_set i
  have e : ((cfg0.win 4).blk t).view.emb i = i :=
    funext fun a => Fin.ext (win0_4.rect_emb_val_of_index_zero t a (index0_4 t a) i)
  rwa [e] at h

theorem hz2 : (![0, 0] : Fin 2 → Nat) = fun _ => 0 := funext fun a => by fin_cases a <;> rfl
theorem hz1 : (![0] : Fin 1 → Nat) = fun _ => 0 := funext fun a => by fin_cases a <;> rfl

/-- The scale, read from its one-word array. -/
abbrev scaleWord (x : Vec F S1 .f32) : F .f32 := x (ix1 0)

/-- What the kernel leaves in the codes' staging buffer is its quantising payload of the input blocks. -/
theorem outs_3 (c : Dev nD) (t : Fin cfg0.N) :
    (outsAt0 m c t).1 = k0_pay1 (iblk m c 0 t) (scaleWord (iblk m c 1 t)) := by
  unfold outsAt0 out0_A_3
  dsimp only
  rw [View.read_writes_eq_canon _ _ _ (cover0_A_3 c _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero hz2, View.ld_unit_zero hz2, View.ld_unit_zero hz1]
  exact congrArg (k0_pay1 (iblk m c 0 t)) (congrArg (iblk m c 1 t) (eq_ix1 _))

/-- and in the product's, its product payload. -/
theorem outs_4 (c : Dev nD) (t : Fin cfg0.N) :
    (outsAt0 m c t).2 = k0_pay2 (iblk m c 0 t) (scaleWord (iblk m c 1 t)) (iblk m c 2 t) := by
  unfold outsAt0 out0_A_4
  dsimp only
  rw [View.read_writes_eq_canon _ _ _ (cover0_A_4 c _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero hz2]
  repeat first | rw [View.ld_unit_zero hz2] | rw [View.ld_unit_zero hz1]
  exact congrArg (fun w => k0_pay2 (iblk m c 0 t) w (iblk m c 2 t)) (congrArg (iblk m c 1 t) (eq_ix1 _))

theorem V_main_v0 (c : Dev nD) : V m c main_v0 = shapeCast S1 (m ((c.tc : Thread nD τ).loc main_arg1)) shapeCasts_S_S1 := by
  show StableHlo.after hostOps0 _ _ = _
  after_results
  try rfl

/-- The codes' array after the region. -/
theorem codes_eq (c : Dev nD) :
    Value.reg_main_v1_0 m c = k0_pay1 (m ((c.tc : Thread nD τ).loc main_arg0)) (m ((c.tc : Thread nD τ).loc main_arg1) ix0) := by
  refine (dats m 0 c).arrAt_eq_of_cover 3 _ (fun t _ => ?_) cover_3
  rw [read_3]
  show (cfg0.win 3).cut (grid0.coords t) ((dats m 0 c).after 3 t) = _
  rw [after0_3, outs_3, iblk_0, iblk_1, V_main_arg0, V_main_v0]
  exact congrArg (k0_pay1 _) (by pointwise)

/-- The product's array after the region. -/
theorem prod_eq (c : Dev nD) :
    Value.reg_main_v1_1 m c = k0_pay2 (m ((c.tc : Thread nD τ).loc main_arg0)) (m ((c.tc : Thread nD τ).loc main_arg1) ix0) (m ((c.tc : Thread nD τ).loc main_arg3)) := by
  refine (dats m 0 c).arrAt_eq_of_cover 4 _ (fun t _ => ?_) cover_4
  rw [read_4]
  show (cfg0.win 4).cut (grid0.coords t) ((dats m 0 c).after 4 t) = _
  rw [after0_4, outs_4, iblk_0, iblk_1, iblk_2, V_main_arg0, V_main_v0, V_main_arg3]
  exact congrArg (fun w => k0_pay2 _ w _) (by pointwise)

/-! ## At the extended reals, element by element -/

section AtIdeal

/-- The quantising payload at an index. -/
theorem pay1_apply (v : FVec Ideal S21504x8192 .f32) (s : Ideal .f32) (i : Fin 21504) (k : Fin 8192) :
    k0_pay1 (F := Ideal) v s (ix2 i k) = Cert.Proof.Math.quant (v (ix2 i k)) s := by
  pointwise [k0_pay1, Cert.Proof.Math.quant]

/-- The product payload at an index. -/
theorem pay2_apply (v : FVec Ideal S21504x8192 .f32) (s : Ideal .f32) (w : FVec Ideal S8192x2048 .fp8e4m3) (i : Fin 21504) (j : Fin 2048) :
    k0_pay2 (F := Ideal) v s w (ix2 i j) = ∑ k : Fin 8192, Cert.Proof.Math.quant (v (ix2 i k)) s * w (ix2 k j) := by
  pointwise [k0_pay2, k0_pay1, Cert.Proof.Math.quant]

end AtIdeal

end Cert.DownRefIdeal.Hand

end
-- ==== Proof.DownClaim.lean ====
/-
  The down projection: from arguments that agree, the kernel's three result arrays and the reference's are equal as
  extended reals.
-/
module

public import proofs.«01_k».proof.Defs
public import proofs.«01_k».proof.Proof.DownKernel
public import proofs.«01_k».proof.Proof.DownRef

@[expose] public section

set_option maxRecDepth 16384

noncomputable section

namespace Cert.Proof.DownClaim

open Idealize.ShloMosaic Idealize.ShloMosaic.TcCoe Idealize.SL.Sem
open Idealize.ShloMosaic.Pointwise
open Cert.Proof.Math
open Cert.DownRefIdeal (S21504x2048 S21504x8192)

section Ref
open Cert.DownRefIdeal Cert.DownRefIdeal.Gen Cert.DownRefIdeal.Read

/-- The reference's product rescaled, at an element. -/
theorem ref_down (x1 x4 : FVec Ideal S_ .f32) (r : FVec Ideal S21504x2048 .f32) (i : Fin 21504) (j : Fin 2048) :
    val_main_v4 (F := Ideal) x1 x4 r (ix2 i j) = r (ix2 i j) * (x1 ix0 * x4 ix0) := by
  pointwise [val_main_v4, val_main_v3, val_main_v2]

/-- The reference's layer output, at an element. -/
theorem ref_out (x1 x4 : FVec Ideal S_ .f32) (x2 r : FVec Ideal S21504x2048 .f32) (x5 : FVec Ideal S2048 .f32) (i : Fin 21504) (j : Fin 2048) :
    val_main_v19 (F := Ideal) x1 x2 x4 x5 r (ix2 i j)
      = x2 (ix2 i j) + rms (Ideal.ofBits .f32 0x45000000#32) (fun j => val_main_v4 (F := Ideal) x1 x4 r (ix2 i j)) (x5 (ix1 j)) j := by
  unfold rms eps
  generalize hd : val_main_v4 (F := Ideal) x1 x4 r = d
  pointwise [val_main_v19, val_main_v18, val_main_v17, val_main_v16, val_main_v15, val_main_v14, val_main_v13, val_main_v12, val_main_v11,
    val_main_v10, val_main_v9, val_main_v8, val_main_v7, val_main_v6, val_main_v5, val_main_cst, val_main_cst_0, val_main_cst_1, hd]

end Ref

/-- The claim. -/
theorem algebraic [h : Cert.DownIdeal.Facts] [h' : Cert.DownRefIdeal.Facts] : Cert.algebraic_DownIdeal_DownRefIdeal := by
  intro m g m' g' _ hagree
  refine ⟨fun c => DownIdeal.Hand.codes m c, fun c => DownIdeal.Hand.down m c, fun c => DownIdeal.Hand.out m c, ?_, ?_⟩
  · refine (θ_run Cert.DownIdeal.defs _ _).mono (fun _ h c => ?_) (Cert.DownIdeal.Value.run_blocks (F := Ideal) m g)
    obtain ⟨h0, h1, h2, hrest⟩ := h c
    exact ⟨h0.trans (DownIdeal.Hand.codes_eq m c), h1.trans (DownIdeal.Hand.down_eq m c), h2.trans (DownIdeal.Hand.out_eq m c), hrest⟩
  · refine (θ_run Cert.DownRefIdeal.defs _ _).mono (fun _ h c => ?_) (Cert.DownRefIdeal.Value.run (F := Ideal) m' g')
    obtain ⟨h0, h1, h2, hrest⟩ := h c
    obtain ⟨e0, e1, e2, e3, e4, e5⟩ := hagree c
    have hd : ∀ (i : Fin 21504) (j : Fin 2048), DownRefIdeal.Read.val_main_v4 (F := Ideal) (m' ((c.tc : Thread Cert.DownRefIdeal.nD Cert.DownRefIdeal.τ).loc Cert.DownRefIdeal.main_arg1)) (m' ((c.tc : Thread Cert.DownRefIdeal.nD Cert.DownRefIdeal.τ).loc Cert.DownRefIdeal.main_arg4)) (DownRefIdeal.Value.reg_main_v1_1 m' c) (ix2 i j)
        = DownIdeal.Hand.downAt m c i j := by
      intro i j
      rw [ref_down, DownRefIdeal.Hand.prod_eq, DownRefIdeal.Hand.pay2_apply, e0, e1, e3, e4]
      rfl
    refine ⟨h0.trans ?_, h1.trans ?_, h2.trans ?_, hrest⟩
    · funext (y : S21504x8192.Idx)
      obtain ⟨i, k, rfl⟩ : ∃ i k, y = ix2 i k := ⟨y 0, y 1, eq_ix2 y⟩
      rw [DownRefIdeal.Hand.codes_eq, DownRefIdeal.Hand.pay1_apply, e0, e1]
      rfl
    · funext (y : S21504x2048.Idx)
      obtain ⟨i, j, rfl⟩ : ∃ i j, y = ix2 i j := ⟨y 0, y 1, eq_ix2 y⟩
      exact hd i j
    · funext (y : S21504x2048.Idx)
      obtain ⟨i, j, rfl⟩ : ∃ i j, y = ix2 i j := ⟨y 0, y 1, eq_ix2 y⟩
      refine (ref_out _ _ _ _ _ i j).trans ?_
      simp only [hd, e2, e5]
      rfl

end Cert.Proof.DownClaim

end
-- ==== Proof.GateupFrame.lean ====
/-
  The gate and up projections: the 84 row blocks run one after the other. Each stores its codes, its activations in 32
  column chunks, and joins the maximum of its activations onto what the block before left in the one maximum buffer;
  the first block starts from zero, whatever the buffer held.
-/
module

public import proofs.«01_k».proof.Proof.Gen.Gateup.Skeleton
public import proofs.«01_k».proof.Proof.Gen.Gateup.Frame
public import Idealize.ShloMosaic.Lib.Pipeline.Value
public import Idealize.ShloMosaic.Lib.UnfoldOut
public import Idealize.ShloMosaic.Lib.Claim
public import Idealize.ShloMosaic.Lib.Pointwise

@[expose] public section

set_option maxRecDepth 65536

noncomputable section

namespace Cert.Gateup.Hand

open Cert.Gateup Cert.Gateup.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A buffer stored to whole, once, holds what was stored. -/
theorem read_stored {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- The two scales, read from their array. -/
abbrev word0 (x : Vec F S2 .f32) : F .f32 := x (ix1 0)
abbrev word1 (x : Vec F S2 .f32) : F .f32 := x (ix1 1)

theorem ld_word0 (x : Vec F S2 .f32) (h) (y) : View.ld x (Rect.unit (s := S2) ![0] ![1] h) y = word0 x := by
  refine congrArg x (funext fun a => Fin.ext ?_)
  match a with
  | ⟨0, _⟩ => have : (y 0 : Nat) < 1 := (y 0).isLt
              show 0 + 1 * (y 0 : Nat) = 0
              omega
theorem ld_word1 (x : Vec F S2 .f32) (h) (y) : View.ld x (Rect.unit (s := S2) ![1] ![1] h) y = word1 x := by
  refine congrArg x (funext fun a => Fin.ext ?_)
  match a with
  | ⟨0, _⟩ => have : (y 0 : Nat) < 1 := (y 0).isLt
              show 1 + 1 * (y 0 : Nat) = 1
              omega

/-! ## One column chunk -/

/-- The codes against one chunk of a weight, by the scales. -/
def prodT (v : FVec F S256x2048 .fp8e4m3) (sc : F .f32) (w : Vec F S1x2048x256 .fp8e4m3) : FVec F S256x256 .f32 :=
  mulf (matmul dot_S256x2048_S2048x256_S256x256_1_0_0_1_n_n none v (shapeCast S2048x256 w shapeCasts_S1x2048x256_S2048x256)
    (constant S256x256 .f32 0x00000000#32)) (broadcast S256x256 sc)

/-- The activations of one chunk. -/
def actT (v : FVec F S256x2048 .fp8e4m3) (sc : F .f32) (w0 w1 : Vec F S1x2048x256 .fp8e4m3) : FVec F S256x256 .f32 :=
  mulf (mulf (prodT v sc w0) (logistic (prodT v sc w0))) (prodT v sc w1)

/-- The maximum of a chunk's magnitudes, joined onto `a`. -/
def foldT (a : FVec F S8x128 .f32) (x : FVec F S256x256 .f32) : FVec F S8x128 .f32 :=
  maximumf a (maximumf
    (extractStridedSlice S8x128 ![0, 0] (multiReduction .maximumf [0] S8x256 (shapeCast S32x8x256 (absf x) shapeCasts_S256x256_S32x8x256) 0xFF800000#32 reduces_S32x8x256_S8x256 (.inl rfl) rfl) slices_S8x256_o0_0_S8x128)
    (extractStridedSlice S8x128 ![0, 128] (multiReduction .maximumf [0] S8x256 (shapeCast S32x8x256 (absf x) shapeCasts_S256x256_S32x8x256) 0xFF800000#32 reduces_S32x8x256_S8x256 (.inl rfl) rfl) slices_S8x256_o0_128_S8x128))

theorem inbW (e : Fin 2) (k : Fin 32) : ∀ a, (![e.val, 0, 256 * k.val] : Fin 3 → Nat) a + S1x2048x256.size a ≤ S2x2048x8192.size a := by
  intro a
  match a with
  | ⟨0, _⟩ => show e.val + 1 ≤ 2; omega
  | ⟨1, _⟩ => show 0 + 2048 ≤ 2048; omega
  | ⟨2, _⟩ => show 256 * k.val + 256 ≤ 8192; omega

theorem inbA (k : Fin 32) : ∀ a, (![0, 256 * k.val] : Fin 2 → Nat) a + S256x256.size a ≤ S256x8192.size a := by
  intro a
  match a with
  | ⟨0, _⟩ => show 0 + 256 ≤ 256; omega
  | ⟨1, _⟩ => show 256 * k.val + 256 ≤ 8192; omega

/-- Chunk `k` of the gate (`e = 0`) or up (`e = 1`) weight. -/
def chunk (W : Vec F S2x2048x8192 .fp8e4m3) (e : Fin 2) (k : Fin 32) : Vec F S1x2048x256 .fp8e4m3 :=
  View.ld W (Rect.unit (s := S2x2048x8192) ![e.val, 0, 256 * k.val] S1x2048x256.size (inbW e k))

/-- The activations of chunk `k`. -/
def actK (v : FVec F S256x2048 .fp8e4m3) (sc : F .f32) (W : Vec F S2x2048x8192 .fp8e4m3) (k : Fin 32) : FVec F S256x256 .f32 :=
  actT v sc (chunk W 0 k) (chunk W 1 k)

/-- A row block's codes, and the product of the two scales. -/
def codesB (x0 : Vec F S2 .f32) (x1 : Vec F S256x2048 .f32) : Vec F S256x2048 .fp8e4m3 := k0_pay3 x1 (word0 x0)
def scB (x0 : Vec F S2 .f32) : F .f32 := k0_pay5 (word0 x0) (word1 x0)

/-- The chunks, first to last. -/
def chunks : List (Fin 32) := [0, 1, 2, 3, 4, 5, 6, 7, 8, 9, 10, 11, 12, 13, 14, 15, 16, 17, 18, 19, 20, 21, 22, 23, 24, 25, 26, 27, 28, 29, 30, 31]

theorem mem_chunks : ∀ k : Fin 32, k ∈ chunks := by decide

/-- The store of chunk `k`. -/
def pieceK (v : FVec F S256x2048 .fp8e4m3) (sc : F .f32) (W : Vec F S2x2048x8192 .fp8e4m3) (k : Fin 32) : View.Piece (Elt F) S256x8192 .f32 :=
  ⟨Rect.unit (s := S256x8192) ![0, 256 * k.val] S256x256.size (inbA k), actK v sc W k⟩

/-- A row block's activations: column `j` is column `j % 256` of chunk `j / 256`. -/
def actB (v : FVec F S256x2048 .fp8e4m3) (sc : F .f32) (W : Vec F S2x2048x8192 .fp8e4m3) : Vec F S256x8192 .f32 := fun y =>
  actK v sc W ⟨(y 1).val / 256, by have : (y 1).val < 8192 := (y 1).isLt; omega⟩
    (fun a => match a with
      | ⟨0, _⟩ => ⟨(y 0).val, (y 0).isLt⟩
      | ⟨1, _⟩ => ⟨(y 1).val % 256, Nat.mod_lt _ (by omega)⟩)

/-- The maximum of a row block's activations, joined onto `a` chunk by chunk. -/
def maxB (v : FVec F S256x2048 .fp8e4m3) (sc : F .f32) (W : Vec F S2x2048x8192 .fp8e4m3) (a : FVec F S8x128 .f32) : FVec F S8x128 .f32 :=
  chunks.foldl (fun a k => foldT a (actK v sc W k)) a

theorem piece_emb (v : FVec F S256x2048 .fp8e4m3) (sc : F .f32) (W : Vec F S2x2048x8192 .fp8e4m3) (k : Fin 32)
    (x : (pieceK v sc W k).1.shape.Idx) : (pieceK v sc W k).2 x = actB v sc W ((pieceK v sc W k).1.emb x) := by
  have h1 : (x 1).val < 256 := (x 1).isLt
  have e1 : ((pieceK v sc W k).1.emb x 1).val = 256 * k.val + (x 1).val := by
    show 256 * k.val + 1 * (x 1).val = _; omega
  have e0 : ((pieceK v sc W k).1.emb x 0).val = (x 0).val := by
    show 0 + 1 * (x 0).val = _; omega
  unfold actB
  have hk : ∀ h, (⟨((pieceK v sc W k).1.emb x 1).val / 256, h⟩ : Fin 32) = k := fun h => Fin.ext (by
    show ((pieceK v sc W k).1.emb x 1).val / 256 = k.val; omega)
  rw [hk]
  refine congrArg (actK v sc W k) (funext fun a => Fin.ext ?_)
  match a with
  | ⟨0, _⟩ => exact e0.symm
  | ⟨1, _⟩ => show (x 1).val = ((pieceK v sc W k).1.emb x 1).val % 256; rw [e1]; omega

theorem piece_cover (v : FVec F S256x2048 .fp8e4m3) (sc : F .f32) (W : Vec F S2x2048x8192 .fp8e4m3) (y : S256x8192.Idx) :
    ∃ p ∈ chunks.reverse.map (pieceK v sc W), y ∈ p.1.set := by
  have h1 : (y 1).val < 8192 := (y 1).isLt
  have h0 : (y 0).val < 256 := (y 0).isLt
  refine ⟨pieceK v sc W ⟨(y 1).val / 256, by omega⟩, List.mem_map.mpr ⟨_, List.mem_reverse.mpr (mem_chunks _), rfl⟩, ?_⟩
  refine (Rect.mem_set_unit (s := S256x8192) (inb := inbA ⟨(y 1).val / 256, by omega⟩)).mpr fun a => ?_
  match a with
  | ⟨0, _⟩ => exact ⟨Nat.zero_le _, by show (y 0).val < 0 + 256; omega⟩
  | ⟨1, _⟩ => exact ⟨by show 256 * ((y 1).val / 256) ≤ (y 1).val; omega, by show (y 1).val < 256 * ((y 1).val / 256) + 256; omega⟩

/-- The 32 chunk stores leave a row block's activations. -/
theorem read_chunks (v : FVec F S256x2048 .fp8e4m3) (sc : F .f32) (W : Vec F S2x2048x8192 .fp8e4m3) {κ : Kind} {sp : Space}
    (u : View sig κ sp S256x8192 .f32) (f : u.ty.Contents (Elt F)) :
    u.read (Elt F) (u.writes (Elt F) f (chunks.reverse.map (pieceK v sc W))) = actB v sc W := by
  rw [View.read_writes_eq_canon _ _ _ (piece_cover v sc W)]
  funext y
  refine View.canon_apply_of_pieces (actB v sc W) _ (fun p hp x => ?_) y (piece_cover v sc W y)
  obtain ⟨k, -, rfl⟩ := List.mem_map.mp hp
  exact piece_emb v sc W k x

/-! ## One run of the body -/

set_option maxHeartbeats 4000000 in
/-- One run of the body: the three inputs are left as they were, the codes and the activations are the block's own, and
    the maximum buffer goes from `x5` to the block's maximum joined onto `x5` (onto zero at the first block). -/
theorem body_run (c : Dev nD) (i : grid0.Coords)
    (arg1 : Memref sig .tc .smem S2 .f32) (harg1 : arg1.IsWhole) (arg2 : Memref sig .tc .vmem S256x2048 .f32) (harg2 : arg2.IsWhole)
    (arg3 : Memref sig .tc .vmem S2x2048x8192 .fp8e4m3) (harg3 : arg3.IsWhole) (arg4 : Memref sig .tc .vmem S256x2048 .fp8e4m3) (harg4 : arg4.IsWhole)
    (arg5 : Memref sig .tc .vmem S256x8192 .f32) (harg5 : arg5.IsWhole) (arg6 : Memref sig .tc .vmem S8x128 .f32) (harg6 : arg6.IsWhole)
    (x0 : Vec F S2 .f32) (x1 : Vec F S256x2048 .f32) (x2 : Vec F S2x2048x8192 .fp8e4m3) (x3 : Vec F S256x2048 .fp8e4m3)
    (x4 : Vec F S256x8192 .f32) (x5 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (iprop(owns (c : Thread nD τ) arg1 fullShare x0 ∗ owns (c : Thread nD τ) arg2 fullShare x1 ∗ owns (c : Thread nD τ) arg3 fullShare x2
          ∗ owns (c : Thread nD τ) arg4 fullShare (codesB x0 x1)
          ∗ owns (c : Thread nD τ) arg5 fullShare (actB (k0_pay4 (codesB x0 x1)) (scB x0) x2)
          ∗ owns (c : Thread nD τ) arg6 fullShare (maxB (k0_pay4 (codesB x0 x1)) (scB x0) x2 (k0_pay6 i x5))) -∗ K ⟨⟩))
      ⊢ wp frame (wpE (defs₀ (F := F)) Variants.none c none) E (cc0_gateup i arg1 harg1 arg2 harg2 arg3 harg3 arg4 harg4 arg5 harg5 arg6 harg6) K := by
  simp only [cc0_gateup_eq_skeleton]; unfold cc0_gateup_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel; unfold k0_part2_skel; unfold k0_part3_skel; unfold k0_part4_skel; unfold k0_part5_skel; unfold k0_part6_skel; unfold k0_part7_skel; unfold k0_part8_skel; unfold k0_part9_skel; unfold k0_part10_skel; unfold k0_part11_skel; unfold k0_part12_skel; unfold k0_part13_skel; unfold k0_part14_skel; unfold k0_part15_skel; unfold k0_part16_skel; unfold k0_part17_skel; unfold k0_part18_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    simp only [View.readAt_eq_ld, harg1.read_unread, harg2.read_unread]
    rw [read_stored _ _ hz2]
    repeat first | rw [View.ld_unit_zero hz2] | rw [ld_word0]
    rfl
  isplitl [H4]
  · iexists _; isplitr
    swap; · iexact H4
    ipureintro
    sl_unfold_words
    simp only [View.readAt_eq_ld, harg1.read_unread, harg2.read_unread, harg3.read_unread]
    repeat first | rw [View.readCov_unit_zero _ hz2] | rw [View.ld_unit_zero hz2] | rw [ld_word0] | rw [ld_word1]
    refine (congrArg (fun L => arg5.view.read (Elt F) (arg5.view.writes (Elt F) _ L)) (?_ : _ = chunks.reverse.map (pieceK (k0_pay4 (codesB x0 x1)) (scB x0) x2))).trans
      (read_chunks _ _ _ _ _)
    rfl
  · iexists _; isplitr
    swap; · iexact H5
    ipureintro
    sl_unfold_words
    simp only [View.readAt_eq_ld, harg1.read_unread, harg2.read_unread, harg3.read_unread, harg6.read_unread]
    rw [read_stored _ _ hz2]
    repeat first | rw [View.readCov_unit_zero _ hz2] | rw [View.ld_unit_zero hz2] | rw [ld_word0] | rw [ld_word1]
    rfl

/-! ## The pipeline -/

variable (m : (ℓ : Loc nD τ sig) → Buf (Elt F) ℓ) (ρ : Dev nD → PrngReg)

/-- A block's codes, activations, and its maximum joined onto `a`, at grid point `t`. -/
def codesAt (c : Dev nD) (t : Fin cfg0.N) : Vec F S256x2048 .fp8e4m3 := codesB (iblk m c 0 t) (iblk m c 1 t)
def actAt (c : Dev nD) (t : Fin cfg0.N) : Vec F S256x8192 .f32 := actB (k0_pay4 (codesAt m c t)) (scB (iblk m c 0 t)) (iblk m c 2 t)
def maxAt (c : Dev nD) (t : Fin cfg0.N) (a : Vec F S8x128 .f32) : Vec F S8x128 .f32 :=
  maxB (k0_pay4 (codesAt m c t)) (scB (iblk m c 0 t)) (iblk m c 2 t) (k0_pay6 (grid0.coords t) a)

/-- What the maximum buffer holds after the first `n + 1` blocks. -/
def acc (c : Dev nD) : ℕ → Vec F S8x128 .f32
  | 0 => maxAt m c ⟨0, by show 0 < grid0.N; rw [N_0]; omega⟩ (constant S8x128 .f32 0x00000000#32)
  | n + 1 => if h : n + 1 < grid0.N then maxAt m c ⟨n + 1, h⟩ (acc c n) else acc c n

/-- The first block does not read what the maximum buffer held. -/
theorem first_block (i : grid0.Coords) (hi : (i 0).val = 0) (x x' : Vec F S8x128 .f32) : k0_pay6 i x = k0_pay6 i x' := by
  unfold k0_pay6
  rw [hi]
  rfl

theorem coords_zero : ∀ t : Fin grid0.N, t.val = 0 → (grid0.coords t 0).val = 0 := by decide +kernel

theorem maxAt_first (c : Dev nD) (t : Fin cfg0.N) (ht : t.val = 0) (a a' : Vec F S8x128 .f32) : maxAt m c t a = maxAt m c t a' := by
  unfold maxAt
  rw [first_block (grid0.coords t) (coords_zero t ht) a a']

/-- The proof data of the pipeline: the inputs stay in place, codes and activations are the block's, and the maximum
    buffer holds `acc`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesAt m c t
    | ⟨4, _⟩ => actAt m c t
    | ⟨5, _⟩ => acc m c t.val
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = codesAt m c t := by dsimp only [dats]
theorem after0_4 (c : Dev nD) (t : Fin cfg0.N) : (dats m 0 c).after 4 t = actAt m c t := by dsimp only [dats]
theorem after0_5 (c : Dev nD) (t : Fin cfg0.N) : (dats m 0 c).after 5 t = acc m c t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body finds in the maximum buffer leads it to `acc` at every block. -/
theorem acc_step (c : Dev nD) (t : Fin cfg0.N) (d) : maxAt m c t ((dats m 0 c).before 5 t d) = acc m c t.val := by
  obtain ⟨n, hn⟩ := t
  cases n with
  | zero => exact maxAt_first m c ⟨0, hn⟩ rfl _ _
  | succ n =>
    have hn' : n + 1 < 84 := by have h : n + 1 < grid0.N := hn; rwa [N_0] at h
    have hb : (dats m 0 c).before 5 ⟨n + 1, hn⟩ d = acc m c n := by
      refine ((dats m 0 c).before_out_kept 5 rfl ⟨n + 1, hn⟩ (Nat.succ_ne_zero n) ?_ (fun _ => rfl) (fun _ _ => rfl) d).trans (after0_5 m c _)
      refine Bool.eq_false_iff.mpr fun hf => ?_
      have := (flush0_5 _).mp hf
      have e : (n + 1 - 1) % 84 = 83 := this
      omega
    rw [hb]
    show _ = acc m c (n + 1)
    rw [acc, dif_pos (show n + 1 < grid0.N from hn)]

abbrev ms0_0 (t : Fin cfg0.N) : Memref sig .tc .smem S2 .f32 := win0_0.stage (cfg0.slots t 0)
abbrev ms0_1 (t : Fin cfg0.N) : Memref sig .tc .vmem S256x2048 .f32 := win0_1.stage (cfg0.slots t 1)
abbrev ms0_2 (t : Fin cfg0.N) : Memref sig .tc .vmem S2x2048x8192 .fp8e4m3 := win0_2.stage (cfg0.slots t 2)
abbrev ms0_3 (t : Fin cfg0.N) : Memref sig .tc .vmem S256x2048 .fp8e4m3 := win0_3.stage (cfg0.slots t 3)
abbrev ms0_4 (t : Fin cfg0.N) : Memref sig .tc .vmem S256x8192 .f32 := win0_4.stage (cfg0.slots t 4)
abbrev ms0_5 (t : Fin cfg0.N) : Memref sig .tc .vmem S8x128 .f32 := win0_5.stage (cfg0.slots t 5)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  rw [← acc_step m c t d5]
  iapply (body_run c (grid0.coords t) _ _ _ _ _ _ _ _ _ _ _ _ (iblk m c 0 t) (iblk m c 1 t) (iblk m c 2 t)
    ((dats m 0 c).before 3 t d3) ((dats m 0 c).before 4 t d4) ((dats m 0 c).before 5 t d5) Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array as the proof data leave it, and every semaphore back at zero. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1, hostOps1_1])) :=
  (θ_run defs _ _).mono (fun _ h => h.1) (run_main_quiescent m ρ)

/-- The arguments end unchanged, and every semaphore is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Gateup.Hand

end
-- ==== Proof.GateupIdealFrame.lean ====
/-
  The gate and up projections: the 84 row blocks run one after the other. Each stores its codes, its activations in 32
  column chunks, and joins the maximum of its activations onto what the block before left in the one maximum buffer;
  the first block starts from zero, whatever the buffer held.
-/
module

public import proofs.«01_k».proof.Proof.Gen.GateupIdeal.Skeleton
public import proofs.«01_k».proof.Proof.Gen.GateupIdeal.Frame
public import Idealize.ShloMosaic.Lib.Pipeline.Value
public import Idealize.ShloMosaic.Lib.UnfoldOut
public import Idealize.ShloMosaic.Lib.Claim
public import Idealize.ShloMosaic.Lib.Pointwise

@[expose] public section

set_option maxRecDepth 65536

noncomputable section

namespace Cert.GateupIdeal.Hand

open Cert.GateupIdeal Cert.GateupIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A buffer stored to whole, once, holds what was stored. -/
theorem read_stored {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- The two scales, read from their array. -/
abbrev word0 (x : Vec F S2 .f32) : F .f32 := x (ix1 0)
abbrev word1 (x : Vec F S2 .f32) : F .f32 := x (ix1 1)

theorem ld_word0 (x : Vec F S2 .f32) (h) (y) : View.ld x (Rect.unit (s := S2) ![0] ![1] h) y = word0 x := by
  refine congrArg x (funext fun a => Fin.ext ?_)
  match a with
  | ⟨0, _⟩ => have : (y 0 : Nat) < 1 := (y 0).isLt
              show 0 + 1 * (y 0 : Nat) = 0
              omega
theorem ld_word1 (x : Vec F S2 .f32) (h) (y) : View.ld x (Rect.unit (s := S2) ![1] ![1] h) y = word1 x := by
  refine congrArg x (funext fun a => Fin.ext ?_)
  match a with
  | ⟨0, _⟩ => have : (y 0 : Nat) < 1 := (y 0).isLt
              show 1 + 1 * (y 0 : Nat) = 1
              omega

/-! ## One column chunk -/

/-- The codes against one chunk of a weight, by the scales. -/
def prodT (v : FVec F S256x2048 .fp8e4m3) (sc : F .f32) (w : Vec F S1x2048x256 .fp8e4m3) : FVec F S256x256 .f32 :=
  mulf (matmul dot_S256x2048_S2048x256_S256x256_1_0_0_1_n_n none v (shapeCast S2048x256 w shapeCasts_S1x2048x256_S2048x256)
    (constant S256x256 .f32 0x00000000#32)) (broadcast S256x256 sc)

/-- The activations of one chunk. -/
def actT (v : FVec F S256x2048 .fp8e4m3) (sc : F .f32) (w0 w1 : Vec F S1x2048x256 .fp8e4m3) : FVec F S256x256 .f32 :=
  mulf (mulf (prodT v sc w0) (logistic (prodT v sc w0))) (prodT v sc w1)

/-- The maximum of a chunk's magnitudes, joined onto `a`. -/
def foldT (a : FVec F S8x128 .f32) (x : FVec F S256x256 .f32) : FVec F S8x128 .f32 :=
  maximumf a (maximumf
    (extractStridedSlice S8x128 ![0, 0] (multiReduction .maximumf [0] S8x256 (shapeCast S32x8x256 (absf x) shapeCasts_S256x256_S32x8x256) 0xFF800000#32 reduces_S32x8x256_S8x256 (.inl rfl) rfl) slices_S8x256_o0_0_S8x128)
    (extractStridedSlice S8x128 ![0, 128] (multiReduction .maximumf [0] S8x256 (shapeCast S32x8x256 (absf x) shapeCasts_S256x256_S32x8x256) 0xFF800000#32 reduces_S32x8x256_S8x256 (.inl rfl) rfl) slices_S8x256_o0_128_S8x128))

theorem inbW (e : Fin 2) (k : Fin 32) : ∀ a, (![e.val, 0, 256 * k.val] : Fin 3 → Nat) a + S1x2048x256.size a ≤ S2x2048x8192.size a := by
  intro a
  match a with
  | ⟨0, _⟩ => show e.val + 1 ≤ 2; omega
  | ⟨1, _⟩ => show 0 + 2048 ≤ 2048; omega
  | ⟨2, _⟩ => show 256 * k.val + 256 ≤ 8192; omega

theorem inbA (k : Fin 32) : ∀ a, (![0, 256 * k.val] : Fin 2 → Nat) a + S256x256.size a ≤ S256x8192.size a := by
  intro a
  match a with
  | ⟨0, _⟩ => show 0 + 256 ≤ 256; omega
  | ⟨1, _⟩ => show 256 * k.val + 256 ≤ 8192; omega

/-- Chunk `k` of the gate (`e = 0`) or up (`e = 1`) weight. -/
def chunk (W : Vec F S2x2048x8192 .fp8e4m3) (e : Fin 2) (k : Fin 32) : Vec F S1x2048x256 .fp8e4m3 :=
  View.ld W (Rect.unit (s := S2x2048x8192) ![e.val, 0, 256 * k.val] S1x2048x256.size (inbW e k))

/-- The activations of chunk `k`. -/
def actK (v : FVec F S256x2048 .fp8e4m3) (sc : F .f32) (W : Vec F S2x2048x8192 .fp8e4m3) (k : Fin 32) : FVec F S256x256 .f32 :=
  actT v sc (chunk W 0 k) (chunk W 1 k)

/-- A row block's codes, and the product of the two scales. -/
def codesB (x0 : Vec F S2 .f32) (x1 : Vec F S256x2048 .f32) : Vec F S256x2048 .fp8e4m3 := k0_pay3 x1 (word0 x0)
def scB (x0 : Vec F S2 .f32) : F .f32 := k0_pay5 (word0 x0) (word1 x0)

/-- The chunks, first to last. -/
def chunks : List (Fin 32) := [0, 1, 2, 3, 4, 5, 6, 7, 8, 9, 10, 11, 12, 13, 14, 15, 16, 17, 18, 19, 20, 21, 22, 23, 24, 25, 26, 27, 28, 29, 30, 31]

theorem mem_chunks : ∀ k : Fin 32, k ∈ chunks := by decide

/-- The store of chunk `k`. -/
def pieceK (v : FVec F S256x2048 .fp8e4m3) (sc : F .f32) (W : Vec F S2x2048x8192 .fp8e4m3) (k : Fin 32) : View.Piece (Elt F) S256x8192 .f32 :=
  ⟨Rect.unit (s := S256x8192) ![0, 256 * k.val] S256x256.size (inbA k), actK v sc W k⟩

/-- A row block's activations: column `j` is column `j % 256` of chunk `j / 256`. -/
def actB (v : FVec F S256x2048 .fp8e4m3) (sc : F .f32) (W : Vec F S2x2048x8192 .fp8e4m3) : Vec F S256x8192 .f32 := fun y =>
  actK v sc W ⟨(y 1).val / 256, by have : (y 1).val < 8192 := (y 1).isLt; omega⟩
    (fun a => match a with
      | ⟨0, _⟩ => ⟨(y 0).val, (y 0).isLt⟩
      | ⟨1, _⟩ => ⟨(y 1).val % 256, Nat.mod_lt _ (by omega)⟩)

/-- The maximum of a row block's activations, joined onto `a` chunk by chunk. -/
def maxB (v : FVec F S256x2048 .fp8e4m3) (sc : F .f32) (W : Vec F S2x2048x8192 .fp8e4m3) (a : FVec F S8x128 .f32) : FVec F S8x128 .f32 :=
  chunks.foldl (fun a k => foldT a (actK v sc W k)) a

theorem piece_emb (v : FVec F S256x2048 .fp8e4m3) (sc : F .f32) (W : Vec F S2x2048x8192 .fp8e4m3) (k : Fin 32)
    (x : (pieceK v sc W k).1.shape.Idx) : (pieceK v sc W k).2 x = actB v sc W ((pieceK v sc W k).1.emb x) := by
  have h1 : (x 1).val < 256 := (x 1).isLt
  have e1 : ((pieceK v sc W k).1.emb x 1).val = 256 * k.val + (x 1).val := by
    show 256 * k.val + 1 * (x 1).val = _; omega
  have e0 : ((pieceK v sc W k).1.emb x 0).val = (x 0).val := by
    show 0 + 1 * (x 0).val = _; omega
  unfold actB
  have hk : ∀ h, (⟨((pieceK v sc W k).1.emb x 1).val / 256, h⟩ : Fin 32) = k := fun h => Fin.ext (by
    show ((pieceK v sc W k).1.emb x 1).val / 256 = k.val; omega)
  rw [hk]
  refine congrArg (actK v sc W k) (funext fun a => Fin.ext ?_)
  match a with
  | ⟨0, _⟩ => exact e0.symm
  | ⟨1, _⟩ => show (x 1).val = ((pieceK v sc W k).1.emb x 1).val % 256; rw [e1]; omega

theorem piece_cover (v : FVec F S256x2048 .fp8e4m3) (sc : F .f32) (W : Vec F S2x2048x8192 .fp8e4m3) (y : S256x8192.Idx) :
    ∃ p ∈ chunks.reverse.map (pieceK v sc W), y ∈ p.1.set := by
  have h1 : (y 1).val < 8192 := (y 1).isLt
  have h0 : (y 0).val < 256 := (y 0).isLt
  refine ⟨pieceK v sc W ⟨(y 1).val / 256, by omega⟩, List.mem_map.mpr ⟨_, List.mem_reverse.mpr (mem_chunks _), rfl⟩, ?_⟩
  refine (Rect.mem_set_unit (s := S256x8192) (inb := inbA ⟨(y 1).val / 256, by omega⟩)).mpr fun a => ?_
  match a with
  | ⟨0, _⟩ => exact ⟨Nat.zero_le _, by show (y 0).val < 0 + 256; omega⟩
  | ⟨1, _⟩ => exact ⟨by show 256 * ((y 1).val / 256) ≤ (y 1).val; omega, by show (y 1).val < 256 * ((y 1).val / 256) + 256; omega⟩

/-- The 32 chunk stores leave a row block's activations. -/
theorem read_chunks (v : FVec F S256x2048 .fp8e4m3) (sc : F .f32) (W : Vec F S2x2048x8192 .fp8e4m3) {κ : Kind} {sp : Space}
    (u : View sig κ sp S256x8192 .f32) (f : u.ty.Contents (Elt F)) :
    u.read (Elt F) (u.writes (Elt F) f (chunks.reverse.map (pieceK v sc W))) = actB v sc W := by
  rw [View.read_writes_eq_canon _ _ _ (piece_cover v sc W)]
  funext y
  refine View.canon_apply_of_pieces (actB v sc W) _ (fun p hp x => ?_) y (piece_cover v sc W y)
  obtain ⟨k, -, rfl⟩ := List.mem_map.mp hp
  exact piece_emb v sc W k x

/-! ## One run of the body -/

set_option maxHeartbeats 4000000 in
/-- One run of the body: the three inputs are left as they were, the codes and the activations are the block's own, and
    the maximum buffer goes from `x5` to the block's maximum joined onto `x5` (onto zero at the first block). -/
theorem body_run (c : Dev nD) (i : grid0.Coords)
    (arg1 : Memref sig .tc .smem S2 .f32) (harg1 : arg1.IsWhole) (arg2 : Memref sig .tc .vmem S256x2048 .f32) (harg2 : arg2.IsWhole)
    (arg3 : Memref sig .tc .vmem S2x2048x8192 .fp8e4m3) (harg3 : arg3.IsWhole) (arg4 : Memref sig .tc .vmem S256x2048 .fp8e4m3) (harg4 : arg4.IsWhole)
    (arg5 : Memref sig .tc .vmem S256x8192 .f32) (harg5 : arg5.IsWhole) (arg6 : Memref sig .tc .vmem S8x128 .f32) (harg6 : arg6.IsWhole)
    (x0 : Vec F S2 .f32) (x1 : Vec F S256x2048 .f32) (x2 : Vec F S2x2048x8192 .fp8e4m3) (x3 : Vec F S256x2048 .fp8e4m3)
    (x4 : Vec F S256x8192 .f32) (x5 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (iprop(owns (c : Thread nD τ) arg1 fullShare x0 ∗ owns (c : Thread nD τ) arg2 fullShare x1 ∗ owns (c : Thread nD τ) arg3 fullShare x2
          ∗ owns (c : Thread nD τ) arg4 fullShare (codesB x0 x1)
          ∗ owns (c : Thread nD τ) arg5 fullShare (actB (k0_pay4 (codesB x0 x1)) (scB x0) x2)
          ∗ owns (c : Thread nD τ) arg6 fullShare (maxB (k0_pay4 (codesB x0 x1)) (scB x0) x2 (k0_pay6 i x5))) -∗ K ⟨⟩))
      ⊢ wp frame (wpE (defs₀ (F := F)) Variants.none c none) E (cc0_gateup i arg1 harg1 arg2 harg2 arg3 harg3 arg4 harg4 arg5 harg5 arg6 harg6) K := by
  simp only [cc0_gateup_eq_skeleton]; unfold cc0_gateup_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel; unfold k0_part2_skel; unfold k0_part3_skel; unfold k0_part4_skel; unfold k0_part5_skel; unfold k0_part6_skel; unfold k0_part7_skel; unfold k0_part8_skel; unfold k0_part9_skel; unfold k0_part10_skel; unfold k0_part11_skel; unfold k0_part12_skel; unfold k0_part13_skel; unfold k0_part14_skel; unfold k0_part15_skel; unfold k0_part16_skel; unfold k0_part17_skel; unfold k0_part18_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    simp only [View.readAt_eq_ld, harg1.read_unread, harg2.read_unread]
    rw [read_stored _ _ hz2]
    repeat first | rw [View.ld_unit_zero hz2] | rw [ld_word0]
    rfl
  isplitl [H4]
  · iexists _; isplitr
    swap; · iexact H4
    ipureintro
    sl_unfold_words
    simp only [View.readAt_eq_ld, harg1.read_unread, harg2.read_unread, harg3.read_unread]
    repeat first | rw [View.readCov_unit_zero _ hz2] | rw [View.ld_unit_zero hz2] | rw [ld_word0] | rw [ld_word1]
    refine (congrArg (fun L => arg5.view.read (Elt F) (arg5.view.writes (Elt F) _ L)) (?_ : _ = chunks.reverse.map (pieceK (k0_pay4 (codesB x0 x1)) (scB x0) x2))).trans
      (read_chunks _ _ _ _ _)
    rfl
  · iexists _; isplitr
    swap; · iexact H5
    ipureintro
    sl_unfold_words
    simp only [View.readAt_eq_ld, harg1.read_unread, harg2.read_unread, harg3.read_unread, harg6.read_unread]
    rw [read_stored _ _ hz2]
    repeat first | rw [View.readCov_unit_zero _ hz2] | rw [View.ld_unit_zero hz2] | rw [ld_word0] | rw [ld_word1]
    rfl

/-! ## The pipeline -/

variable (m : (ℓ : Loc nD τ sig) → Buf (Elt F) ℓ) (ρ : Dev nD → PrngReg)

/-- A block's codes, activations, and its maximum joined onto `a`, at grid point `t`. -/
def codesAt (c : Dev nD) (t : Fin cfg0.N) : Vec F S256x2048 .fp8e4m3 := codesB (iblk m c 0 t) (iblk m c 1 t)
def actAt (c : Dev nD) (t : Fin cfg0.N) : Vec F S256x8192 .f32 := actB (k0_pay4 (codesAt m c t)) (scB (iblk m c 0 t)) (iblk m c 2 t)
def maxAt (c : Dev nD) (t : Fin cfg0.N) (a : Vec F S8x128 .f32) : Vec F S8x128 .f32 :=
  maxB (k0_pay4 (codesAt m c t)) (scB (iblk m c 0 t)) (iblk m c 2 t) (k0_pay6 (grid0.coords t) a)

/-- What the maximum buffer holds after the first `n + 1` blocks. -/
def acc (c : Dev nD) : ℕ → Vec F S8x128 .f32
  | 0 => maxAt m c ⟨0, by show 0 < grid0.N; rw [N_0]; omega⟩ (constant S8x128 .f32 0x00000000#32)
  | n + 1 => if h : n + 1 < grid0.N then maxAt m c ⟨n + 1, h⟩ (acc c n) else acc c n

/-- The first block does not read what the maximum buffer held. -/
theorem first_block (i : grid0.Coords) (hi : (i 0).val = 0) (x x' : Vec F S8x128 .f32) : k0_pay6 i x = k0_pay6 i x' := by
  unfold k0_pay6
  rw [hi]
  rfl

theorem coords_zero : ∀ t : Fin grid0.N, t.val = 0 → (grid0.coords t 0).val = 0 := by decide +kernel

theorem maxAt_first (c : Dev nD) (t : Fin cfg0.N) (ht : t.val = 0) (a a' : Vec F S8x128 .f32) : maxAt m c t a = maxAt m c t a' := by
  unfold maxAt
  rw [first_block (grid0.coords t) (coords_zero t ht) a a']

/-- The proof data of the pipeline: the inputs stay in place, codes and activations are the block's, and the maximum
    buffer holds `acc`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesAt m c t
    | ⟨4, _⟩ => actAt m c t
    | ⟨5, _⟩ => acc m c t.val
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = codesAt m c t := by dsimp only [dats]
theorem after0_4 (c : Dev nD) (t : Fin cfg0.N) : (dats m 0 c).after 4 t = actAt m c t := by dsimp only [dats]
theorem after0_5 (c : Dev nD) (t : Fin cfg0.N) : (dats m 0 c).after 5 t = acc m c t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body finds in the maximum buffer leads it to `acc` at every block. -/
theorem acc_step (c : Dev nD) (t : Fin cfg0.N) (d) : maxAt m c t ((dats m 0 c).before 5 t d) = acc m c t.val := by
  obtain ⟨n, hn⟩ := t
  cases n with
  | zero => exact maxAt_first m c ⟨0, hn⟩ rfl _ _
  | succ n =>
    have hn' : n + 1 < 84 := by have h : n + 1 < grid0.N := hn; rwa [N_0] at h
    have hb : (dats m 0 c).before 5 ⟨n + 1, hn⟩ d = acc m c n := by
      refine ((dats m 0 c).before_out_kept 5 rfl ⟨n + 1, hn⟩ (Nat.succ_ne_zero n) ?_ (fun _ => rfl) (fun _ _ => rfl) d).trans (after0_5 m c _)
      refine Bool.eq_false_iff.mpr fun hf => ?_
      have := (flush0_5 _).mp hf
      have e : (n + 1 - 1) % 84 = 83 := this
      omega
    rw [hb]
    show _ = acc m c (n + 1)
    rw [acc, dif_pos (show n + 1 < grid0.N from hn)]

abbrev ms0_0 (t : Fin cfg0.N) : Memref sig .tc .smem S2 .f32 := win0_0.stage (cfg0.slots t 0)
abbrev ms0_1 (t : Fin cfg0.N) : Memref sig .tc .vmem S256x2048 .f32 := win0_1.stage (cfg0.slots t 1)
abbrev ms0_2 (t : Fin cfg0.N) : Memref sig .tc .vmem S2x2048x8192 .fp8e4m3 := win0_2.stage (cfg0.slots t 2)
abbrev ms0_3 (t : Fin cfg0.N) : Memref sig .tc .vmem S256x2048 .fp8e4m3 := win0_3.stage (cfg0.slots t 3)
abbrev ms0_4 (t : Fin cfg0.N) : Memref sig .tc .vmem S256x8192 .f32 := win0_4.stage (cfg0.slots t 4)
abbrev ms0_5 (t : Fin cfg0.N) : Memref sig .tc .vmem S8x128 .f32 := win0_5.stage (cfg0.slots t 5)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  rw [← acc_step m c t d5]
  iapply (body_run c (grid0.coords t) _ _ _ _ _ _ _ _ _ _ _ _ (iblk m c 0 t) (iblk m c 1 t) (iblk m c 2 t)
    ((dats m 0 c).before 3 t d3) ((dats m 0 c).before 4 t d4) ((dats m 0 c).before 5 t d5) Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array as the proof data leave it, and every semaphore back at zero. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1, hostOps1_1])) :=
  (θ_run defs _ _).mono (fun _ h => h.1) (run_main_quiescent m ρ)

/-- The arguments end unchanged, and every semaphore is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.GateupIdeal.Hand

end
-- ==== Proof.MaxMath.lean ====
/-
  The scale of an array from its largest magnitude, over the extended reals: a maximum is known by its upper bounds, so
  two maxima taken in different orders are equal when the same numbers bound them.
-/
module

public import proofs.«01_k».proof.Proof.Math

@[expose] public section

noncomputable section

namespace Cert.Proof.Math

open Idealize.ShloMosaic

/-- The magnitude of a number. -/
abbrev mag (x : EReal) : EReal := FloatOps.absf (F := Ideal) (φ := .f32) x

theorem mag_nonneg (x : EReal) : 0 ≤ mag x := by
  show 0 ≤ max x (-x)
  rcases le_total 0 x with h | h
  · exact le_max_of_le_left h
  · exact le_max_of_le_right (EReal.neg_nonneg.mpr h)

/-- Where the host's maxima start: below every number. -/
theorem ninf_f32 : Ideal.ofBits .f32 0xFF800000#32 = ⊥ := by
  simp [Ideal.ofBits, Ideal.ieee]

theorem zero_f32 : Ideal.ofBits .f32 0x00000000#32 = 0 := by
  simp [Ideal.ofBits, Ideal.ieee]

/-- The upper bounds of a maximum over every element of a finite family. -/
theorem maxOver_le {ι : Type*} [Fintype ι] (f : ι → EReal) (x : EReal) :
    Finset.univ.fold max (Ideal.ofBits .f32 0xFF800000#32) f ≤ x ↔ ∀ i, f i ≤ x := by
  rw [Finset.fold_max_le, ninf_f32]
  simp

/-- Two numbers with the same upper bounds are equal. -/
theorem eq_of_bounds {a b : EReal} (h : ∀ x, a ≤ x ↔ b ≤ x) : a = b :=
  le_antisymm ((h b).mpr le_rfl) ((h a).mp le_rfl)

end Cert.Proof.Math

end
-- ==== Proof.GateupKernel.lean ====
/-
  The gate and up projections' kernel: what its 84 row blocks leave in the two result arrays and in the maximum buffer,
  as functions of the arguments, and the scale the host reads from the maximum.
-/
module

public import proofs.«01_k».proof.Proof.MaxMath
public import proofs.«01_k».proof.Proof.GateupIdealFrame

@[expose] public section

set_option maxRecDepth 16384

noncomputable section

namespace Cert.GateupIdeal.Hand

open Cert.GateupIdeal Cert.GateupIdeal.Gen Idealize.ShloMosaic Idealize.ShloMosaic.TcCoe Idealize.SL.Sem
open Idealize.ShloMosaic.StableHlo
open Idealize.ShloMosaic.Pipeline (Dat)
open Idealize.ShloMosaic.Pointwise
open Cert.Proof.Math

section Blocks

variable {F : FTy → Type} [FloatOps F]
variable (m : (ℓ : Loc nD τ sig) → Buf (Elt F) ℓ)

/-- The whole-array windows' one block starts at the array's origin. -/
theorem index0_0 : ∀ (t : Fin cfg0.N) (a : Fin win0_0.shape.rank), win0_0.index t a = 0 :=
  (by decide +kernel : ∀ (t : Fin grid0.N) (a : Fin win0_0.shape.rank), win0_0.index t a = 0)
theorem index0_2 : ∀ (t : Fin cfg0.N) (a : Fin win0_2.shape.rank), win0_2.index t a = 0 :=
  (by decide +kernel : ∀ (t : Fin grid0.N) (a : Fin win0_2.shape.rank), win0_2.index t a = 0)
theorem index0_5 : ∀ (t : Fin cfg0.N) (a : Fin win0_5.shape.rank), win0_5.index t a = 0 :=
  (by decide +kernel : ∀ (t : Fin grid0.N) (a : Fin win0_5.shape.rank), win0_5.index t a = 0)

/-- A row window's block at point `t` is row block `t`. -/
theorem index0_1 : ∀ t : Fin cfg0.N, win0_1.index t 0 = t.val ∧ win0_1.index t 1 = 0 :=
  (by decide +kernel : ∀ t : Fin grid0.N, win0_1.index t 0 = t.val ∧ win0_1.index t 1 = 0)
theorem index0_3 : ∀ t : Fin cfg0.N, win0_3.index t 0 = t.val ∧ win0_3.index t 1 = 0 :=
  (by decide +kernel : ∀ t : Fin grid0.N, win0_3.index t 0 = t.val ∧ win0_3.index t 1 = 0)
theorem index0_4 : ∀ t : Fin cfg0.N, win0_4.index t 0 = t.val ∧ win0_4.index t 1 = 0 :=
  (by decide +kernel : ∀ t : Fin grid0.N, win0_4.index t 0 = t.val ∧ win0_4.index t 1 = 0)

/-- Row `r` of row block `t`, as a row of the array. -/
abbrev row (t : Fin cfg0.N) (r : Fin 256) : Fin 21504 :=
  ⟨t.val * 256 + r.val, by have h : t.val < grid0.N := t.isLt; rw [N_0] at h; omega⟩

theorem emb_1 (t : Fin cfg0.N) (r : Fin 256) (k : Fin 2048) : (win0_1.rect t).emb (ix2 r k) = ix2 (row t r) k :=
  funext fun a => Fin.ext (by
    rw [win0_1.rect_emb_val t _ a rfl]
    match a with
    | ⟨0, _⟩ => exact at_idx (index0_1 t).1
    | ⟨1, _⟩ => exact at_zero (index0_1 t).2)
theorem emb_3 (t : Fin cfg0.N) (r : Fin 256) (k : Fin 2048) : (win0_3.rect t).emb (ix2 r k) = ix2 (row t r) k :=
  funext fun a => Fin.ext (by
    rw [win0_3.rect_emb_val t _ a rfl]
    match a with
    | ⟨0, _⟩ => exact at_idx (index0_3 t).1
    | ⟨1, _⟩ => exact at_zero (index0_3 t).2)
theorem emb_4 (t : Fin cfg0.N) (r : Fin 256) (k : Fin 8192) : (win0_4.rect t).emb (ix2 r k) = ix2 (row t r) k :=
  funext fun a => Fin.ext (by
    rw [win0_4.rect_emb_val t _ a rfl]
    match a with
    | ⟨0, _⟩ => exact at_idx (index0_4 t).1
    | ⟨1, _⟩ => exact at_zero (index0_4 t).2)

theorem iblk_0 (c : Dev nD) (t : Fin cfg0.N) : iblk m c 0 t = V m c main_v2 :=
  funext fun y => congrArg (V m c main_v2) (funext fun a => Fin.ext (win0_0.rect_emb_val_of_index_zero t a (index0_0 t a) y))
theorem iblk_1 (c : Dev nD) (t : Fin cfg0.N) (r : Fin 256) (k : Fin 2048) :
    (iblk m c 1 t : S256x2048.Idx → Elt F .f32) (ix2 r k) = m ((c.tc : Thread nD τ).loc main_arg0) (ix2 (row t r) k) :=
  (congrArg (V m c main_arg0) (emb_1 t r k)).trans (congrFun (V_main_arg0 m c) _)
theorem iblk_2 (c : Dev nD) (t : Fin cfg0.N) : iblk m c 2 t = V m c main_v3 :=
  funext fun y => congrArg (V m c main_v3) (funext fun a => Fin.ext (win0_2.rect_emb_val_of_index_zero t a (index0_2 t a) y))

/-- Every row is in some row block. -/
theorem row_surj (i : Fin 21504) : ∃ (t : Fin cfg0.N) (r : Fin 256), row t r = i := by
  refine ⟨⟨i.val / 256, by show i.val / 256 < grid0.N; rw [N_0]; omega⟩, ⟨i.val % 256, by omega⟩, Fin.ext ?_⟩
  show i.val / 256 * 256 + i.val % 256 = i.val
  omega

theorem cover_3 (i : S21504x2048.Idx) : ∃ t : Fin cfg0.N, (cfg0.win 3).flush t = true ∧ i ∈ ((cfg0.win 3).blk t).view.set := by
  obtain ⟨t, r, h⟩ := row_surj (i 0)
  refine ⟨t, flush0_3 t, ?_⟩
  have hm := ((cfg0.win 3).blk t).view.emb_mem_set (ix2 r (i 1) : S256x2048.Idx)
  have e : ((cfg0.win 3).blk t).view.emb (ix2 r (i 1) : S256x2048.Idx) = i := by
    refine (emb_3 t r (i 1)).trans ?_
    rw [h]; exact (eq_ix2 i).symm
  rwa [e] at hm
theorem cover_4 (i : S21504x8192.Idx) : ∃ t : Fin cfg0.N, (cfg0.win 4).flush t = true ∧ i ∈ ((cfg0.win 4).blk t).view.set := by
  obtain ⟨t, r, h⟩ := row_surj (i 0)
  refine ⟨t, flush0_4 t, ?_⟩
  have hm := ((cfg0.win 4).blk t).view.emb_mem_set (ix2 r (i 1) : S256x8192.Idx)
  have e : ((cfg0.win 4).blk t).view.emb (ix2 r (i 1) : S256x8192.Idx) = i := by
    refine (emb_4 t r (i 1)).trans ?_
    rw [h]; exact (eq_ix2 i).symm
  rwa [e] at hm
/-- The last block. -/
abbrev last : Fin cfg0.N := ⟨83, by show 83 < grid0.N; rw [N_0]; omega⟩
theorem cover_5 (i : S8x128.Idx) : ∃ t : Fin cfg0.N, (cfg0.win 5).flush t = true ∧ i ∈ ((cfg0.win 5).blk t).view.set := by
  refine ⟨last, (flush0_5 _).mpr rfl, ?_⟩
  have h := ((cfg0.win 5).blk last).view.emb_mem_set i
  have e : ((cfg0.win 5).blk last).view.emb i = i :=
    funext fun a => Fin.ext (win0_5.rect_emb_val_of_index_zero last a (index0_5 last a) i)
  rwa [e] at h
theorem read_5 (t : Fin cfg0.N) (G : S8x128.Idx → Elt F .f32) : (win0_5.blk t).view.read (Elt F) G = G :=
  funext fun y => congrArg G (funext fun a => Fin.ext (win0_5.rect_emb_val_of_index_zero t a (index0_5 t a) y))

theorem V_main_v2 (c : Dev nD) : V m c main_v2 = concatenate S2 0 [⟨S1, broadcastInDim S1 ![] bcast_S_S1 (m ((c.tc : Thread nD τ).loc main_arg1))⟩, ⟨S1, broadcastInDim S1 ![] bcast_S_S1 (m ((c.tc : Thread nD τ).loc main_arg3))⟩] concatenates_S1_S1_S2_d0 := by
  show StableHlo.after hostOps0 _ _ = _
  after_results
  try rfl
theorem V_main_v3 (c : Dev nD) : V m c main_v3 = transpose S2x2048x8192 [1, 0, 2] (m ((c.tc : Thread nD τ).loc main_arg2)) transposes_S2048x2x8192_S2x2048x8192_1_0_2 := by
  show StableHlo.after hostOps0 _ _ = _
  after_results
  try rfl

theorem scale_0 (c : Dev nD) (t : Fin cfg0.N) : word0 (iblk m c 0 t) = m ((c.tc : Thread nD τ).loc main_arg1) ix0 := by
  rw [iblk_0, V_main_v2]; unfold word0
  pointwise
theorem scale_1 (c : Dev nD) (t : Fin cfg0.N) : word1 (iblk m c 0 t) = m ((c.tc : Thread nD τ).loc main_arg3) ix0 := by
  rw [iblk_0, V_main_v2]; unfold word1
  pointwise
theorem wts_at (c : Dev nD) (t : Fin cfg0.N) (e : Fin 2) (k : Fin 2048) (j : Fin 8192) :
    (iblk m c 2 t : S2x2048x8192.Idx → Elt F .fp8e4m3) (ix3 e k j) = m ((c.tc : Thread nD τ).loc main_arg2) (ix3 k e j) := by
  rw [iblk_2, V_main_v3]
  pointwise

/-- An element of a weight chunk is an element of the weight. -/
theorem chunk_apply (W : Vec F S2x2048x8192 .fp8e4m3) (e : Fin 2) (k : Fin 32) (p : Fin 2048) (j : Fin 256) :
    chunk W e k (ix3 0 p j) = W (ix3 e p ⟨256 * k.val + j.val, by omega⟩) := by
  refine congrArg W (funext fun a => Fin.ext ?_)
  match a with
  | ⟨0, _⟩ => show e.val + 1 * 0 = e.val; omega
  | ⟨1, _⟩ => show 0 + 1 * p.val = p.val; omega
  | ⟨2, _⟩ => show 256 * k.val + 1 * j.val = 256 * k.val + j.val; omega

/-- A row block's activation is an activation of its chunk. -/
theorem actB_chunk (v : FVec F S256x2048 .fp8e4m3) (sc : F .f32) (W : Vec F S2x2048x8192 .fp8e4m3) (k : Fin 32) (i j : Fin 256) :
    actB v sc W (ix2 i ⟨256 * k.val + j.val, by omega⟩) = actK v sc W k (ix2 i j) := by
  refine Eq.trans (congrArg (actB v sc W) (funext fun a => Fin.ext ?_)) (piece_emb v sc W k (ix2 i j)).symm
  match a with
  | ⟨0, _⟩ => show i.val = 0 + 1 * i.val; omega
  | ⟨1, _⟩ => show 256 * k.val + j.val = 256 * k.val + 1 * j.val; omega

/-! ### The host's reading of the maximum -/

/-- The exit contents of the launch. -/
abbrev exitV (c : Dev nD) : Valuation τ sig (Elt F) :=
  Pipeline.withArrays spec0 c (Gen.V0 m c) fun w => (dats m 0 c).arrAt w cfg0.N

theorem exit_max (c : Dev nD) : exitV m c (Proc.devRef .tc main_v4_2) = (dats m 0 c).arrAt 5 cfg0.N :=
  Pipeline.withArrays_arr spec0 Gen.launch0.win.arr_inj c (Gen.V0 m c) _ 5

/-- The largest element of the maximum buffer. -/
def top (M : FVec F S8x128 .f32) : FVec F S_ .f32 :=
  Host.reduce FloatOps.maximumf M (constant S_ .f32 0xFF800000#32) reducesTo_S8x128_S_d0_1 h_S_
/-- The scale of a largest magnitude: by the largest code, or one when every element is zero. -/
def scaleOf (M : FVec F S_ .f32) : FVec F S_ .f32 :=
  select (cmpf .oeq M (constant S_ .f32 0x00000000#32)) (constant S_ .f32 0x3F800000#32) (Host.divf M (constant S_ .f32 0x43E00000#32))

set_option maxHeartbeats 2000000 in
theorem tail_scale (V0 : Valuation τ sig (Elt F)) :
    after (List.flatten [Gen.hostOps1, Gen.hostOps1_1]) V0 (Proc.devRef .tc main_v8) = scaleOf (top (V0 (Proc.devRef .tc main_v4_2))) := by
  simp only [Gen.hostOps1, Gen.hostOps1_1, TRef.ternary, TRef.unary, TRef.toBuf, TRef.ofBuf, cast_eq, List.flatten_cons, List.flatten_nil, List.append_nil, List.cons_append, List.nil_append]
  after_results_simp
  try rfl
theorem fin_scale (c : Dev nD) :
    Pipeline.afterTail₀ cfgs (dats m) 0 (Gen.V0 m) [Gen.hostOps1, Gen.hostOps1_1] c main_v8 = scaleOf (top ((dats m 0 c).arrAt 5 cfg0.N)) :=
  (tail_scale (exitV m c)).trans (by rw [exit_max])

/-- What the run leaves: the two result arrays, the scale, and the arguments. -/
theorem run (ρ : Dev nD → PrngReg) : θ_run defs (onTc (τ := τ) (main (F := F))) ⟨m, fun _ => 0, ρ⟩ fun r => ∀ c : Dev nD,
    r.2.mem ((c.tc : Thread nD τ).loc main_v4_0) = (dats m 0 c).arrAt 3 cfg0.N
    ∧ r.2.mem ((c.tc : Thread nD τ).loc main_v4_1) = (dats m 0 c).arrAt 4 cfg0.N
    ∧ r.2.mem ((c.tc : Thread nD τ).loc main_v8) = scaleOf (top ((dats m 0 c).arrAt 5 cfg0.N))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨((h.1 c).1 3).trans rfl, ((h.1 c).1 4).trans rfl,
      ((h.1 c).2 main_v8 (Pipeline.mem_restRefs_of main_v8 (by decide) (by decide))).trans (fin_scale m c),
      (h.2.1 c).1, (h.2.1 c).2.1, (h.2.1 c).2.2.1, (h.2.1 c).2.2.2⟩)
    (θ_run_and (run_main m ρ) (frame m ρ))

end Blocks

/-! ## At the extended reals, element by element -/

section AtIdeal

variable (m : (ℓ : Loc nD τ sig) → Buf (Elt Ideal) ℓ)

/-- The arguments, as arrays of extended reals. -/
abbrev h1 (c : Dev nD) : S21504x2048.Idx → EReal := m ((c.tc : Thread nD τ).loc main_arg0)
abbrev h1Scale (c : Dev nD) : EReal := m ((c.tc : Thread nD τ).loc main_arg1) ix0
abbrev wts (c : Dev nD) : S2048x2x8192.Idx → EReal := m ((c.tc : Thread nD τ).loc main_arg2)
abbrev wScale (c : Dev nD) : EReal := m ((c.tc : Thread nD τ).loc main_arg3) ix0

/-- The codes of the hidden state. -/
def codes (c : Dev nD) : S21504x2048.Idx → EReal := fun i => quant (h1 m c i) (h1Scale m c)
/-- The gate (`e = 0`) and up (`e = 1`) projections. -/
def proj (c : Dev nD) (e : Fin 2) (i : Fin 21504) (j : Fin 8192) : EReal :=
  qdot (fun k => h1 m c (ix2 i k)) (h1Scale m c) (fun k => wts m c (ix3 k e j)) * (h1Scale m c * wScale m c)
/-- The gated activation. -/
def actOf (c : Dev nD) (i : Fin 21504) (j : Fin 8192) : EReal :=
  proj m c 0 i j * Ideal.logistic (proj m c 0 i j) * proj m c 1 i j
def act (c : Dev nD) : S21504x8192.Idx → EReal := fun i => actOf m c (i 0) (i 1)

theorem prodT_apply (v : FVec Ideal S256x2048 .fp8e4m3) (sc : Ideal .f32) (w : FVec Ideal S1x2048x256 .fp8e4m3) (i j : Fin 256) :
    prodT (F := Ideal) v sc w (ix2 i j) = (∑ k : Fin 2048, v (ix2 i k) * w (ix3 0 k j)) * sc := by
  pointwise [prodT]

theorem actT_apply (v : FVec Ideal S256x2048 .fp8e4m3) (sc : Ideal .f32) (w0 w1 : FVec Ideal S1x2048x256 .fp8e4m3) (i j : Fin 256) :
    actT (F := Ideal) v sc w0 w1 (ix2 i j)
      = prodT (F := Ideal) v sc w0 (ix2 i j) * Ideal.logistic (prodT (F := Ideal) v sc w0 (ix2 i j)) * prodT (F := Ideal) v sc w1 (ix2 i j) := by
  generalize h0 : prodT (F := Ideal) v sc w0 = p
  generalize h1 : prodT (F := Ideal) v sc w1 = q
  pointwise [actT, h0, h1]

theorem pay3_apply (v : FVec Ideal S256x2048 .f32) (s : Ideal .f32) (r : Fin 256) (k : Fin 2048) :
    k0_pay3 (F := Ideal) v s (ix2 r k) = quant (v (ix2 r k)) s := by
  pointwise [k0_pay3, quant]
theorem pay4_apply (v : FVec Ideal S256x2048 .fp8e4m3) (r : Fin 256) (k : Fin 2048) : k0_pay4 (F := Ideal) v (ix2 r k) = v (ix2 r k) := by
  pointwise [k0_pay4]
theorem pay5_eq (a b : Ideal .f32) : k0_pay5 (F := Ideal) a b = a * b := rfl

theorem codesAt_apply (c : Dev nD) (t : Fin cfg0.N) (r : Fin 256) (k : Fin 2048) :
    (codesAt m c t : FVec Ideal S256x2048 .fp8e4m3) (ix2 r k) = quant (h1 m c (ix2 (row t r) k)) (h1Scale m c) := by
  unfold codesAt codesB
  rw [pay3_apply, iblk_1, scale_0]

/-- A chunk's projection at grid point `t`. -/
theorem prod_at (c : Dev nD) (t : Fin cfg0.N) (e : Fin 2) (k : Fin 32) (i j : Fin 256) :
    prodT (F := Ideal) (k0_pay4 (codesAt m c t)) (scB (iblk m c 0 t)) (chunk (iblk m c 2 t) e k) (ix2 i j)
      = proj m c e (row t i) ⟨256 * k.val + j.val, by omega⟩ := by
  rw [prodT_apply]
  unfold scB proj qdot
  rw [pay5_eq, scale_0, scale_1]
  refine congrArg (· * (h1Scale m c * wScale m c)) (Finset.sum_congr rfl fun p _ => ?_)
  rw [pay4_apply, codesAt_apply, chunk_apply, wts_at]

theorem act_at (c : Dev nD) (t : Fin cfg0.N) (k : Fin 32) (i j : Fin 256) :
    (actK (k0_pay4 (codesAt m c t)) (scB (iblk m c 0 t)) (iblk m c 2 t) k : FVec Ideal S256x256 .f32) (ix2 i j)
      = actOf m c (row t i) ⟨256 * k.val + j.val, by omega⟩ := by
  unfold actK
  rw [actT_apply, prod_at, prod_at]
  rfl

/-- Every column is a column of some chunk. -/
theorem col_surj (j : Fin 8192) : ∃ (k : Fin 32) (l : Fin 256), (⟨256 * k.val + l.val, by omega⟩ : Fin 8192) = j :=
  ⟨⟨j.val / 256, by omega⟩, ⟨j.val % 256, by omega⟩, Fin.ext (by show 256 * (j.val / 256) + j.val % 256 = j.val; omega)⟩

theorem actAt_apply (c : Dev nD) (t : Fin cfg0.N) (i : Fin 256) (j : Fin 8192) :
    (actAt m c t : FVec Ideal S256x8192 .f32) (ix2 i j) = actOf m c (row t i) j := by
  obtain ⟨k, l, rfl⟩ := col_surj j
  unfold actAt
  rw [actB_chunk]
  exact act_at m c t k i l

/-- The codes' array after the run. -/
theorem codes_eq (c : Dev nD) : (dats m 0 c).arrAt 3 cfg0.N = codes m c := by
  refine (dats m 0 c).arrAt_eq_of_cover 3 _ (fun t _ => ?_) cover_3
  show (cfg0.win 3).cut (grid0.coords t) ((dats m 0 c).after 3 t) = _
  rw [after0_3]
  funext (y : S256x2048.Idx)
  obtain ⟨r, k, rfl⟩ : ∃ r k, y = ix2 r k := ⟨y 0, y 1, eq_ix2 y⟩
  refine Eq.trans (codesAt_apply m c t r k) ?_
  exact (congrArg (codes m c) (emb_3 t r k)).symm

/-- The activations' array after the run. -/
theorem act_eq (c : Dev nD) : (dats m 0 c).arrAt 4 cfg0.N = act m c := by
  refine (dats m 0 c).arrAt_eq_of_cover 4 _ (fun t _ => ?_) cover_4
  show (cfg0.win 4).cut (grid0.coords t) ((dats m 0 c).after 4 t) = _
  rw [after0_4]
  funext (y : S256x8192.Idx)
  obtain ⟨r, k, rfl⟩ : ∃ r k, y = ix2 r k := ⟨y 0, y 1, eq_ix2 y⟩
  refine Eq.trans (actAt_apply m c t r k) ?_
  exact (congrArg (act m c) (emb_4 t r k)).symm

/-- The maximum buffer's array after the run. -/
theorem max_eq (c : Dev nD) : (dats m 0 c).arrAt 5 cfg0.N = acc m c 83 := by
  refine (dats m 0 c).arrAt_eq_of_cover 5 _ (fun t ht => ?_) cover_5
  rw [read_5]
  show (cfg0.win 5).cut (grid0.coords t) ((dats m 0 c).after 5 t) = _
  rw [after0_5]
  have h1 := (flush0_5 t).mp ht
  have h2 : t.val < 84 := lt_of_lt_of_eq t.isLt N_0
  have h3 : t.val = 83 := by omega
  rw [h3]
  rfl

/-! ### The maximum, by its upper bounds -/

/-- Every element of a maximum buffer is at most `x`. -/
def Below (a : FVec Ideal S8x128 .f32) (x : EReal) : Prop := ∀ (r : Fin 8) (l : Fin 128), a (ix2 r l) ≤ x

theorem foldT_apply (a : FVec Ideal S8x128 .f32) (v : FVec Ideal S256x256 .f32) (r : Fin 8) (l : Fin 128) :
    foldT (F := Ideal) a v (ix2 r l) = max (a (ix2 r l)) (max
      (Finset.univ.fold max (Ideal.ofBits .f32 0xFF800000#32) fun g : Fin 32 => mag (v (ix2 ⟨g.val * 8 + r.val, by omega⟩ ⟨l.val, by omega⟩)))
      (Finset.univ.fold max (Ideal.ofBits .f32 0xFF800000#32) fun g : Fin 32 => mag (v (ix2 ⟨g.val * 8 + r.val, by omega⟩ ⟨128 + l.val, by omega⟩)))) := by
  pointwise [foldT]

theorem foldT_below (a : FVec Ideal S8x128 .f32) (v : FVec Ideal S256x256 .f32) (x : EReal) :
    Below (foldT (F := Ideal) a v) x ↔ Below a x ∧ ∀ i j : Fin 256, mag (v (ix2 i j)) ≤ x := by
  unfold Below
  simp only [foldT_apply, max_le_iff, maxOver_le]
  constructor
  · refine fun h => ⟨fun r l => (h r l).1, fun i j => ?_⟩
    have hi : (⟨i.val / 8 * 8 + i.val % 8, by omega⟩ : Fin 256) = i := Fin.ext (by show i.val / 8 * 8 + i.val % 8 = i.val; omega)
    by_cases hj : j.val < 128
    · have := (h ⟨i.val % 8, by omega⟩ ⟨j.val, hj⟩).2.1 ⟨i.val / 8, by omega⟩
      rwa [hi] at this
    · have := (h ⟨i.val % 8, by omega⟩ ⟨j.val - 128, by omega⟩).2.2 ⟨i.val / 8, by omega⟩
      have e : (⟨128 + (j.val - 128), by omega⟩ : Fin 256) = j := Fin.ext (by show 128 + (j.val - 128) = j.val; omega)
      rwa [hi, e] at this
  · exact fun h r l => ⟨h.1 r l, fun g => h.2 _ _, fun g => h.2 _ _⟩

theorem foldl_below {ι : Type} (f : ι → FVec Ideal S256x256 .f32) (x : EReal) (L : List ι) (a : FVec Ideal S8x128 .f32) :
    Below (L.foldl (fun a k => foldT (F := Ideal) a (f k)) a) x ↔ Below a x ∧ ∀ k ∈ L, ∀ i j : Fin 256, mag (f k (ix2 i j)) ≤ x := by
  induction L generalizing a with
  | nil => simp
  | cons k L ih =>
    rw [List.foldl_cons, ih, foldT_below, List.forall_mem_cons, and_assoc]

/-- A block's maximum joined onto `a`: its bounds are those of what it starts from and of the block's magnitudes. -/
theorem maxAt_below (c : Dev nD) (t : Fin cfg0.N) (a : FVec Ideal S8x128 .f32) (x : EReal) :
    Below (maxAt m c t a) x ↔ Below (k0_pay6 (F := Ideal) (grid0.coords t) a) x ∧ ∀ (i : Fin 256) (j : Fin 8192), mag (actOf m c (row t i) j) ≤ x := by
  unfold maxAt maxB
  rw [foldl_below]
  refine and_congr_right fun _ => ⟨fun h i j => ?_, fun h k _ i j => ?_⟩
  · obtain ⟨k, l, rfl⟩ := col_surj j
    rw [← act_at]
    exact h k (mem_chunks k) i l
  · rw [act_at]
    exact h i _

theorem coords_succ : ∀ t : Fin grid0.N, t.val ≠ 0 → (BitVec.ofNat 32 (grid0.coords t 0).val) ≠ 0#32 := by decide +kernel

theorem pay6_zero (i : grid0.Coords) (hi : (i 0).val = 0) (a : FVec Ideal S8x128 .f32) (x : EReal) :
    Below (k0_pay6 (F := Ideal) i a) x ↔ 0 ≤ x := by
  have e : k0_pay6 (F := Ideal) i a = fun _ => Ideal.ofBits .f32 0x00000000#32 := by
    unfold k0_pay6
    rw [hi]
    rfl
  rw [e, zero_f32]
  exact ⟨fun h => h 0 0, fun h _ _ => h⟩

theorem pay6_succ (i : grid0.Coords) (hi : BitVec.ofNat 32 (i 0).val ≠ 0#32) (a : FVec Ideal S8x128 .f32) :
    Below (k0_pay6 (F := Ideal) i a) = Below a := by
  have e : ∀ r l, k0_pay6 (F := Ideal) i a (ix2 r l) = a (ix2 r l) := by
    intro r l
    have hc : Scalar.cmpi .eq (BitVec.ofNat 32 (i 0).val) 0#32 = 0#1 := by
      show BitVec.ofBool (BitVec.ofNat 32 (i 0).val == 0#32) = 0#1
      rw [beq_eq_false_iff_ne.mpr hi]; rfl
    unfold k0_pay6
    dsimp only
    rw [hc]
    pointwise
  unfold Below
  simp only [e]

/-- The bounds of the maximum buffer after the first `n + 1` blocks. -/
theorem acc_below (c : Dev nD) (x : EReal) : ∀ n : ℕ, n < 84 →
    (Below (acc m c n) x ↔ 0 ≤ x ∧ ∀ t : Fin cfg0.N, t.val ≤ n → ∀ (i : Fin 256) (j : Fin 8192), mag (actOf m c (row t i) j) ≤ x) := by
  intro n
  induction n with
  | zero =>
    intro _
    rw [acc, maxAt_below, pay6_zero _ (coords_zero _ rfl)]
    refine and_congr_right fun _ => ⟨fun h t ht i j => ?_, fun h i j => h _ le_rfl i j⟩
    have e : t = ⟨0, by show 0 < grid0.N; rw [N_0]; omega⟩ := Fin.ext (Nat.le_zero.mp ht)
    rw [e]; exact h i j
  | succ n ih =>
    intro hn
    have hN : n + 1 < grid0.N := by rw [N_0]; exact hn
    rw [acc, dif_pos hN, maxAt_below, pay6_succ _ (coords_succ ⟨n + 1, hN⟩ (Nat.succ_ne_zero n)), ih (by omega), and_assoc]
    refine and_congr_right fun _ => ⟨fun h t ht i j => ?_, fun h => ⟨fun t ht => h t (by omega), fun i j => h _ le_rfl i j⟩⟩
    rcases Nat.lt_or_ge t.val (n + 1) with h' | h'
    · exact h.1 t (by omega) i j
    · have e : t = ⟨n + 1, hN⟩ := Fin.ext (by show t.val = n + 1; omega)
      rw [e]; exact h.2 i j

/-- The largest magnitude of the activations. -/
theorem top_le (c : Dev nD) (x : EReal) : (top (F := Ideal) (acc m c 83)) ix0 ≤ x ↔ ∀ (i : Fin 21504) (j : Fin 8192), mag (actOf m c i j) ≤ x := by
  have e : (top (F := Ideal) (acc m c 83)) ix0 ≤ x ↔ Below (acc m c 83) x := by
    generalize (acc m c 83) = M
    have e : (top (F := Ideal) M) ix0 = Finset.univ.fold max (Ideal.ofBits .f32 0xFF800000#32) fun k : Fin 8 × Fin 128 => (M : FVec Ideal S8x128 .f32) (ix2 k.1 k.2) := by
      pointwise [top]
    rw [e, maxOver_le]
    exact ⟨fun h r l => h (r, l), fun h k => h k.1 k.2⟩
  rw [e, acc_below m c x 83 (by omega)]
  constructor
  · intro h i j
    obtain ⟨t, r, rfl⟩ := row_surj i
    have ht : t.val < 84 := lt_of_lt_of_eq t.isLt N_0
    exact h.2 t (by omega) r j
  · exact fun h => ⟨le_trans (mag_nonneg _) (h 0 0), fun t _ i j => h _ j⟩

end AtIdeal

end Cert.GateupIdeal.Hand

end
-- ==== Proof.GateupRef.lean ====
/-
  The reference of the gate and up projections: what its one gridless kernel leaves in its two result arrays, as functions of
  the arguments.
-/
module

public import proofs.«01_k».proof.Proof.Math
public import proofs.«01_k».proof.Proof.Gen.GateupRefIdeal.Run
public import proofs.«01_k».proof.Proof.Gen.GateupRefIdeal.Read
public import Idealize.ShloMosaic.Lib.Pipeline.Value
public import Idealize.ShloMosaic.Lib.UnfoldOut

@[expose] public section

set_option maxRecDepth 16384

noncomputable section

namespace Cert.GateupRefIdeal.Hand

open Cert.GateupRefIdeal Cert.GateupRefIdeal.Gen Idealize.ShloMosaic Idealize.ShloMosaic.TcCoe Idealize.SL.Sem
open Idealize.ShloMosaic.Pipeline (Dat)
open Idealize.ShloMosaic.Pointwise

variable {F : FTy → Type} [FloatOps F]
variable (m : (ℓ : Loc nD τ sig) → Buf (Elt F) ℓ)

/-- Every window's one block starts at the array's origin. -/
theorem index0_0 : ∀ (t : Fin cfg0.N) (a : Fin win0_0.shape.rank), win0_0.index t a = 0 :=
  (by decide +kernel : ∀ (t : Fin grid0.N) (a : Fin win0_0.shape.rank), win0_0.index t a = 0)
theorem index0_1 : ∀ (t : Fin cfg0.N) (a : Fin win0_1.shape.rank), win0_1.index t a = 0 :=
  (by decide +kernel : ∀ (t : Fin grid0.N) (a : Fin win0_1.shape.rank), win0_1.index t a = 0)
theorem index0_2 : ∀ (t : Fin cfg0.N) (a : Fin win0_2.shape.rank), win0_2.index t a = 0 :=
  (by decide +kernel : ∀ (t : Fin grid0.N) (a : Fin win0_2.shape.rank), win0_2.index t a = 0)
theorem index0_3 : ∀ (t : Fin cfg0.N) (a : Fin win0_3.shape.rank), win0_3.index t a = 0 :=
  (by decide +kernel : ∀ (t : Fin grid0.N) (a : Fin win0_3.shape.rank), win0_3.index t a = 0)
theorem index0_4 : ∀ (t : Fin cfg0.N) (a : Fin win0_4.shape.rank), win0_4.index t a = 0 :=
  (by decide +kernel : ∀ (t : Fin grid0.N) (a : Fin win0_4.shape.rank), win0_4.index t a = 0)

/-- So each input block is its whole array. -/
theorem iblk_0 (c : Dev nD) (t : Fin cfg0.N) : iblk m c 0 t = V m c main_arg0 :=
  funext fun y => congrArg (V m c main_arg0) (funext fun a => Fin.ext (win0_0.rect_emb_val_of_index_zero t a (index0_0 t a) y))
theorem iblk_1 (c : Dev nD) (t : Fin cfg0.N) : iblk m c 1 t = V m c main_v1 :=
  funext fun y => congrArg (V m c main_v1) (funext fun a => Fin.ext (win0_1.rect_emb_val_of_index_zero t a (index0_1 t a) y))
theorem iblk_2 (c : Dev nD) (t : Fin cfg0.N) : iblk m c 2 t = V m c main_v0 :=
  funext fun y => congrArg (V m c main_v0) (funext fun a => Fin.ext (win0_2.rect_emb_val_of_index_zero t a (index0_2 t a) y))

/-- and reading a whole array through an output's one block is the array. -/
theorem read_3 (t : Fin cfg0.N) (G : S21504x2048.Idx → Elt F .fp8e4m3) : (win0_3.blk t).view.read (Elt F) G = G :=
  funext fun y => congrArg G (funext fun a => Fin.ext (win0_3.rect_emb_val_of_index_zero t a (index0_3 t a) y))
theorem read_4 (t : Fin cfg0.N) (G : S21504x16384.Idx → Elt F .f32) : (win0_4.blk t).view.read (Elt F) G = G :=
  funext fun y => congrArg G (funext fun a => Fin.ext (win0_4.rect_emb_val_of_index_zero t a (index0_4 t a) y))

theorem cover_3 (i : S21504x2048.Idx) : ∃ t : Fin cfg0.N, (cfg0.win 3).flush t = true ∧ i ∈ ((cfg0.win 3).blk t).view.set := by
  refine ⟨⟨0, by show 0 < grid0.N; rw [N_0]; exact Nat.one_pos⟩, flush0_3 _, ?_⟩
  generalize (⟨0, by show 0 < grid0.N; rw [N_0]; exact Nat.one_pos⟩ : Fin cfg0.N) = t
  have h := ((cfg0.win 3).blk t).view.emb_mem_set i
  have e : ((cfg0.win 3).blk t).view.emb i = i :=
    funext fun a => Fin.ext (win0_3.rect_emb_val_of_index_zero t a (index0_3 t a) i)
  rwa [e] at h
theorem cover_4 (i : S21504x16384.Idx) : ∃ t : Fin cfg0.N, (cfg0.win 4).flush t = true ∧ i ∈ ((cfg0.win 4).blk t).view.set := by
  refine ⟨⟨0, by show 0 < grid0.N; rw [N_0]; exact Nat.one_pos⟩, flush0_4 _, ?_⟩
  generalize (⟨0, by show 0 < grid0.N; rw [N_0]; exact Nat.one_pos⟩ : Fin cfg0.N) = t
  have h := ((cfg0.win 4).blk t).view.emb_mem_set i
  have e : ((cfg0.win 4).blk t).view.emb i = i :=
    funext fun a => Fin.ext (win0_4.rect_emb_val_of_index_zero t a (index0_4 t a) i)
  rwa [e] at h

theorem hz2 : (![0, 0] : Fin 2 → Nat) = fun _ => 0 := funext fun a => by fin_cases a <;> rfl
theorem hz1 : (![0] : Fin 1 → Nat) = fun _ => 0 := funext fun a => by fin_cases a <;> rfl

/-- The scale, read from its one-word array. -/
abbrev scaleWord (x : Vec F S1 .f32) : F .f32 := x (ix1 0)

/-- What the kernel leaves in the codes' staging buffer is its quantising payload of the input blocks. -/
theorem outs_3 (c : Dev nD) (t : Fin cfg0.N) :
    (outsAt0 m c t).1 = k0_pay1 (iblk m c 0 t) (scaleWord (iblk m c 1 t)) := by
  unfold outsAt0 out0_A_3
  dsimp only
  rw [View.read_writes_eq_canon _ _ _ (cover0_A_3 c _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero hz2, View.ld_unit_zero hz2, View.ld_unit_zero hz1]
  exact congrArg (k0_pay1 (iblk m c 0 t)) (congrArg (iblk m c 1 t) (eq_ix1 _))

/-- and in the product's, its product payload. -/
theorem outs_4 (c : Dev nD) (t : Fin cfg0.N) :
    (outsAt0 m c t).2 = k0_pay2 (iblk m c 0 t) (scaleWord (iblk m c 1 t)) (iblk m c 2 t) := by
  unfold outsAt0 out0_A_4
  dsimp only
  rw [View.read_writes_eq_canon _ _ _ (cover0_A_4 c _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero hz2]
  repeat first | rw [View.ld_unit_zero hz2] | rw [View.ld_unit_zero hz1]
  exact congrArg (fun w => k0_pay2 (iblk m c 0 t) w (iblk m c 2 t)) (congrArg (iblk m c 1 t) (eq_ix1 _))

theorem V_main_v1 (c : Dev nD) : V m c main_v1 = shapeCast S1 (m ((c.tc : Thread nD τ).loc main_arg1)) shapeCasts_S_S1 := by
  show StableHlo.after hostOps0 _ _ = _
  after_results
  try rfl
theorem V_main_v0 (c : Dev nD) : V m c main_v0 = shapeCast S2048x16384 (m ((c.tc : Thread nD τ).loc main_arg2)) shapeCasts_S2048x2x8192_S2048x16384 := by
  show StableHlo.after hostOps0 _ _ = _
  after_results
  try rfl

/-- The codes' array after the region. -/
theorem codes_eq (c : Dev nD) :
    Value.reg_main_v2_0 m c = k0_pay1 (m ((c.tc : Thread nD τ).loc main_arg0)) (m ((c.tc : Thread nD τ).loc main_arg1) ix0) := by
  refine (dats m 0 c).arrAt_eq_of_cover 3 _ (fun t _ => ?_) cover_3
  rw [read_3]
  show (cfg0.win 3).cut (grid0.coords t) ((dats m 0 c).after 3 t) = _
  rw [after0_3, outs_3, iblk_0, iblk_1, V_main_arg0, V_main_v1]
  exact congrArg (k0_pay1 _) (by pointwise)

/-- The product's array after the region. -/
theorem prod_eq (c : Dev nD) :
    Value.reg_main_v2_1 m c = k0_pay2 (m ((c.tc : Thread nD τ).loc main_arg0)) (m ((c.tc : Thread nD τ).loc main_arg1) ix0) (shapeCast S2048x16384 (m ((c.tc : Thread nD τ).loc main_arg2)) shapeCasts_S2048x2x8192_S2048x16384) := by
  refine (dats m 0 c).arrAt_eq_of_cover 4 _ (fun t _ => ?_) cover_4
  rw [read_4]
  show (cfg0.win 4).cut (grid0.coords t) ((dats m 0 c).after 4 t) = _
  rw [after0_4, outs_4, iblk_0, iblk_1, iblk_2, V_main_arg0, V_main_v1, V_main_v0]
  exact congrArg (fun w => k0_pay2 _ w _) (by pointwise)

/-! ## At the extended reals, element by element -/

section AtIdeal

/-- The quantising payload at an index. -/
theorem pay1_apply (v : FVec Ideal S21504x2048 .f32) (s : Ideal .f32) (i : Fin 21504) (k : Fin 2048) :
    k0_pay1 (F := Ideal) v s (ix2 i k) = Cert.Proof.Math.quant (v (ix2 i k)) s := by
  pointwise [k0_pay1, Cert.Proof.Math.quant]

/-- The product payload at an index. -/
theorem pay2_apply (v : FVec Ideal S21504x2048 .f32) (s : Ideal .f32) (w : FVec Ideal S2048x16384 .fp8e4m3) (i : Fin 21504) (j : Fin 16384) :
    k0_pay2 (F := Ideal) v s w (ix2 i j) = ∑ k : Fin 2048, Cert.Proof.Math.quant (v (ix2 i k)) s * w (ix2 k j) := by
  pointwise [k0_pay2, k0_pay1, Cert.Proof.Math.quant]

end AtIdeal

end Cert.GateupRefIdeal.Hand

end
-- ==== Proof.GateupClaim.lean ====
/-
  The gate and up projections: from arguments that agree, the kernel's codes, activations and scale and the reference's
  are equal as extended reals.
-/
module

public import proofs.«01_k».proof.Defs
public import proofs.«01_k».proof.Proof.GateupKernel
public import proofs.«01_k».proof.Proof.GateupRef

@[expose] public section

set_option maxRecDepth 16384

noncomputable section

namespace Cert.Proof.GateupClaim

open Idealize.ShloMosaic Idealize.ShloMosaic.TcCoe Idealize.SL.Sem
open Idealize.ShloMosaic.Pointwise
open Cert.Proof.Math

section Ref
open Cert.GateupRefIdeal Cert.GateupRefIdeal.Gen Cert.GateupRefIdeal.Read

/-- Column `e * 8192 + j` of the two weights side by side is column `j` of weight `e`. -/
theorem wts_flat (a : FVec Ideal S2048x2x8192 .fp8e4m3) (k : Fin 2048) (e : Fin 2) (j : Fin 8192) (h) :
    shapeCast S2048x16384 a shapeCasts_S2048x2x8192_S2048x16384 (ix2 k ⟨8192 * e.val + j.val, h⟩) = a (ix3 k e j) :=
  shapeCast_apply a shapeCasts_S2048x2x8192_S2048x16384 _ (ix3 k e j) (by
    rewrite [Shape.rowMajor_val_three, Shape.rowMajor_val_two]
    show (k.val * 2 + e.val) * 8192 + j.val = k.val * 16384 + (8192 * e.val + j.val)
    omega)

theorem ref_g (x1 x3 : FVec Ideal S_ .f32) (r : FVec Ideal S21504x16384 .f32) (i : Fin 21504) (j : Fin 8192) :
    val_main_v8 (F := Ideal) x1 x3 r (ix2 i j) = r (ix2 i ⟨8192 * (0 : Fin 2).val + j.val, by show 8192 * 0 + j.val < 16384; omega⟩) * (x1 ix0 * x3 ix0) := by
  have e : (⟨8192 * (0 : Fin 2).val + j.val, by show 8192 * 0 + j.val < 16384; omega⟩ : Fin 16384) = ⟨j.val, by omega⟩ := Fin.ext (by
    show 8192 * 0 + j.val = j.val; omega)
  rw [e]
  pointwise [val_main_v8, val_main_v7, val_main_v6, val_main_v5, val_main_v4, val_main_v3]
theorem ref_u (x1 x3 : FVec Ideal S_ .f32) (r : FVec Ideal S21504x16384 .f32) (i : Fin 21504) (j : Fin 8192) :
    val_main_v11 (F := Ideal) x1 x3 r (ix2 i j) = r (ix2 i ⟨8192 * (1 : Fin 2).val + j.val, by show 8192 * 1 + j.val < 16384; omega⟩) * (x1 ix0 * x3 ix0) := by
  have e : (⟨8192 * (1 : Fin 2).val + j.val, by show 8192 * 1 + j.val < 16384; omega⟩ : Fin 16384) = ⟨8192 + j.val, by omega⟩ := Fin.ext (by
    show 8192 * 1 + j.val = 8192 + j.val; omega)
  rw [e]
  pointwise [val_main_v11, val_main_v10, val_main_v6, val_main_v5, val_main_v4, val_main_v3]

/-- The reference's activation: the gate's value by its sigmoid, by the up projection's value. -/
theorem ref_act (x1 x3 : FVec Ideal S_ .f32) (r : FVec Ideal S21504x16384 .f32) (i : Fin 21504) (j : Fin 8192) :
    val_main_v12 (F := Ideal) x1 x3 r (ix2 i j)
      = val_main_v8 (F := Ideal) x1 x3 r (ix2 i j) * Ideal.logistic (val_main_v8 (F := Ideal) x1 x3 r (ix2 i j)) * val_main_v11 (F := Ideal) x1 x3 r (ix2 i j) := by
  generalize h8 : val_main_v8 (F := Ideal) x1 x3 r = p
  generalize h11 : val_main_v11 (F := Ideal) x1 x3 r = q
  pointwise [val_main_v12, val_main_v9, val_main_call0_v5, val_main_call0_v4, val_main_call0_v3, val_main_call0_v2, val_main_call0_v1,
    val_main_call0_v0, val_main_call0_cst, val_main_call0_cst_0, h8, h11]
  rfl

/-- The bounds of the reference's largest magnitude. -/
theorem ref_max_le (x1 x3 : FVec Ideal S_ .f32) (r : FVec Ideal S21504x16384 .f32) (x : EReal) :
    (val_main_v14 (F := Ideal) x1 x3 r : FVec Ideal S_ .f32) ix0 ≤ x ↔ ∀ (i : Fin 21504) (j : Fin 8192), mag (val_main_v12 (F := Ideal) x1 x3 r (ix2 i j)) ≤ x := by
  have e : (val_main_v14 (F := Ideal) x1 x3 r : FVec Ideal S_ .f32) ix0
      = Finset.univ.fold max (Ideal.ofBits .f32 0xFF800000#32) fun k : Fin 21504 × Fin 8192 => mag (val_main_v12 (F := Ideal) x1 x3 r (ix2 k.1 k.2)) := by
    unfold val_main_v14 val_main_v13
    generalize val_main_v12 (F := Ideal) x1 x3 r = d
    pointwise [val_main_cst]
  rw [e, maxOver_le]
  exact ⟨fun h i j => h (i, j), fun h k => h k.1 k.2⟩

end Ref

/-- The claim. -/
theorem algebraic [h : Cert.GateupIdeal.Facts] [h' : Cert.GateupRefIdeal.Facts] : Cert.algebraic_GateupIdeal_GateupRefIdeal := by
  intro m g m' g' _ hagree
  refine ⟨fun c => GateupIdeal.Hand.codes m c, fun c => GateupIdeal.Hand.act m c,
    fun c => GateupIdeal.Hand.scaleOf (GateupIdeal.Hand.top (F := Ideal) (GateupIdeal.Hand.acc m c 83)), ?_, ?_⟩
  · refine (θ_run Cert.GateupIdeal.defs _ _).mono (fun _ h c => ?_) (Cert.GateupIdeal.Hand.run (F := Ideal) m g)
    obtain ⟨h0, h1, h2, hrest⟩ := h c
    exact ⟨h0.trans (GateupIdeal.Hand.codes_eq m c), h1.trans (GateupIdeal.Hand.act_eq m c),
      h2.trans (by rw [GateupIdeal.Hand.max_eq m c]), hrest⟩
  · refine (θ_run Cert.GateupRefIdeal.defs _ _).mono (fun _ h c => ?_) (Cert.GateupRefIdeal.Value.run (F := Ideal) m' g')
    obtain ⟨h0, h1, h2, hrest⟩ := h c
    obtain ⟨e0, e1, e2, e3⟩ := hagree c
    have hp : ∀ (i : Fin 21504) (e : Fin 2) (j : Fin 8192) (hj),
        @Eq EReal (GateupRefIdeal.Value.reg_main_v2_1 (F := Ideal) m' c (ix2 i ⟨8192 * e.val + j.val, hj⟩))
          (qdot (fun k => GateupIdeal.Hand.h1 m c (ix2 i k)) (GateupIdeal.Hand.h1Scale m c) (fun k => GateupIdeal.Hand.wts m c (ix3 k e j))) := by
      intro i e j hj
      rw [GateupRefIdeal.Hand.prod_eq, GateupRefIdeal.Hand.pay2_apply, e0, e1, e2]
      refine Finset.sum_congr rfl fun k _ => ?_
      rw [wts_flat]
    have ha : ∀ (i : Fin 21504) (j : Fin 8192), GateupRefIdeal.Read.val_main_v12 (F := Ideal)
        (m' ((c.tc : Thread Cert.GateupRefIdeal.nD Cert.GateupRefIdeal.τ).loc Cert.GateupRefIdeal.main_arg1))
        (m' ((c.tc : Thread Cert.GateupRefIdeal.nD Cert.GateupRefIdeal.τ).loc Cert.GateupRefIdeal.main_arg3))
        (GateupRefIdeal.Value.reg_main_v2_1 m' c) (ix2 i j) = GateupIdeal.Hand.actOf m c i j := by
      intro i j
      rw [ref_act, ref_g, ref_u, e1, e3, hp, hp]
      rfl
    refine ⟨h0.trans ?_, h1.trans ?_, h2.trans ?_, hrest⟩
    · funext (y : Cert.GateupRefIdeal.S21504x2048.Idx)
      obtain ⟨i, k, rfl⟩ : ∃ i k, y = ix2 i k := ⟨y 0, y 1, eq_ix2 y⟩
      rw [GateupRefIdeal.Hand.codes_eq, GateupRefIdeal.Hand.pay1_apply, e0, e1]
      rfl
    · funext (y : Cert.GateupRefIdeal.S21504x8192.Idx)
      obtain ⟨i, j, rfl⟩ : ∃ i j, y = ix2 i j := ⟨y 0, y 1, eq_ix2 y⟩
      exact ha i j
    · refine congrArg (GateupIdeal.Hand.scaleOf (F := Ideal)) (a₁ := GateupRefIdeal.Read.val_main_v14 (F := Ideal)
        (m' ((c.tc : Thread Cert.GateupRefIdeal.nD Cert.GateupRefIdeal.τ).loc Cert.GateupRefIdeal.main_arg1))
        (m' ((c.tc : Thread Cert.GateupRefIdeal.nD Cert.GateupRefIdeal.τ).loc Cert.GateupRefIdeal.main_arg3))
        (GateupRefIdeal.Value.reg_main_v2_1 m' c)) ?_
      funext (y : Cert.GateupRefIdeal.S_.Idx)
      obtain rfl : y = ix0 := funext fun a => a.elim0
      refine eq_of_bounds fun x => (ref_max_le _ _ _ x).trans ((forall_congr' fun i => forall_congr' fun j => ?_).trans (GateupIdeal.Hand.top_le m c x).symm)
      rw [ha]

end Cert.Proof.GateupClaim

end
-- ==== Proof.OprojFrame.lean ====
/-
  The output projection: the 84 row blocks run one after the other. Each stores its codes, its product, its hidden
  state, and joins the maximum of its hidden state onto what the block before left in the one maximum buffer; the first
  block starts from zero, whatever the buffer held.
-/
module

public import proofs.«01_k».proof.Proof.Gen.Oproj.Skeleton
public import proofs.«01_k».proof.Proof.Gen.Oproj.Frame
public import Idealize.ShloMosaic.Lib.Pipeline.Value
public import Idealize.ShloMosaic.Lib.UnfoldOut
public import Idealize.ShloMosaic.Lib.Claim
public import Idealize.ShloMosaic.Lib.Pointwise

@[expose] public section

set_option maxRecDepth 65536

noncomputable section

namespace Cert.Oproj.Hand

open Cert.Oproj Cert.Oproj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A buffer stored to whole, once, holds what was stored. -/
theorem read_stored {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- The two scales, read from their array. -/
abbrev word0 (x : Vec F S2 .f32) : F .f32 := x (ix1 0)
abbrev word1 (x : Vec F S2 .f32) : F .f32 := x (ix1 1)

theorem ld_word0 (x : Vec F S2 .f32) (h) (y) : View.ld x (Rect.unit (s := S2) ![0] ![1] h) y = word0 x := by
  refine congrArg x (funext fun a => Fin.ext ?_)
  match a with
  | ⟨0, _⟩ => have : (y 0 : Nat) < 1 := (y 0).isLt
              show 0 + 1 * (y 0 : Nat) = 0
              omega
theorem ld_word1 (x : Vec F S2 .f32) (h) (y) : View.ld x (Rect.unit (s := S2) ![1] ![1] h) y = word1 x := by
  refine congrArg x (funext fun a => Fin.ext ?_)
  match a with
  | ⟨0, _⟩ => have : (y 0 : Nat) < 1 := (y 0).isLt
              show 1 + 1 * (y 0 : Nat) = 1
              omega

/-! ## One row block -/

/-- A row block's codes. -/
def codesB (x0 : Vec F S2 .f32) (x1 : Vec F S256x2048 .f32) : Vec F S256x2048 .fp8e4m3 := k0_pay1 x1 (word0 x0)
/-- Its product, rescaled, and the same in the working type. -/
def dotB (x0 : Vec F S2 .f32) (x1 : Vec F S256x2048 .f32) (x3 : Vec F S2048x2048 .fp8e4m3) : FVec F S256x2048 .f32 :=
  k0_pay2 (codesB x0 x1) x3 (word0 x0) (word1 x0)
def prodB (x0 : Vec F S2 .f32) (x1 : Vec F S256x2048 .f32) (x3 : Vec F S2048x2048 .fp8e4m3) : Vec F S256x2048 .bf16 :=
  k0_pay3 (codesB x0 x1) x3 (word0 x0) (word1 x0)
/-- The reciprocal roots of its rows. -/
def rootB (x0 : Vec F S2 .f32) (x1 : Vec F S256x2048 .f32) (x3 : Vec F S2048x2048 .fp8e4m3) : FVec F S256x1 .f32 :=
  k0_pay4 (codesB x0 x1) x3 (word0 x0) (word1 x0)
/-- Its hidden state. -/
def hidB (x0 : Vec F S2 .f32) (x1 : Vec F S256x2048 .f32) (x2 : Vec F S256x2048 .bf16) (x3 : Vec F S2048x2048 .fp8e4m3) (x4 : Vec F S1x2048 .f32) :
    Vec F S256x2048 .f32 := k0_pay6 (dotB x0 x1 x3) (rootB x0 x1 x3) (k0_pay5 x2) x4
/-- The maximum of its hidden state, joined onto `a`. -/
def maxB (i : grid0.Coords) (x0 : Vec F S2 .f32) (x1 : Vec F S256x2048 .f32) (x2 : Vec F S256x2048 .bf16) (x3 : Vec F S2048x2048 .fp8e4m3)
    (x4 : Vec F S1x2048 .f32) (a : Vec F S8x128 .f32) : Vec F S8x128 .f32 :=
  k0_pay7 (BitVec.ofNat 32 (i 0).val) (dotB x0 x1 x3) (rootB x0 x1 x3) (k0_pay5 x2) x4 a

set_option maxHeartbeats 4000000 in
/-- One run of the body: the inputs are left as they were, the codes, product and hidden state are the block's own, and
    the maximum buffer goes from `x8` to the block's maximum joined onto `x8` (onto zero at the first block). -/
theorem body_run (c : Dev nD) (i : grid0.Coords) (arg1 : Memref sig .tc .smem S2 .f32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S2048x2048 .fp8e4m3) (harg4 : arg4.IsWhole) (arg5 : Memref sig .tc .vmem S1x2048 .f32) (harg5 : arg5.IsWhole) (arg6 : Memref sig .tc .vmem S256x2048 .fp8e4m3) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S8x128 .f32) (harg9 : arg9.IsWhole)
    (x0 : Vec F S2 .f32) (x1 : Vec F S256x2048 .f32) (x2 : Vec F S256x2048 .bf16) (x3 : Vec F S2048x2048 .fp8e4m3) (x4 : Vec F S1x2048 .f32) (x5 : Vec F S256x2048 .fp8e4m3) (x6 : Vec F S256x2048 .bf16) (x7 : Vec F S256x2048 .f32) (x8 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesB x0 x1) ∗ owns (c : Thread nD τ) arg7 fullShare (prodB x0 x1 x3) ∗ owns (c : Thread nD τ) arg8 fullShare (hidB x0 x1 x2 x3 x4) ∗ owns (c : Thread nD τ) arg9 fullShare (maxB i x0 x1 x2 x3 x4 x8)) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9) K := by
  simp only [cc0_oproj_eq_skeleton]; unfold cc0_oproj_skel
  simp only [k0_part1_eq_skeleton, k0_part2_eq_skeleton]
  unfold k0_part1_skel; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg9.eq_unread hf8
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    simp only [View.readAt_eq_ld, harg1.read_unread, harg2.read_unread, harg3.read_unread, harg4.read_unread, harg5.read_unread, harg9.read_unread]
    rw [read_stored _ _ hz2]
    repeat first | rw [View.readCov_unit_zero _ hz2] | rw [View.ld_unit_zero hz2] | rw [ld_word0] | rw [ld_word1]
    try rfl
  isplitl [H6]
  · iexists _; isplitr
    swap; · iexact H6
    ipureintro
    sl_unfold_words
    simp only [View.readAt_eq_ld, harg1.read_unread, harg2.read_unread, harg3.read_unread, harg4.read_unread, harg5.read_unread, harg9.read_unread]
    rw [read_stored _ _ hz2]
    repeat first | rw [View.readCov_unit_zero _ hz2] | rw [View.ld_unit_zero hz2] | rw [ld_word0] | rw [ld_word1]
    try rfl
  isplitl [H7]
  · iexists _; isplitr
    swap; · iexact H7
    ipureintro
    sl_unfold_words
    simp only [View.readAt_eq_ld, harg1.read_unread, harg2.read_unread, harg3.read_unread, harg4.read_unread, harg5.read_unread, harg9.read_unread]
    rw [read_stored _ _ hz2]
    repeat first | rw [View.readCov_unit_zero _ hz2] | rw [View.ld_unit_zero hz2] | rw [ld_word0] | rw [ld_word1]
    try rfl
  · iexists _; isplitr
    swap; · iexact H8
    ipureintro
    sl_unfold_words
    simp only [View.readAt_eq_ld, harg1.read_unread, harg2.read_unread, harg3.read_unread, harg4.read_unread, harg5.read_unread, harg9.read_unread]
    rw [read_stored _ _ hz2]
    repeat first | rw [View.readCov_unit_zero _ hz2] | rw [View.ld_unit_zero hz2] | rw [ld_word0] | rw [ld_word1]
    try rfl

/-! ## The pipeline -/

variable (m : (ℓ : Loc nD τ sig) → Buf (Elt F) ℓ) (ρ : Dev nD → PrngReg)

/-- A block's codes, product, hidden state, and its maximum joined onto `a`, at grid point `t`. -/
def codesAt (c : Dev nD) (t : Fin cfg0.N) : Vec F S256x2048 .fp8e4m3 := codesB (iblk m c 0 t) (iblk m c 1 t)
def prodAt (c : Dev nD) (t : Fin cfg0.N) : Vec F S256x2048 .bf16 := prodB (iblk m c 0 t) (iblk m c 1 t) (iblk m c 3 t)
def hidAt (c : Dev nD) (t : Fin cfg0.N) : Vec F S256x2048 .f32 := hidB (iblk m c 0 t) (iblk m c 1 t) (iblk m c 2 t) (iblk m c 3 t) (iblk m c 4 t)
def maxAt (c : Dev nD) (t : Fin cfg0.N) (a : Vec F S8x128 .f32) : Vec F S8x128 .f32 :=
  maxB (grid0.coords t) (iblk m c 0 t) (iblk m c 1 t) (iblk m c 2 t) (iblk m c 3 t) (iblk m c 4 t) a

/-- What the maximum buffer holds after the first `n + 1` blocks. -/
def acc (c : Dev nD) : ℕ → Vec F S8x128 .f32
  | 0 => maxAt m c ⟨0, by show 0 < grid0.N; rw [N_0]; omega⟩ (constant S8x128 .f32 0x00000000#32)
  | n + 1 => if h : n + 1 < grid0.N then maxAt m c ⟨n + 1, h⟩ (acc c n) else acc c n

/-- The first block does not read what the maximum buffer held. -/
theorem first_block (v19 : FVec F S256x2048 .f32) (v31 : FVec F S256x1 .f32) (v34 : FVec F S256x2048 .f32) (v37 : Vec F S1x2048 .f32)
    (x x' : Vec F S8x128 .f32) : k0_pay7 0#32 v19 v31 v34 v37 x = k0_pay7 0#32 v19 v31 v34 v37 x' := by
  unfold k0_pay7
  rfl

theorem coords_zero : ∀ t : Fin grid0.N, t.val = 0 → (grid0.coords t 0).val = 0 := by decide +kernel

theorem maxAt_first (c : Dev nD) (t : Fin cfg0.N) (ht : t.val = 0) (a a' : Vec F S8x128 .f32) : maxAt m c t a = maxAt m c t a' := by
  unfold maxAt maxB
  rw [coords_zero t ht]
  exact first_block _ _ _ _ a a'

/-- The proof data of the pipeline: the inputs stay in place, codes, product and hidden state are the block's, and the
    maximum buffer holds `acc`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesAt m c t
    | ⟨6, _⟩ => prodAt m c t
    | ⟨7, _⟩ => hidAt m c t
    | ⟨8, _⟩ => acc m c t.val
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesAt m c t := by dsimp only [dats]
theorem after0_6 (c : Dev nD) (t : Fin cfg0.N) : (dats m 0 c).after 6 t = prodAt m c t := by dsimp only [dats]
theorem after0_7 (c : Dev nD) (t : Fin cfg0.N) : (dats m 0 c).after 7 t = hidAt m c t := by dsimp only [dats]
theorem after0_8 (c : Dev nD) (t : Fin cfg0.N) : (dats m 0 c).after 8 t = acc m c t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body finds in the maximum buffer leads it to `acc` at every block. -/
theorem acc_step (c : Dev nD) (t : Fin cfg0.N) (d) : maxAt m c t ((dats m 0 c).before 8 t d) = acc m c t.val := by
  obtain ⟨n, hn⟩ := t
  cases n with
  | zero => exact maxAt_first m c ⟨0, hn⟩ rfl _ _
  | succ n =>
    have hn' : n + 1 < 84 := by have h : n + 1 < grid0.N := hn; rwa [N_0] at h
    have hb : (dats m 0 c).before 8 ⟨n + 1, hn⟩ d = acc m c n := by
      refine ((dats m 0 c).before_out_kept 8 rfl ⟨n + 1, hn⟩ (Nat.succ_ne_zero n) ?_ (fun _ => rfl) (fun _ _ => rfl) d).trans (after0_8 m c _)
      refine Bool.eq_false_iff.mpr fun hf => ?_
      have := (flush0_8 _).mp hf
      have e : (n + 1 - 1) % 84 = 83 := this
      omega
    rw [hb]
    show _ = acc m c (n + 1)
    rw [acc, dif_pos (show n + 1 < grid0.N from hn)]

abbrev ms0_0 (t : Fin cfg0.N) : Memref sig .tc .smem S2 .f32 := win0_0.stage (cfg0.slots t 0)
abbrev ms0_1 (t : Fin cfg0.N) : Memref sig .tc .vmem S256x2048 .f32 := win0_1.stage (cfg0.slots t 1)
abbrev ms0_2 (t : Fin cfg0.N) : Memref sig .tc .vmem S256x2048 .bf16 := win0_2.stage (cfg0.slots t 2)
abbrev ms0_3 (t : Fin cfg0.N) : Memref sig .tc .vmem S2048x2048 .fp8e4m3 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S256x2048 .fp8e4m3 := win0_5.stage (cfg0.slots t 5)
abbrev ms0_6 (t : Fin cfg0.N) : Memref sig .tc .vmem S256x2048 .bf16 := win0_6.stage (cfg0.slots t 6)
abbrev ms0_7 (t : Fin cfg0.N) : Memref sig .tc .vmem S256x2048 .f32 := win0_7.stage (cfg0.slots t 7)
abbrev ms0_8 (t : Fin cfg0.N) : Memref sig .tc .vmem S8x128 .f32 := win0_8.stage (cfg0.slots t 8)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← acc_step m c t d8]
  iapply (body_run c (grid0.coords t) _ _ _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) ((dats m 0 c).before 7 t d7) ((dats m 0 c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array as the proof data leave it, and every semaphore back at zero. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1, hostOps1_1])) :=
  (θ_run defs _ _).mono (fun _ h => h.1) (run_main_quiescent m ρ)

/-- The arguments end unchanged, and every semaphore is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Oproj.Hand

end
-- ==== Proof.OprojIdealFrame.lean ====
/-
  The output projection: the 84 row blocks run one after the other. Each stores its codes, its product, its hidden
  state, and joins the maximum of its hidden state onto what the block before left in the one maximum buffer; the first
  block starts from zero, whatever the buffer held.
-/
module

public import proofs.«01_k».proof.Proof.Gen.OprojIdeal.Skeleton
public import proofs.«01_k».proof.Proof.Gen.OprojIdeal.Frame
public import Idealize.ShloMosaic.Lib.Pipeline.Value
public import Idealize.ShloMosaic.Lib.UnfoldOut
public import Idealize.ShloMosaic.Lib.Claim
public import Idealize.ShloMosaic.Lib.Pointwise

@[expose] public section

set_option maxRecDepth 65536

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A buffer stored to whole, once, holds what was stored. -/
theorem read_stored {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- The two scales, read from their array. -/
abbrev word0 (x : Vec F S2 .f32) : F .f32 := x (ix1 0)
abbrev word1 (x : Vec F S2 .f32) : F .f32 := x (ix1 1)

theorem ld_word0 (x : Vec F S2 .f32) (h) (y) : View.ld x (Rect.unit (s := S2) ![0] ![1] h) y = word0 x := by
  refine congrArg x (funext fun a => Fin.ext ?_)
  match a with
  | ⟨0, _⟩ => have : (y 0 : Nat) < 1 := (y 0).isLt
              show 0 + 1 * (y 0 : Nat) = 0
              omega
theorem ld_word1 (x : Vec F S2 .f32) (h) (y) : View.ld x (Rect.unit (s := S2) ![1] ![1] h) y = word1 x := by
  refine congrArg x (funext fun a => Fin.ext ?_)
  match a with
  | ⟨0, _⟩ => have : (y 0 : Nat) < 1 := (y 0).isLt
              show 1 + 1 * (y 0 : Nat) = 1
              omega

/-! ## One row block -/

/-- A row block's codes. -/
def codesB (x0 : Vec F S2 .f32) (x1 : Vec F S256x2048 .f32) : Vec F S256x2048 .fp8e4m3 := k0_pay1 x1 (word0 x0)
/-- Its product, rescaled, and the same in the working type. -/
def dotB (x0 : Vec F S2 .f32) (x1 : Vec F S256x2048 .f32) (x3 : Vec F S2048x2048 .fp8e4m3) : FVec F S256x2048 .f32 :=
  k0_pay2 (codesB x0 x1) x3 (word0 x0) (word1 x0)
def prodB (x0 : Vec F S2 .f32) (x1 : Vec F S256x2048 .f32) (x3 : Vec F S2048x2048 .fp8e4m3) : Vec F S256x2048 .bf16 :=
  k0_pay3 (codesB x0 x1) x3 (word0 x0) (word1 x0)
/-- The reciprocal roots of its rows. -/
def rootB (x0 : Vec F S2 .f32) (x1 : Vec F S256x2048 .f32) (x3 : Vec F S2048x2048 .fp8e4m3) : FVec F S256x1 .f32 :=
  k0_pay4 (codesB x0 x1) x3 (word0 x0) (word1 x0)
/-- Its hidden state. -/
def hidB (x0 : Vec F S2 .f32) (x1 : Vec F S256x2048 .f32) (x2 : Vec F S256x2048 .bf16) (x3 : Vec F S2048x2048 .fp8e4m3) (x4 : Vec F S1x2048 .f32) :
    Vec F S256x2048 .f32 := k0_pay6 (dotB x0 x1 x3) (rootB x0 x1 x3) (k0_pay5 x2) x4
/-- The maximum of its hidden state, joined onto `a`. -/
def maxB (i : grid0.Coords) (x0 : Vec F S2 .f32) (x1 : Vec F S256x2048 .f32) (x2 : Vec F S256x2048 .bf16) (x3 : Vec F S2048x2048 .fp8e4m3)
    (x4 : Vec F S1x2048 .f32) (a : Vec F S8x128 .f32) : Vec F S8x128 .f32 :=
  k0_pay7 (BitVec.ofNat 32 (i 0).val) (dotB x0 x1 x3) (rootB x0 x1 x3) (k0_pay5 x2) x4 a

set_option maxHeartbeats 4000000 in
/-- One run of the body: the inputs are left as they were, the codes, product and hidden state are the block's own, and
    the maximum buffer goes from `x8` to the block's maximum joined onto `x8` (onto zero at the first block). -/
theorem body_run (c : Dev nD) (i : grid0.Coords) (arg1 : Memref sig .tc .smem S2 .f32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S2048x2048 .fp8e4m3) (harg4 : arg4.IsWhole) (arg5 : Memref sig .tc .vmem S1x2048 .f32) (harg5 : arg5.IsWhole) (arg6 : Memref sig .tc .vmem S256x2048 .fp8e4m3) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S8x128 .f32) (harg9 : arg9.IsWhole)
    (x0 : Vec F S2 .f32) (x1 : Vec F S256x2048 .f32) (x2 : Vec F S256x2048 .bf16) (x3 : Vec F S2048x2048 .fp8e4m3) (x4 : Vec F S1x2048 .f32) (x5 : Vec F S256x2048 .fp8e4m3) (x6 : Vec F S256x2048 .bf16) (x7 : Vec F S256x2048 .f32) (x8 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesB x0 x1) ∗ owns (c : Thread nD τ) arg7 fullShare (prodB x0 x1 x3) ∗ owns (c : Thread nD τ) arg8 fullShare (hidB x0 x1 x2 x3 x4) ∗ owns (c : Thread nD τ) arg9 fullShare (maxB i x0 x1 x2 x3 x4 x8)) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9) K := by
  simp only [cc0_oproj_eq_skeleton]; unfold cc0_oproj_skel
  simp only [k0_part1_eq_skeleton, k0_part2_eq_skeleton]
  unfold k0_part1_skel; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg9.eq_unread hf8
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    simp only [View.readAt_eq_ld, harg1.read_unread, harg2.read_unread, harg3.read_unread, harg4.read_unread, harg5.read_unread, harg9.read_unread]
    rw [read_stored _ _ hz2]
    repeat first | rw [View.readCov_unit_zero _ hz2] | rw [View.ld_unit_zero hz2] | rw [ld_word0] | rw [ld_word1]
    try rfl
  isplitl [H6]
  · iexists _; isplitr
    swap; · iexact H6
    ipureintro
    sl_unfold_words
    simp only [View.readAt_eq_ld, harg1.read_unread, harg2.read_unread, harg3.read_unread, harg4.read_unread, harg5.read_unread, harg9.read_unread]
    rw [read_stored _ _ hz2]
    repeat first | rw [View.readCov_unit_zero _ hz2] | rw [View.ld_unit_zero hz2] | rw [ld_word0] | rw [ld_word1]
    try rfl
  isplitl [H7]
  · iexists _; isplitr
    swap; · iexact H7
    ipureintro
    sl_unfold_words
    simp only [View.readAt_eq_ld, harg1.read_unread, harg2.read_unread, harg3.read_unread, harg4.read_unread, harg5.read_unread, harg9.read_unread]
    rw [read_stored _ _ hz2]
    repeat first | rw [View.readCov_unit_zero _ hz2] | rw [View.ld_unit_zero hz2] | rw [ld_word0] | rw [ld_word1]
    try rfl
  · iexists _; isplitr
    swap; · iexact H8
    ipureintro
    sl_unfold_words
    simp only [View.readAt_eq_ld, harg1.read_unread, harg2.read_unread, harg3.read_unread, harg4.read_unread, harg5.read_unread, harg9.read_unread]
    rw [read_stored _ _ hz2]
    repeat first | rw [View.readCov_unit_zero _ hz2] | rw [View.ld_unit_zero hz2] | rw [ld_word0] | rw [ld_word1]
    try rfl

/-! ## The pipeline -/

variable (m : (ℓ : Loc nD τ sig) → Buf (Elt F) ℓ) (ρ : Dev nD → PrngReg)

/-- A block's codes, product, hidden state, and its maximum joined onto `a`, at grid point `t`. -/
def codesAt (c : Dev nD) (t : Fin cfg0.N) : Vec F S256x2048 .fp8e4m3 := codesB (iblk m c 0 t) (iblk m c 1 t)
def prodAt (c : Dev nD) (t : Fin cfg0.N) : Vec F S256x2048 .bf16 := prodB (iblk m c 0 t) (iblk m c 1 t) (iblk m c 3 t)
def hidAt (c : Dev nD) (t : Fin cfg0.N) : Vec F S256x2048 .f32 := hidB (iblk m c 0 t) (iblk m c 1 t) (iblk m c 2 t) (iblk m c 3 t) (iblk m c 4 t)
def maxAt (c : Dev nD) (t : Fin cfg0.N) (a : Vec F S8x128 .f32) : Vec F S8x128 .f32 :=
  maxB (grid0.coords t) (iblk m c 0 t) (iblk m c 1 t) (iblk m c 2 t) (iblk m c 3 t) (iblk m c 4 t) a

/-- What the maximum buffer holds after the first `n + 1` blocks. -/
def acc (c : Dev nD) : ℕ → Vec F S8x128 .f32
  | 0 => maxAt m c ⟨0, by show 0 < grid0.N; rw [N_0]; omega⟩ (constant S8x128 .f32 0x00000000#32)
  | n + 1 => if h : n + 1 < grid0.N then maxAt m c ⟨n + 1, h⟩ (acc c n) else acc c n

/-- The first block does not read what the maximum buffer held. -/
theorem first_block (v19 : FVec F S256x2048 .f32) (v31 : FVec F S256x1 .f32) (v34 : FVec F S256x2048 .f32) (v37 : Vec F S1x2048 .f32)
    (x x' : Vec F S8x128 .f32) : k0_pay7 0#32 v19 v31 v34 v37 x = k0_pay7 0#32 v19 v31 v34 v37 x' := by
  unfold k0_pay7
  rfl

theorem coords_zero : ∀ t : Fin grid0.N, t.val = 0 → (grid0.coords t 0).val = 0 := by decide +kernel

theorem maxAt_first (c : Dev nD) (t : Fin cfg0.N) (ht : t.val = 0) (a a' : Vec F S8x128 .f32) : maxAt m c t a = maxAt m c t a' := by
  unfold maxAt maxB
  rw [coords_zero t ht]
  exact first_block _ _ _ _ a a'

/-- The proof data of the pipeline: the inputs stay in place, codes, product and hidden state are the block's, and the
    maximum buffer holds `acc`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => codesAt m c t
    | ⟨6, _⟩ => prodAt m c t
    | ⟨7, _⟩ => hidAt m c t
    | ⟨8, _⟩ => acc m c t.val
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = codesAt m c t := by dsimp only [dats]
theorem after0_6 (c : Dev nD) (t : Fin cfg0.N) : (dats m 0 c).after 6 t = prodAt m c t := by dsimp only [dats]
theorem after0_7 (c : Dev nD) (t : Fin cfg0.N) : (dats m 0 c).after 7 t = hidAt m c t := by dsimp only [dats]
theorem after0_8 (c : Dev nD) (t : Fin cfg0.N) : (dats m 0 c).after 8 t = acc m c t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body finds in the maximum buffer leads it to `acc` at every block. -/
theorem acc_step (c : Dev nD) (t : Fin cfg0.N) (d) : maxAt m c t ((dats m 0 c).before 8 t d) = acc m c t.val := by
  obtain ⟨n, hn⟩ := t
  cases n with
  | zero => exact maxAt_first m c ⟨0, hn⟩ rfl _ _
  | succ n =>
    have hn' : n + 1 < 84 := by have h : n + 1 < grid0.N := hn; rwa [N_0] at h
    have hb : (dats m 0 c).before 8 ⟨n + 1, hn⟩ d = acc m c n := by
      refine ((dats m 0 c).before_out_kept 8 rfl ⟨n + 1, hn⟩ (Nat.succ_ne_zero n) ?_ (fun _ => rfl) (fun _ _ => rfl) d).trans (after0_8 m c _)
      refine Bool.eq_false_iff.mpr fun hf => ?_
      have := (flush0_8 _).mp hf
      have e : (n + 1 - 1) % 84 = 83 := this
      omega
    rw [hb]
    show _ = acc m c (n + 1)
    rw [acc, dif_pos (show n + 1 < grid0.N from hn)]

abbrev ms0_0 (t : Fin cfg0.N) : Memref sig .tc .smem S2 .f32 := win0_0.stage (cfg0.slots t 0)
abbrev ms0_1 (t : Fin cfg0.N) : Memref sig .tc .vmem S256x2048 .f32 := win0_1.stage (cfg0.slots t 1)
abbrev ms0_2 (t : Fin cfg0.N) : Memref sig .tc .vmem S256x2048 .bf16 := win0_2.stage (cfg0.slots t 2)
abbrev ms0_3 (t : Fin cfg0.N) : Memref sig .tc .vmem S2048x2048 .fp8e4m3 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S256x2048 .fp8e4m3 := win0_5.stage (cfg0.slots t 5)
abbrev ms0_6 (t : Fin cfg0.N) : Memref sig .tc .vmem S256x2048 .bf16 := win0_6.stage (cfg0.slots t 6)
abbrev ms0_7 (t : Fin cfg0.N) : Memref sig .tc .vmem S256x2048 .f32 := win0_7.stage (cfg0.slots t 7)
abbrev ms0_8 (t : Fin cfg0.N) : Memref sig .tc .vmem S8x128 .f32 := win0_8.stage (cfg0.slots t 8)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← acc_step m c t d8]
  iapply (body_run c (grid0.coords t) _ _ _ _ _ _ _ _ _ _ _ _ _ _ _ _ _ _ (iblk m c 0 t) (iblk m c 1 t) (iblk m c 2 t) (iblk m c 3 t) (iblk m c 4 t)
    ((dats m 0 c).before 5 t d5) ((dats m 0 c).before 6 t d6) ((dats m 0 c).before 7 t d7) ((dats m 0 c).before 8 t d8) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array as the proof data leave it, and every semaphore back at zero. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1, hostOps1_1])) :=
  (θ_run defs _ _).mono (fun _ h => h.1) (run_main_quiescent m ρ)

/-- The arguments end unchanged, and every semaphore is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.OprojIdeal.Hand

end
-- ==== Proof.OprojKernel.lean ====
/-
  The output projection's kernel: what its 84 row blocks leave in the three result arrays and in the maximum buffer, as
  functions of the arguments, and the scale the host reads from the maximum.
-/
module

public import proofs.«01_k».proof.Proof.MaxMath
public import proofs.«01_k».proof.Proof.OprojIdealFrame

@[expose] public section

set_option maxRecDepth 16384

noncomputable section

namespace Cert.OprojIdeal.Hand

open Cert.OprojIdeal Cert.OprojIdeal.Gen Idealize.ShloMosaic Idealize.ShloMosaic.TcCoe Idealize.SL.Sem
open Idealize.ShloMosaic.StableHlo
open Idealize.ShloMosaic.Pipeline (Dat)
open Idealize.ShloMosaic.Pointwise
open Cert.Proof.Math

section Blocks

variable {F : FTy → Type} [FloatOps F]
variable (m : (ℓ : Loc nD τ sig) → Buf (Elt F) ℓ)

/-- The whole-array windows' one block starts at the array's origin. -/
theorem index0_0 : ∀ (t : Fin cfg0.N) (a : Fin win0_0.shape.rank), win0_0.index t a = 0 :=
  (by decide +kernel : ∀ (t : Fin grid0.N) (a : Fin win0_0.shape.rank), win0_0.index t a = 0)
theorem index0_3 : ∀ (t : Fin cfg0.N) (a : Fin win0_3.shape.rank), win0_3.index t a = 0 :=
  (by decide +kernel : ∀ (t : Fin grid0.N) (a : Fin win0_3.shape.rank), win0_3.index t a = 0)
theorem index0_4 : ∀ (t : Fin cfg0.N) (a : Fin win0_4.shape.rank), win0_4.index t a = 0 :=
  (by decide +kernel : ∀ (t : Fin grid0.N) (a : Fin win0_4.shape.rank), win0_4.index t a = 0)
theorem index0_8 : ∀ (t : Fin cfg0.N) (a : Fin win0_8.shape.rank), win0_8.index t a = 0 :=
  (by decide +kernel : ∀ (t : Fin grid0.N) (a : Fin win0_8.shape.rank), win0_8.index t a = 0)

/-- A row window's block at point `t` is row block `t`. -/
theorem index0_1 : ∀ t : Fin cfg0.N, win0_1.index t 0 = t.val ∧ win0_1.index t 1 = 0 :=
  (by decide +kernel : ∀ t : Fin grid0.N, win0_1.index t 0 = t.val ∧ win0_1.index t 1 = 0)
theorem index0_2 : ∀ t : Fin cfg0.N, win0_2.index t 0 = t.val ∧ win0_2.index t 1 = 0 :=
  (by decide +kernel : ∀ t : Fin grid0.N, win0_2.index t 0 = t.val ∧ win0_2.index t 1 = 0)
theorem index0_5 : ∀ t : Fin cfg0.N, win0_5.index t 0 = t.val ∧ win0_5.index t 1 = 0 :=
  (by decide +kernel : ∀ t : Fin grid0.N, win0_5.index t 0 = t.val ∧ win0_5.index t 1 = 0)
theorem index0_6 : ∀ t : Fin cfg0.N, win0_6.index t 0 = t.val ∧ win0_6.index t 1 = 0 :=
  (by decide +kernel : ∀ t : Fin grid0.N, win0_6.index t 0 = t.val ∧ win0_6.index t 1 = 0)
theorem index0_7 : ∀ t : Fin cfg0.N, win0_7.index t 0 = t.val ∧ win0_7.index t 1 = 0 :=
  (by decide +kernel : ∀ t : Fin grid0.N, win0_7.index t 0 = t.val ∧ win0_7.index t 1 = 0)

/-- Row `r` of row block `t`, as a row of the array. -/
abbrev row (t : Fin cfg0.N) (r : Fin 256) : Fin 21504 :=
  ⟨t.val * 256 + r.val, by have h : t.val < grid0.N := t.isLt; rw [N_0] at h; omega⟩

theorem emb_1 (t : Fin cfg0.N) (r : Fin 256) (k : Fin 2048) : (win0_1.rect t).emb (ix2 r k) = ix2 (row t r) k :=
  funext fun a => Fin.ext (by
    rw [win0_1.rect_emb_val t _ a rfl]
    match a with
    | ⟨0, _⟩ => exact at_idx (index0_1 t).1
    | ⟨1, _⟩ => exact at_zero (index0_1 t).2)
theorem emb_2 (t : Fin cfg0.N) (r : Fin 256) (k : Fin 2048) : (win0_2.rect t).emb (ix2 r k) = ix2 (row t r) k :=
  funext fun a => Fin.ext (by
    rw [win0_2.rect_emb_val t _ a rfl]
    match a with
    | ⟨0, _⟩ => exact at_idx (index0_2 t).1
    | ⟨1, _⟩ => exact at_zero (index0_2 t).2)
theorem emb_5 (t : Fin cfg0.N) (r : Fin 256) (k : Fin 2048) : (win0_5.rect t).emb (ix2 r k) = ix2 (row t r) k :=
  funext fun a => Fin.ext (by
    rw [win0_5.rect_emb_val t _ a rfl]
    match a with
    | ⟨0, _⟩ => exact at_idx (index0_5 t).1
    | ⟨1, _⟩ => exact at_zero (index0_5 t).2)
theorem emb_6 (t : Fin cfg0.N) (r : Fin 256) (k : Fin 2048) : (win0_6.rect t).emb (ix2 r k) = ix2 (row t r) k :=
  funext fun a => Fin.ext (by
    rw [win0_6.rect_emb_val t _ a rfl]
    match a with
    | ⟨0, _⟩ => exact at_idx (index0_6 t).1
    | ⟨1, _⟩ => exact at_zero (index0_6 t).2)
theorem emb_7 (t : Fin cfg0.N) (r : Fin 256) (k : Fin 2048) : (win0_7.rect t).emb (ix2 r k) = ix2 (row t r) k :=
  funext fun a => Fin.ext (by
    rw [win0_7.rect_emb_val t _ a rfl]
    match a with
    | ⟨0, _⟩ => exact at_idx (index0_7 t).1
    | ⟨1, _⟩ => exact at_zero (index0_7 t).2)

theorem iblk_0 (c : Dev nD) (t : Fin cfg0.N) : iblk m c 0 t = V m c main_v2 :=
  funext fun y => congrArg (V m c main_v2) (funext fun a => Fin.ext (win0_0.rect_emb_val_of_index_zero t a (index0_0 t a) y))
theorem iblk_1 (c : Dev nD) (t : Fin cfg0.N) (r : Fin 256) (k : Fin 2048) :
    (iblk m c 1 t : S256x2048.Idx → Elt F .f32) (ix2 r k) = m ((c.tc : Thread nD τ).loc main_arg0) (ix2 (row t r) k) :=
  (congrArg (V m c main_arg0) (emb_1 t r k)).trans (congrFun (V_main_arg0 m c) _)
theorem iblk_2 (c : Dev nD) (t : Fin cfg0.N) (r : Fin 256) (k : Fin 2048) :
    (iblk m c 2 t : S256x2048.Idx → Elt F .bf16) (ix2 r k) = V m c main_v3 (ix2 (row t r) k) :=
  congrArg (V m c main_v3) (emb_2 t r k)
theorem iblk_3 (c : Dev nD) (t : Fin cfg0.N) : iblk m c 3 t = V m c main_v4 :=
  funext fun y => congrArg (V m c main_v4) (funext fun a => Fin.ext (win0_3.rect_emb_val_of_index_zero t a (index0_3 t a) y))
theorem iblk_4 (c : Dev nD) (t : Fin cfg0.N) : iblk m c 4 t = V m c main_v5 :=
  funext fun y => congrArg (V m c main_v5) (funext fun a => Fin.ext (win0_4.rect_emb_val_of_index_zero t a (index0_4 t a) y))

/-- Every row is in some row block. -/
theorem row_surj (i : Fin 21504) : ∃ (t : Fin cfg0.N) (r : Fin 256), row t r = i := by
  refine ⟨⟨i.val / 256, by show i.val / 256 < grid0.N; rw [N_0]; omega⟩, ⟨i.val % 256, by omega⟩, Fin.ext ?_⟩
  show i.val / 256 * 256 + i.val % 256 = i.val
  omega

theorem cover_5 (i : S21504x2048.Idx) : ∃ t : Fin cfg0.N, (cfg0.win 5).flush t = true ∧ i ∈ ((cfg0.win 5).blk t).view.set := by
  obtain ⟨t, r, h⟩ := row_surj (i 0)
  refine ⟨t, flush0_5 t, ?_⟩
  have hm := ((cfg0.win 5).blk t).view.emb_mem_set (ix2 r (i 1) : S256x2048.Idx)
  have e : ((cfg0.win 5).blk t).view.emb (ix2 r (i 1) : S256x2048.Idx) = i := by
    refine (emb_5 t r (i 1)).trans ?_
    rw [h]; exact (eq_ix2 i).symm
  rwa [e] at hm
theorem cover_6 (i : S21504x2048.Idx) : ∃ t : Fin cfg0.N, (cfg0.win 6).flush t = true ∧ i ∈ ((cfg0.win 6).blk t).view.set := by
  obtain ⟨t, r, h⟩ := row_surj (i 0)
  refine ⟨t, flush0_6 t, ?_⟩
  have hm := ((cfg0.win 6).blk t).view.emb_mem_set (ix2 r (i 1) : S256x2048.Idx)
  have e : ((cfg0.win 6).blk t).view.emb (ix2 r (i 1) : S256x2048.Idx) = i := by
    refine (emb_6 t r (i 1)).trans ?_
    rw [h]; exact (eq_ix2 i).symm
  rwa [e] at hm
theorem cover_7 (i : S21504x2048.Idx) : ∃ t : Fin cfg0.N, (cfg0.win 7).flush t = true ∧ i ∈ ((cfg0.win 7).blk t).view.set := by
  obtain ⟨t, r, h⟩ := row_surj (i 0)
  refine ⟨t, flush0_7 t, ?_⟩
  have hm := ((cfg0.win 7).blk t).view.emb_mem_set (ix2 r (i 1) : S256x2048.Idx)
  have e : ((cfg0.win 7).blk t).view.emb (ix2 r (i 1) : S256x2048.Idx) = i := by
    refine (emb_7 t r (i 1)).trans ?_
    rw [h]; exact (eq_ix2 i).symm
  rwa [e] at hm
/-- The last block. -/
abbrev last : Fin cfg0.N := ⟨83, by show 83 < grid0.N; rw [N_0]; omega⟩
theorem cover_8 (i : S8x128.Idx) : ∃ t : Fin cfg0.N, (cfg0.win 8).flush t = true ∧ i ∈ ((cfg0.win 8).blk t).view.set := by
  refine ⟨last, (flush0_8 _).mpr rfl, ?_⟩
  have h := ((cfg0.win 8).blk last).view.emb_mem_set i
  have e : ((cfg0.win 8).blk last).view.emb i = i :=
    funext fun a => Fin.ext (win0_8.rect_emb_val_of_index_zero last a (index0_8 last a) i)
  rwa [e] at h
theorem read_8 (t : Fin cfg0.N) (G : S8x128.Idx → Elt F .f32) : (win0_8.blk t).view.read (Elt F) G = G :=
  funext fun y => congrArg G (funext fun a => Fin.ext (win0_8.rect_emb_val_of_index_zero t a (index0_8 t a) y))

theorem V_main_v2 (c : Dev nD) : V m c main_v2 = concatenate S2 0 [⟨S1, broadcastInDim S1 ![] bcast_S_S1 (m ((c.tc : Thread nD τ).loc main_arg1))⟩, ⟨S1, broadcastInDim S1 ![] bcast_S_S1 (m ((c.tc : Thread nD τ).loc main_arg4))⟩] concatenates_S1_S1_S2_d0 := by
  show StableHlo.after hostOps0 _ _ = _
  after_results
  try rfl
theorem V_main_v3 (c : Dev nD) : V m c main_v3 = shapeCast S21504x2048 (m ((c.tc : Thread nD τ).loc main_arg2)) shapeCasts_S3x7168x2048_S21504x2048 := by
  show StableHlo.after hostOps0 _ _ = _
  after_results
  try rfl
theorem V_main_v4 (c : Dev nD) : V m c main_v4 = shapeCast S2048x2048 (m ((c.tc : Thread nD τ).loc main_arg3)) shapeCasts_S16x128x2048_S2048x2048 := by
  show StableHlo.after hostOps0 _ _ = _
  after_results
  try rfl
theorem V_main_v5 (c : Dev nD) : V m c main_v5 = shapeCast S1x2048 (m ((c.tc : Thread nD τ).loc main_arg5)) shapeCasts_S2048_S1x2048 := by
  show StableHlo.after hostOps0 _ _ = _
  after_results
  try rfl

theorem scale_0 (c : Dev nD) (t : Fin cfg0.N) : word0 (iblk m c 0 t) = m ((c.tc : Thread nD τ).loc main_arg1) ix0 := by
  rw [iblk_0, V_main_v2]; unfold word0
  pointwise
theorem scale_1 (c : Dev nD) (t : Fin cfg0.N) : word1 (iblk m c 0 t) = m ((c.tc : Thread nD τ).loc main_arg4) ix0 := by
  rw [iblk_0, V_main_v2]; unfold word1
  pointwise
theorem normw (c : Dev nD) (t : Fin cfg0.N) (k : Fin 2048) :
    (iblk m c 4 t : S1x2048.Idx → Elt F .f32) (ix2 0 k) = m ((c.tc : Thread nD τ).loc main_arg5) (ix1 k) := by
  rw [iblk_4, V_main_v5]
  pointwise

/-! ### The host's reading of the maximum -/

/-- The exit contents of the launch. -/
abbrev exitV (c : Dev nD) : Valuation τ sig (Elt F) :=
  Pipeline.withArrays spec0 c (Gen.V0 m c) fun w => (dats m 0 c).arrAt w cfg0.N

theorem exit_max (c : Dev nD) : exitV m c (Proc.devRef .tc main_v6_3) = (dats m 0 c).arrAt 8 cfg0.N :=
  Pipeline.withArrays_arr spec0 Gen.launch0.win.arr_inj c (Gen.V0 m c) _ 8

/-- The largest element of the maximum buffer. -/
def top (M : FVec F S8x128 .f32) : FVec F S_ .f32 :=
  Host.reduce FloatOps.maximumf M (constant S_ .f32 0xFF800000#32) reducesTo_S8x128_S_d0_1 h_S_
/-- The scale of a largest magnitude: by the largest code, or one when every element is zero. -/
def scaleOf (M : FVec F S_ .f32) : FVec F S_ .f32 :=
  select (cmpf .oeq M (constant S_ .f32 0x00000000#32)) (constant S_ .f32 0x3F800000#32) (Host.divf M (constant S_ .f32 0x43E00000#32))

set_option maxHeartbeats 2000000 in
theorem tail_scale (V0 : Valuation τ sig (Elt F)) :
    after (List.flatten [Gen.hostOps1, Gen.hostOps1_1]) V0 (Proc.devRef .tc main_v10) = scaleOf (top (V0 (Proc.devRef .tc main_v6_3))) := by
  simp only [Gen.hostOps1, Gen.hostOps1_1, TRef.ternary, TRef.unary, TRef.toBuf, TRef.ofBuf, cast_eq, List.flatten_cons, List.flatten_nil, List.append_nil, List.cons_append, List.nil_append]
  after_results_simp
  try rfl
theorem fin_scale (c : Dev nD) :
    Pipeline.afterTail₀ cfgs (dats m) 0 (Gen.V0 m) [Gen.hostOps1, Gen.hostOps1_1] c main_v10 = scaleOf (top ((dats m 0 c).arrAt 8 cfg0.N)) :=
  (tail_scale (exitV m c)).trans (by rw [exit_max])

/-- What the run leaves: the three result arrays, the scale, and the arguments. -/
theorem run (ρ : Dev nD → PrngReg) : θ_run defs (onTc (τ := τ) (main (F := F))) ⟨m, fun _ => 0, ρ⟩ fun r => ∀ c : Dev nD,
    r.2.mem ((c.tc : Thread nD τ).loc main_v6_0) = (dats m 0 c).arrAt 5 cfg0.N
    ∧ r.2.mem ((c.tc : Thread nD τ).loc main_v6_1) = (dats m 0 c).arrAt 6 cfg0.N
    ∧ r.2.mem ((c.tc : Thread nD τ).loc main_v6_2) = (dats m 0 c).arrAt 7 cfg0.N
    ∧ r.2.mem ((c.tc : Thread nD τ).loc main_v10) = scaleOf (top ((dats m 0 c).arrAt 8 cfg0.N))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun r h c => ⟨((h.1 c).1 5).trans rfl, ((h.1 c).1 6).trans rfl, ((h.1 c).1 7).trans rfl,
      ((h.1 c).2 main_v10 (Pipeline.mem_restRefs_of main_v10 (by decide) (by decide))).trans (fin_scale m c), h.2.1 c⟩)
    (θ_run_and (run_main m ρ) (frame m ρ))

end Blocks

/-! ## At the extended reals, element by element -/

section AtIdeal

variable (m : (ℓ : Loc nD τ sig) → Buf (Elt Ideal) ℓ)

/-- The arguments, as arrays of extended reals: the attention's output, its scale, the layer's input row by row, the weight
    as one matrix, its scale, and the norm's weight. -/
abbrev o (c : Dev nD) : S21504x2048.Idx → EReal := m ((c.tc : Thread nD τ).loc main_arg0)
abbrev oScale (c : Dev nD) : EReal := m ((c.tc : Thread nD τ).loc main_arg1) ix0
def resid (c : Dev nD) : S21504x2048.Idx → EReal :=
  shapeCast S21504x2048 (m ((c.tc : Thread nD τ).loc main_arg2)) shapeCasts_S3x7168x2048_S21504x2048
def wts (c : Dev nD) : S2048x2048.Idx → EReal :=
  shapeCast S2048x2048 (m ((c.tc : Thread nD τ).loc main_arg3)) shapeCasts_S16x128x2048_S2048x2048
abbrev wScale (c : Dev nD) : EReal := m ((c.tc : Thread nD τ).loc main_arg4) ix0
abbrev normW (c : Dev nD) : S2048.Idx → EReal := m ((c.tc : Thread nD τ).loc main_arg5)

/-- The codes of the attention's output. -/
def codes (c : Dev nD) : S21504x2048.Idx → EReal := fun i => quant (o m c i) (oScale m c)
/-- The rescaled product. -/
def projAt (c : Dev nD) (i : Fin 21504) (j : Fin 2048) : EReal :=
  qdot (fun k => o m c (ix2 i k)) (oScale m c) (fun k => wts m c (ix2 k j)) * (oScale m c * wScale m c)
def proj (c : Dev nD) : S21504x2048.Idx → EReal := fun i => projAt m c (i 0) (i 1)
/-- The hidden state: the layer's input plus the norm of the product's row. -/
def hidOf (c : Dev nD) (i : Fin 21504) (j : Fin 2048) : EReal :=
  resid m c (ix2 i j) + rms (Ideal.ofBits .f32 0x45000000#32) (projAt m c i) (normW m c (ix1 j)) j
def hid (c : Dev nD) : S21504x2048.Idx → EReal := fun i => hidOf m c (i 0) (i 1)

theorem pay1_apply (v : FVec Ideal S256x2048 .f32) (s : Ideal .f32) (r : Fin 256) (k : Fin 2048) :
    k0_pay1 (F := Ideal) v s (ix2 r k) = quant (v (ix2 r k)) s := by
  pointwise [k0_pay1, quant]
theorem pay2_apply (v : FVec Ideal S256x2048 .fp8e4m3) (w : FVec Ideal S2048x2048 .fp8e4m3) (s t : Ideal .f32) (r : Fin 256) (j : Fin 2048) :
    k0_pay2 (F := Ideal) v w s t (ix2 r j) = (∑ k : Fin 2048, v (ix2 r k) * w (ix2 k j)) * (s * t) := by
  pointwise [k0_pay2]
theorem pay6_apply (v : FVec Ideal S256x2048 .fp8e4m3) (w : FVec Ideal S2048x2048 .fp8e4m3) (s t : Ideal .f32) (x : FVec Ideal S256x2048 .bf16)
    (nw : FVec Ideal S1x2048 .f32) (r : Fin 256) (j : Fin 2048) :
    k0_pay6 (F := Ideal) (k0_pay2 v w s t) (k0_pay4 v w s t) (k0_pay5 x) nw (ix2 r j)
      = x (ix2 r j) + rms (Ideal.ofBits .f32 0x45000000#32) (fun j => k0_pay2 (F := Ideal) v w s t (ix2 r j)) (nw (ix2 0 j)) j := by
  rw [← rms_eq _ n2048_pos]
  unfold eps
  rw [← one_f32]
  unfold k0_pay4
  generalize hd : k0_pay2 (F := Ideal) v w s t = d
  pointwise [k0_pay6, k0_pay5]

theorem codesAt_apply (c : Dev nD) (t : Fin cfg0.N) (r : Fin 256) (k : Fin 2048) :
    (codesAt m c t : FVec Ideal S256x2048 .fp8e4m3) (ix2 r k) = quant (o m c (ix2 (row t r) k)) (oScale m c) := by
  unfold codesAt codesB
  rw [pay1_apply, iblk_1, scale_0]

theorem dot_at (c : Dev nD) (t : Fin cfg0.N) (r : Fin 256) (j : Fin 2048) :
    k0_pay2 (F := Ideal) (codesAt m c t) (iblk m c 3 t) (word0 (iblk m c 0 t)) (word1 (iblk m c 0 t)) (ix2 r j) = projAt m c (row t r) j := by
  rw [pay2_apply, scale_0, scale_1, iblk_3, V_main_v4]
  unfold projAt qdot
  refine congrArg (· * (oScale m c * wScale m c)) (Finset.sum_congr rfl fun k _ => ?_)
  rw [codesAt_apply]
  rfl

theorem hidAt_apply (c : Dev nD) (t : Fin cfg0.N) (r : Fin 256) (j : Fin 2048) :
    (hidAt m c t : FVec Ideal S256x2048 .f32) (ix2 r j) = hidOf m c (row t r) j := by
  refine (pay6_apply (codesAt m c t) _ _ _ _ _ r j).trans ?_
  rw [iblk_2, V_main_v3, normw]
  simp only [dot_at]
  rfl

/-- The codes' array after the run. -/
theorem codes_eq (c : Dev nD) : (dats m 0 c).arrAt 5 cfg0.N = codes m c := by
  refine (dats m 0 c).arrAt_eq_of_cover 5 _ (fun t _ => ?_) cover_5
  show (cfg0.win 5).cut (grid0.coords t) ((dats m 0 c).after 5 t) = _
  rw [after0_5]
  funext (y : S256x2048.Idx)
  obtain ⟨r, k, rfl⟩ : ∃ r k, y = ix2 r k := ⟨y 0, y 1, eq_ix2 y⟩
  refine Eq.trans (codesAt_apply m c t r k) ?_
  exact (congrArg (codes m c) (emb_5 t r k)).symm

/-- The rescaled product's array after the run. -/
theorem proj_eq (c : Dev nD) : (dats m 0 c).arrAt 6 cfg0.N = proj m c := by
  refine (dats m 0 c).arrAt_eq_of_cover 6 _ (fun t _ => ?_) cover_6
  show (cfg0.win 6).cut (grid0.coords t) ((dats m 0 c).after 6 t) = _
  rw [after0_6]
  funext (y : S256x2048.Idx)
  obtain ⟨r, k, rfl⟩ : ∃ r k, y = ix2 r k := ⟨y 0, y 1, eq_ix2 y⟩
  refine Eq.trans (dot_at m c t r k) ?_
  exact (congrArg (proj m c) (emb_6 t r k)).symm

/-- The hidden state's array after the run. -/
theorem hid_eq (c : Dev nD) : (dats m 0 c).arrAt 7 cfg0.N = hid m c := by
  refine (dats m 0 c).arrAt_eq_of_cover 7 _ (fun t _ => ?_) cover_7
  show (cfg0.win 7).cut (grid0.coords t) ((dats m 0 c).after 7 t) = _
  rw [after0_7]
  funext (y : S256x2048.Idx)
  obtain ⟨r, k, rfl⟩ : ∃ r k, y = ix2 r k := ⟨y 0, y 1, eq_ix2 y⟩
  refine Eq.trans (hidAt_apply m c t r k) ?_
  exact (congrArg (hid m c) (emb_7 t r k)).symm

/-- The maximum buffer's array after the run. -/
theorem max_eq (c : Dev nD) : (dats m 0 c).arrAt 8 cfg0.N = acc m c 83 := by
  refine (dats m 0 c).arrAt_eq_of_cover 8 _ (fun t ht => ?_) cover_8
  rw [read_8]
  show (cfg0.win 8).cut (grid0.coords t) ((dats m 0 c).after 8 t) = _
  rw [after0_8]
  have h1 := (flush0_8 t).mp ht
  have h2 : t.val < 84 := lt_of_lt_of_eq t.isLt N_0
  have h3 : t.val = 83 := by omega
  rw [h3]
  rfl

/-! ### The maximum, by its upper bounds -/

/-- Every element of a maximum buffer is at most `x`. -/
def Below (a : FVec Ideal S8x128 .f32) (x : EReal) : Prop := ∀ (r : Fin 8) (l : Fin 128), a (ix2 r l) ≤ x

/-- The maxima of a block's magnitudes over its groups of eight rows, and one of their 16 column stretches. -/
def groups (v : FVec Ideal S256x2048 .f32) : FVec Ideal S8x2048 .f32 :=
  multiReduction .maximumf [0] S8x2048 (shapeCast S32x8x2048 (absf v) shapeCasts_S256x2048_S32x8x2048) 0xFF800000#32 reduces_S32x8x2048_S8x2048 (.inl rfl) rfl

theorem slicesG (k : Fin 16) : S8x2048.Slices ![0, 128 * k.val] S8x128 := by
  revert k; decide

def stretch (v : FVec Ideal S256x2048 .f32) (k : Fin 16) : FVec Ideal S8x128 .f32 :=
  extractStridedSlice S8x128 ![0, 128 * k.val] (groups v) (slicesG k)

theorem stretch_apply (v : FVec Ideal S256x2048 .f32) (k : Fin 16) (r : Fin 8) (l : Fin 128) :
    stretch v k (ix2 r l) = Finset.univ.fold max (Ideal.ofBits .f32 0xFF800000#32) fun g : Fin 32 =>
      mag (v (ix2 ⟨g.val * 8 + r.val, by omega⟩ ⟨128 * k.val + l.val, by omega⟩)) := by
  pointwise [stretch, groups]

/-- The later stretches, and the maxima joined one after the other. -/
def later : List (Fin 16) := [1, 2, 3, 4, 5, 6, 7, 8, 9, 10, 11, 12, 13, 14, 15]
theorem mem_later : ∀ k : Fin 16, k = 0 ∨ k ∈ later := by decide
def joined (v : FVec Ideal S256x2048 .f32) : FVec Ideal S8x128 .f32 :=
  later.foldl (fun a k => maximumf a (stretch v k)) (stretch v 0)

theorem foldl_below (f : Fin 16 → FVec Ideal S8x128 .f32) (x : EReal) (L : List (Fin 16)) (a : FVec Ideal S8x128 .f32) :
    Below (L.foldl (fun a k => maximumf a (f k)) a) x ↔ Below a x ∧ ∀ k ∈ L, Below (f k) x := by
  induction L generalizing a with
  | nil => simp
  | cons k L ih =>
    rw [List.foldl_cons, ih, List.forall_mem_cons, ← and_assoc]
    refine and_congr_left fun _ => ?_
    exact ⟨fun h => ⟨fun r l => (max_le_iff.mp (h r l)).1, fun r l => (max_le_iff.mp (h r l)).2⟩, fun h r l => max_le (h.1 r l) (h.2 r l)⟩

/-- The bounds of a block's joined maxima are those of its magnitudes. -/
theorem joined_below (v : FVec Ideal S256x2048 .f32) (x : EReal) :
    Below (joined v) x ↔ ∀ (i : Fin 256) (j : Fin 2048), mag (v (ix2 i j)) ≤ x := by
  have e : Below (joined v) x ↔ ∀ k, Below (stretch v k) x := by
    unfold joined
    rw [foldl_below]
    refine ⟨fun h k => ?_, fun h => ⟨h 0, fun k _ => h k⟩⟩
    rcases mem_later k with rfl | hk
    · exact h.1
    · exact h.2 k hk
  rw [e]
  unfold Below
  simp only [stretch_apply, maxOver_le]
  refine ⟨fun h i j => ?_, fun h k r l g => h _ _⟩
  have := h ⟨j.val / 128, by omega⟩ ⟨i.val % 8, by omega⟩ ⟨j.val % 128, by omega⟩ ⟨i.val / 8, by omega⟩
  have hi : (⟨i.val / 8 * 8 + i.val % 8, by omega⟩ : Fin 256) = i := Fin.ext (by show i.val / 8 * 8 + i.val % 8 = i.val; omega)
  have hj : (⟨128 * (j.val / 128) + j.val % 128, by omega⟩ : Fin 2048) = j := Fin.ext (by show 128 * (j.val / 128) + j.val % 128 = j.val; omega)
  rwa [hi, hj] at this

/-- What a block starts its maximum from. -/
def start (b : BitVec 32) (a : FVec Ideal S8x128 .f32) : FVec Ideal S8x128 .f32 :=
  Scalar.select (Scalar.cmpi .eq b 0#32) (broadcast S8x128 (Scalar.ofBits (F := Ideal) .f32 0x00000000#32)) (shapeCast S8x128 a shapeCasts_S8x128_S8x128)

set_option maxRecDepth 65536 in
theorem maxAt_eq (c : Dev nD) (t : Fin cfg0.N) (a : FVec Ideal S8x128 .f32) :
    maxAt m c t a = maximumf (start (BitVec.ofNat 32 (grid0.coords t 0).val) a) (joined (hidAt m c t)) := rfl

/-- A block's maximum joined onto `a`: its bounds are those of what it starts from and of the block's magnitudes. -/
theorem maxAt_below (c : Dev nD) (t : Fin cfg0.N) (a : FVec Ideal S8x128 .f32) (x : EReal) :
    Below (maxAt m c t a) x ↔ Below (start (BitVec.ofNat 32 (grid0.coords t 0).val) a) x
      ∧ ∀ (i : Fin 256) (j : Fin 2048), mag (hidOf m c (row t i) j) ≤ x := by
  have e : Below (maxAt m c t a) x ↔ Below (start (BitVec.ofNat 32 (grid0.coords t 0).val) a) x ∧ Below (joined (hidAt m c t)) x := by
    rw [maxAt_eq]
    exact ⟨fun h => ⟨fun r l => (max_le_iff.mp (h r l)).1, fun r l => (max_le_iff.mp (h r l)).2⟩, fun h r l => max_le (h.1 r l) (h.2 r l)⟩
  rw [e, joined_below]
  simp only [hidAt_apply]

theorem coords_succ : ∀ t : Fin grid0.N, t.val ≠ 0 → (BitVec.ofNat 32 (grid0.coords t 0).val) ≠ 0#32 := by decide +kernel

theorem start_zero (a : FVec Ideal S8x128 .f32) (x : EReal) : Below (start 0#32 a) x ↔ 0 ≤ x := by
  have e : start 0#32 a = fun _ => Ideal.ofBits .f32 0x00000000#32 := rfl
  rw [e, zero_f32]
  exact ⟨fun h => h 0 0, fun h _ _ => h⟩

theorem start_succ (b : BitVec 32) (hi : b ≠ 0#32) (a : FVec Ideal S8x128 .f32) : Below (start b a) = Below a := by
  have e : ∀ r l, start b a (ix2 r l) = a (ix2 r l) := by
    intro r l
    have hc : Scalar.cmpi .eq b 0#32 = 0#1 := by
      show BitVec.ofBool (b == 0#32) = 0#1
      rw [beq_eq_false_iff_ne.mpr hi]; rfl
    unfold start
    rw [hc]
    pointwise
  unfold Below
  simp only [e]

/-- The bounds of the maximum buffer after the first `n + 1` blocks. -/
theorem acc_below (c : Dev nD) (x : EReal) : ∀ n : ℕ, n < 84 →
    (Below (acc m c n) x ↔ 0 ≤ x ∧ ∀ t : Fin cfg0.N, t.val ≤ n → ∀ (i : Fin 256) (j : Fin 2048), mag (hidOf m c (row t i) j) ≤ x) := by
  intro n
  induction n with
  | zero =>
    intro _
    rw [acc, maxAt_below, coords_zero _ rfl, start_zero]
    refine and_congr_right fun _ => ⟨fun h t ht i j => ?_, fun h i j => h _ le_rfl i j⟩
    have e : t = ⟨0, by show 0 < grid0.N; rw [N_0]; omega⟩ := Fin.ext (Nat.le_zero.mp ht)
    rw [e]; exact h i j
  | succ n ih =>
    intro hn
    have hN : n + 1 < grid0.N := by rw [N_0]; exact hn
    rw [acc, dif_pos hN, maxAt_below, start_succ _ (coords_succ ⟨n + 1, hN⟩ (Nat.succ_ne_zero n)), ih (by omega), and_assoc]
    refine and_congr_right fun _ => ⟨fun h t ht i j => ?_, fun h => ⟨fun t ht => h t (by omega), fun i j => h _ le_rfl i j⟩⟩
    rcases Nat.lt_or_ge t.val (n + 1) with h' | h'
    · exact h.1 t (by omega) i j
    · have e : t = ⟨n + 1, hN⟩ := Fin.ext (by show t.val = n + 1; omega)
      rw [e]; exact h.2 i j

/-- The largest magnitude of the hidden state. -/
theorem top_le (c : Dev nD) (x : EReal) : (top (F := Ideal) (acc m c 83)) ix0 ≤ x ↔ ∀ (i : Fin 21504) (j : Fin 2048), mag (hidOf m c i j) ≤ x := by
  have e : (top (F := Ideal) (acc m c 83)) ix0 ≤ x ↔ Below (acc m c 83) x := by
    generalize (acc m c 83) = M
    have e : (top (F := Ideal) M) ix0 = Finset.univ.fold max (Ideal.ofBits .f32 0xFF800000#32) fun k : Fin 8 × Fin 128 => (M : FVec Ideal S8x128 .f32) (ix2 k.1 k.2) := by
      pointwise [top]
    rw [e, maxOver_le]
    exact ⟨fun h r l => h (r, l), fun h k => h k.1 k.2⟩
  rw [e, acc_below m c x 83 (by omega)]
  constructor
  · intro h i j
    obtain ⟨t, r, rfl⟩ := row_surj i
    have ht : t.val < 84 := lt_of_lt_of_eq t.isLt N_0
    exact h.2 t (by omega) r j
  · exact fun h => ⟨le_trans (mag_nonneg _) (h 0 0), fun t _ i j => h _ j⟩

end AtIdeal

end Cert.OprojIdeal.Hand

end
-- ==== Proof.OprojRef.lean ====
/-
  The reference of the output projection: what its one gridless kernel leaves in its two result arrays, as functions of
  the arguments.
-/
module

public import proofs.«01_k».proof.Proof.Math
public import proofs.«01_k».proof.Proof.Gen.OprojRefIdeal.Run
public import proofs.«01_k».proof.Proof.Gen.OprojRefIdeal.Read
public import Idealize.ShloMosaic.Lib.Pipeline.Value
public import Idealize.ShloMosaic.Lib.UnfoldOut

@[expose] public section

set_option maxRecDepth 16384

noncomputable section

namespace Cert.OprojRefIdeal.Hand

open Cert.OprojRefIdeal Cert.OprojRefIdeal.Gen Idealize.ShloMosaic Idealize.ShloMosaic.TcCoe Idealize.SL.Sem
open Idealize.ShloMosaic.Pipeline (Dat)
open Idealize.ShloMosaic.Pointwise

variable {F : FTy → Type} [FloatOps F]
variable (m : (ℓ : Loc nD τ sig) → Buf (Elt F) ℓ)

/-- Every window's one block starts at the array's origin. -/
theorem index0_0 : ∀ (t : Fin cfg0.N) (a : Fin win0_0.shape.rank), win0_0.index t a = 0 :=
  (by decide +kernel : ∀ (t : Fin grid0.N) (a : Fin win0_0.shape.rank), win0_0.index t a = 0)
theorem index0_1 : ∀ (t : Fin cfg0.N) (a : Fin win0_1.shape.rank), win0_1.index t a = 0 :=
  (by decide +kernel : ∀ (t : Fin grid0.N) (a : Fin win0_1.shape.rank), win0_1.index t a = 0)
theorem index0_2 : ∀ (t : Fin cfg0.N) (a : Fin win0_2.shape.rank), win0_2.index t a = 0 :=
  (by decide +kernel : ∀ (t : Fin grid0.N) (a : Fin win0_2.shape.rank), win0_2.index t a = 0)
theorem index0_3 : ∀ (t : Fin cfg0.N) (a : Fin win0_3.shape.rank), win0_3.index t a = 0 :=
  (by decide +kernel : ∀ (t : Fin grid0.N) (a : Fin win0_3.shape.rank), win0_3.index t a = 0)
theorem index0_4 : ∀ (t : Fin cfg0.N) (a : Fin win0_4.shape.rank), win0_4.index t a = 0 :=
  (by decide +kernel : ∀ (t : Fin grid0.N) (a : Fin win0_4.shape.rank), win0_4.index t a = 0)

/-- So each input block is its whole array. -/
theorem iblk_0 (c : Dev nD) (t : Fin cfg0.N) : iblk m c 0 t = V m c main_arg0 :=
  funext fun y => congrArg (V m c main_arg0) (funext fun a => Fin.ext (win0_0.rect_emb_val_of_index_zero t a (index0_0 t a) y))
theorem iblk_1 (c : Dev nD) (t : Fin cfg0.N) : iblk m c 1 t = V m c main_v3 :=
  funext fun y => congrArg (V m c main_v3) (funext fun a => Fin.ext (win0_1.rect_emb_val_of_index_zero t a (index0_1 t a) y))
theorem iblk_2 (c : Dev nD) (t : Fin cfg0.N) : iblk m c 2 t = V m c main_v2 :=
  funext fun y => congrArg (V m c main_v2) (funext fun a => Fin.ext (win0_2.rect_emb_val_of_index_zero t a (index0_2 t a) y))

/-- and reading a whole array through an output's one block is the array. -/
theorem read_3 (t : Fin cfg0.N) (G : S21504x2048.Idx → Elt F .fp8e4m3) : (win0_3.blk t).view.read (Elt F) G = G :=
  funext fun y => congrArg G (funext fun a => Fin.ext (win0_3.rect_emb_val_of_index_zero t a (index0_3 t a) y))
theorem read_4 (t : Fin cfg0.N) (G : S21504x2048.Idx → Elt F .f32) : (win0_4.blk t).view.read (Elt F) G = G :=
  funext fun y => congrArg G (funext fun a => Fin.ext (win0_4.rect_emb_val_of_index_zero t a (index0_4 t a) y))

theorem cover_3 (i : S21504x2048.Idx) : ∃ t : Fin cfg0.N, (cfg0.win 3).flush t = true ∧ i ∈ ((cfg0.win 3).blk t).view.set := by
  refine ⟨⟨0, by show 0 < grid0.N; rw [N_0]; exact Nat.one_pos⟩, flush0_3 _, ?_⟩
  generalize (⟨0, by show 0 < grid0.N; rw [N_0]; exact Nat.one_pos⟩ : Fin cfg0.N) = t
  have h := ((cfg0.win 3).blk t).view.emb_mem_set i
  have e : ((cfg0.win 3).blk t).view.emb i = i :=
    funext fun a => Fin.ext (win0_3.rect_emb_val_of_index_zero t a (index0_3 t a) i)
  rwa [e] at h
theorem cover_4 (i : S21504x2048.Idx) : ∃ t : Fin cfg0.N, (cfg0.win 4).flush t = true ∧ i ∈ ((cfg0.win 4).blk t).view.set := by
  refine ⟨⟨0, by show 0 < grid0.N; rw [N_0]; exact Nat.one_pos⟩, flush0_4 _, ?_⟩
  generalize (⟨0, by show 0 < grid0.N; rw [N_0]; exact Nat.one_pos⟩ : Fin cfg0.N) = t
  have h := ((cfg0.win 4).blk t).view.emb_mem_set i
  have e : ((cfg0.win 4).blk t).view.emb i = i :=
    funext fun a => Fin.ext (win0_4.rect_emb_val_of_index_zero t a (index0_4 t a) i)
  rwa [e] at h

theorem hz2 : (![0, 0] : Fin 2 → Nat) = fun _ => 0 := funext fun a => by fin_cases a <;> rfl
theorem hz1 : (![0] : Fin 1 → Nat) = fun _ => 0 := funext fun a => by fin_cases a <;> rfl

/-- The scale, read from its one-word array. -/
abbrev scaleWord (x : Vec F S1 .f32) : F .f32 := x (ix1 0)

/-- What the kernel leaves in the codes' staging buffer is its quantising payload of the input blocks. -/
theorem outs_3 (c : Dev nD) (t : Fin cfg0.N) :
    (outsAt0 m c t).1 = k0_pay1 (iblk m c 0 t) (scaleWord (iblk m c 1 t)) := by
  unfold outsAt0 out0_A_3
  dsimp only
  rw [View.read_writes_eq_canon _ _ _ (cover0_A_3 c _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero hz2, View.ld_unit_zero hz2, View.ld_unit_zero hz1]
  exact congrArg (k0_pay1 (iblk m c 0 t)) (congrArg (iblk m c 1 t) (eq_ix1 _))

/-- and in the product's, its product payload. -/
theorem outs_4 (c : Dev nD) (t : Fin cfg0.N) :
    (outsAt0 m c t).2 = k0_pay2 (iblk m c 0 t) (scaleWord (iblk m c 1 t)) (iblk m c 2 t) := by
  unfold outsAt0 out0_A_4
  dsimp only
  rw [View.read_writes_eq_canon _ _ _ (cover0_A_4 c _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero hz2]
  repeat first | rw [View.ld_unit_zero hz2] | rw [View.ld_unit_zero hz1]
  exact congrArg (fun w => k0_pay2 (iblk m c 0 t) w (iblk m c 2 t)) (congrArg (iblk m c 1 t) (eq_ix1 _))

theorem V_main_v3 (c : Dev nD) : V m c main_v3 = shapeCast S1 (m ((c.tc : Thread nD τ).loc main_arg1)) shapeCasts_S_S1 := by
  show StableHlo.after hostOps0 _ _ = _
  after_results
  try rfl
theorem V_main_v2 (c : Dev nD) : V m c main_v2 = shapeCast S2048x2048 (m ((c.tc : Thread nD τ).loc main_arg3)) shapeCasts_S16x128x2048_S2048x2048 := by
  show StableHlo.after hostOps0 _ _ = _
  after_results
  try rfl

/-- The codes' array after the region. -/
theorem codes_eq (c : Dev nD) :
    Value.reg_main_v4_0 m c = k0_pay1 (m ((c.tc : Thread nD τ).loc main_arg0)) (m ((c.tc : Thread nD τ).loc main_arg1) ix0) := by
  refine (dats m 0 c).arrAt_eq_of_cover 3 _ (fun t _ => ?_) cover_3
  rw [read_3]
  show (cfg0.win 3).cut (grid0.coords t) ((dats m 0 c).after 3 t) = _
  rw [after0_3, outs_3, iblk_0, iblk_1, V_main_arg0, V_main_v3]
  exact congrArg (k0_pay1 _) (by pointwise)

/-- The product's array after the region. -/
theorem prod_eq (c : Dev nD) :
    Value.reg_main_v4_1 m c = k0_pay2 (m ((c.tc : Thread nD τ).loc main_arg0)) (m ((c.tc : Thread nD τ).loc main_arg1) ix0) (shapeCast S2048x2048 (m ((c.tc : Thread nD τ).loc main_arg3)) shapeCasts_S16x128x2048_S2048x2048) := by
  refine (dats m 0 c).arrAt_eq_of_cover 4 _ (fun t _ => ?_) cover_4
  rw [read_4]
  show (cfg0.win 4).cut (grid0.coords t) ((dats m 0 c).after 4 t) = _
  rw [after0_4, outs_4, iblk_0, iblk_1, iblk_2, V_main_arg0, V_main_v3, V_main_v2]
  exact congrArg (fun w => k0_pay2 _ w _) (by pointwise)

/-! ## At the extended reals, element by element -/

section AtIdeal

/-- The quantising payload at an index. -/
theorem pay1_apply (v : FVec Ideal S21504x2048 .f32) (s : Ideal .f32) (i : Fin 21504) (k : Fin 2048) :
    k0_pay1 (F := Ideal) v s (ix2 i k) = Cert.Proof.Math.quant (v (ix2 i k)) s := by
  pointwise [k0_pay1, Cert.Proof.Math.quant]

/-- The product payload at an index. -/
theorem pay2_apply (v : FVec Ideal S21504x2048 .f32) (s : Ideal .f32) (w : FVec Ideal S2048x2048 .fp8e4m3) (i : Fin 21504) (j : Fin 2048) :
    k0_pay2 (F := Ideal) v s w (ix2 i j) = ∑ k : Fin 2048, Cert.Proof.Math.quant (v (ix2 i k)) s * w (ix2 k j) := by
  pointwise [k0_pay2, k0_pay1, Cert.Proof.Math.quant]

end AtIdeal

end Cert.OprojRefIdeal.Hand

end
-- ==== Proof.OprojClaim.lean ====
/-
  The output projection: from arguments that agree, the kernel's codes, product, hidden state and scale and the
  reference's are equal as extended reals.
-/
module

public import proofs.«01_k».proof.Defs
public import proofs.«01_k».proof.Proof.OprojKernel
public import proofs.«01_k».proof.Proof.OprojRef

@[expose] public section

set_option maxRecDepth 16384

noncomputable section

namespace Cert.Proof.OprojClaim

open Idealize.ShloMosaic Idealize.ShloMosaic.TcCoe Idealize.SL.Sem
open Idealize.ShloMosaic.Pointwise
open Cert.Proof.Math

section Ref
open Cert.OprojRefIdeal Cert.OprojRefIdeal.Gen Cert.OprojRefIdeal.Read

/-- The reference's product rescaled, at an element. -/
theorem ref_proj (x1 x4 : FVec Ideal S_ .f32) (r : FVec Ideal S21504x2048 .f32) (i : Fin 21504) (j : Fin 2048) :
    val_main_v7 (F := Ideal) x1 x4 r (ix2 i j) = r (ix2 i j) * (x1 ix0 * x4 ix0) := by
  pointwise [val_main_v7, val_main_v6, val_main_v5]

/-- The reference's hidden state, at an element. -/
theorem ref_hid (x1 x4 : FVec Ideal S_ .f32) (e0 r : FVec Ideal S21504x2048 .f32) (x5 : FVec Ideal S2048 .f32) (i : Fin 21504) (j : Fin 2048) :
    val_main_v21 (F := Ideal) x1 x4 x5 r e0 (ix2 i j)
      = e0 (ix2 i j) + rms (Ideal.ofBits .f32 0x45000000#32) (fun j => val_main_v7 (F := Ideal) x1 x4 r (ix2 i j)) (x5 (ix1 j)) j := by
  unfold rms eps
  generalize hd : val_main_v7 (F := Ideal) x1 x4 r = d
  pointwise [val_main_v21, val_main_v20, val_main_v19, val_main_v18, val_main_v17, val_main_v16, val_main_v15, val_main_v14, val_main_v13,
    val_main_v12, val_main_v11, val_main_v10, val_main_v9, val_main_v8, val_main_cst, val_main_cst_0, val_main_cst_1, hd]

/-- The bounds of the reference's largest magnitude. -/
theorem ref_max_le (x1 x4 : FVec Ideal S_ .f32) (e0 r : FVec Ideal S21504x2048 .f32) (x5 : FVec Ideal S2048 .f32) (x : EReal) :
    (val_main_v24 (F := Ideal) x1 x4 x5 r e0 : FVec Ideal S_ .f32) ix0 ≤ x
      ↔ ∀ (i : Fin 21504) (j : Fin 2048), mag (val_main_v21 (F := Ideal) x1 x4 x5 r e0 (ix2 i j)) ≤ x := by
  have e : (val_main_v24 (F := Ideal) x1 x4 x5 r e0 : FVec Ideal S_ .f32) ix0
      = Finset.univ.fold max (Ideal.ofBits .f32 0xFF800000#32) fun k : Fin 21504 × Fin 2048 => mag (val_main_v21 (F := Ideal) x1 x4 x5 r e0 (ix2 k.1 k.2)) := by
    unfold val_main_v24 val_main_v23
    generalize val_main_v21 (F := Ideal) x1 x4 x5 r e0 = d
    pointwise [val_main_cst_2]
  rw [e, maxOver_le]
  exact ⟨fun h i j => h (i, j), fun h k => h k.1 k.2⟩

end Ref

/-- The claim. -/
theorem algebraic [h : Cert.OprojIdeal.Facts] [h' : Cert.OprojRefIdeal.Facts] : Cert.algebraic_OprojIdeal_OprojRefIdeal := by
  intro m g m' g' _ hagree
  refine ⟨fun c => OprojIdeal.Hand.codes m c, fun c => OprojIdeal.Hand.proj m c, fun c => OprojIdeal.Hand.hid m c,
    fun c => OprojIdeal.Hand.scaleOf (OprojIdeal.Hand.top (F := Ideal) (OprojIdeal.Hand.acc m c 83)), ?_, ?_⟩
  · refine (θ_run Cert.OprojIdeal.defs _ _).mono (fun _ h c => ?_) (Cert.OprojIdeal.Hand.run (F := Ideal) m g)
    obtain ⟨h0, h1, h2, h3, hrest⟩ := h c
    exact ⟨h0.trans (OprojIdeal.Hand.codes_eq m c), h1.trans (OprojIdeal.Hand.proj_eq m c), h2.trans (OprojIdeal.Hand.hid_eq m c),
      h3.trans (by rw [OprojIdeal.Hand.max_eq m c]), hrest⟩
  · refine (θ_run Cert.OprojRefIdeal.defs _ _).mono (fun _ h c => ?_) (Cert.OprojRefIdeal.Value.run (F := Ideal) m' g')
    obtain ⟨h0, h1, h2, h3, hrest⟩ := h c
    obtain ⟨e0, e1, e2, e3, e4, e5⟩ := hagree c
    have hp : ∀ (i : Fin 21504) (j : Fin 2048), OprojRefIdeal.Read.val_main_v7 (F := Ideal)
        (m' ((c.tc : Thread Cert.OprojRefIdeal.nD Cert.OprojRefIdeal.τ).loc Cert.OprojRefIdeal.main_arg1))
        (m' ((c.tc : Thread Cert.OprojRefIdeal.nD Cert.OprojRefIdeal.τ).loc Cert.OprojRefIdeal.main_arg4))
        (OprojRefIdeal.Value.reg_main_v4_1 m' c) (ix2 i j) = OprojIdeal.Hand.projAt m c i j := by
      intro i j
      rw [ref_proj, OprojRefIdeal.Hand.prod_eq, OprojRefIdeal.Hand.pay2_apply, e0, e1, e3, e4]
      rfl
    have hh : ∀ (i : Fin 21504) (j : Fin 2048), OprojRefIdeal.Read.val_main_v21 (F := Ideal)
        (m' ((c.tc : Thread Cert.OprojRefIdeal.nD Cert.OprojRefIdeal.τ).loc Cert.OprojRefIdeal.main_arg1))
        (m' ((c.tc : Thread Cert.OprojRefIdeal.nD Cert.OprojRefIdeal.τ).loc Cert.OprojRefIdeal.main_arg4))
        (m' ((c.tc : Thread Cert.OprojRefIdeal.nD Cert.OprojRefIdeal.τ).loc Cert.OprojRefIdeal.main_arg5))
        (OprojRefIdeal.Value.reg_main_v4_1 m' c)
        (extf (F := Ideal) .f32 (shapeCast _ (m' ((c.tc : Thread Cert.OprojRefIdeal.nD Cert.OprojRefIdeal.τ).loc Cert.OprojRefIdeal.main_arg2))
          Cert.OprojRefIdeal.Facts₀.shapeCasts_S3x7168x2048_S21504x2048) Cert.OprojRefIdeal.Facts₀.bitsLt_bf16_f32)
        (ix2 i j) = OprojIdeal.Hand.hidOf m c i j := by
      intro i j
      refine (ref_hid _ _ _ _ _ i j).trans ?_
      simp only [hp, e2, e5]
      rfl
    refine ⟨h0.trans ?_, h1.trans ?_, h2.trans ?_, h3.trans ?_, hrest⟩
    · funext (y : Cert.OprojRefIdeal.S21504x2048.Idx)
      obtain ⟨i, k, rfl⟩ : ∃ i k, y = ix2 i k := ⟨y 0, y 1, eq_ix2 y⟩
      rw [OprojRefIdeal.Hand.codes_eq, OprojRefIdeal.Hand.pay1_apply, e0, e1]
      rfl
    · funext (y : Cert.OprojRefIdeal.S21504x2048.Idx)
      obtain ⟨i, j, rfl⟩ : ∃ i j, y = ix2 i j := ⟨y 0, y 1, eq_ix2 y⟩
      exact hp i j
    · funext (y : Cert.OprojRefIdeal.S21504x2048.Idx)
      obtain ⟨i, j, rfl⟩ : ∃ i j, y = ix2 i j := ⟨y 0, y 1, eq_ix2 y⟩
      exact hh i j
    · refine congrArg (OprojIdeal.Hand.scaleOf (F := Ideal)) (a₁ := OprojRefIdeal.Read.val_main_v24 (F := Ideal)
        (m' ((c.tc : Thread Cert.OprojRefIdeal.nD Cert.OprojRefIdeal.τ).loc Cert.OprojRefIdeal.main_arg1))
        (m' ((c.tc : Thread Cert.OprojRefIdeal.nD Cert.OprojRefIdeal.τ).loc Cert.OprojRefIdeal.main_arg4))
        (m' ((c.tc : Thread Cert.OprojRefIdeal.nD Cert.OprojRefIdeal.τ).loc Cert.OprojRefIdeal.main_arg5))
        (OprojRefIdeal.Value.reg_main_v4_1 m' c)
        (extf (F := Ideal) .f32 (shapeCast _ (m' ((c.tc : Thread Cert.OprojRefIdeal.nD Cert.OprojRefIdeal.τ).loc Cert.OprojRefIdeal.main_arg2))
          Cert.OprojRefIdeal.Facts₀.shapeCasts_S3x7168x2048_S21504x2048) Cert.OprojRefIdeal.Facts₀.bitsLt_bf16_f32)) ?_
      funext (y : Cert.OprojRefIdeal.S_.Idx)
      obtain rfl : y = ix0 := funext fun a => a.elim0
      refine eq_of_bounds fun x => (ref_max_le _ _ _ _ _ x).trans ((forall_congr' fun i => forall_congr' fun j => ?_).trans (OprojIdeal.Hand.top_le m c x).symm)
      rw [hh]

end Cert.Proof.OprojClaim

end
-- ==== Proof.QkvPieces.lean ====
/-
  The query, key and value projections' kernel: one run of its body, as stores of head and chunk payloads.
-/
module

public import proofs.«01_k».proof.Proof.Math
public import proofs.«01_k».proof.Proof.Gen.QkvIdeal.Value
public import Idealize.ShloMosaic.Lib.Pipeline.Value
public import Idealize.ShloMosaic.Lib.UnfoldOut

@[expose] public section

set_option maxRecDepth 16384

noncomputable section

namespace Cert.QkvIdeal.Hand

open Cert.QkvIdeal Cert.QkvIdeal.Gen Idealize.ShloMosaic Idealize.ShloMosaic.TcCoe Idealize.SL.Sem
open Idealize.ShloMosaic.Pipeline (Dat)
open Idealize.ShloMosaic.Pointwise
open Cert.Proof.Math

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The two scales, read from their array. -/
abbrev word0 (x : Vec F S2 .f32) : F .f32 := x (ix1 0)
abbrev word1 (x : Vec F S2 .f32) : F .f32 := x (ix1 1)

theorem ld_word0 (x : Vec F S2 .f32) (h) (y) : View.ld x (Rect.unit (s := S2) ![0] ![1] h) y = word0 x := by
  refine congrArg x (funext fun a => Fin.ext ?_)
  match a with
  | ⟨0, _⟩ => show 0 + 1 * (y 0).val = 0; have := (y 0).isLt; have h2 : (y 0).val < 1 := this; omega
theorem ld_word1 (x : Vec F S2 .f32) (h) (y) : View.ld x (Rect.unit (s := S2) ![1] ![1] h) y = word1 x := by
  refine congrArg x (funext fun a => Fin.ext ?_)
  match a with
  | ⟨0, _⟩ => show 1 + 1 * (y 0).val = 1; have := (y 0).isLt; have h2 : (y 0).val < 1 := this; omega

/-! ### The payloads of one head and one chunk -/

theorem inbW (g : Fin 8) : ∀ a, (![512 * g.val, 0] : Fin 2 → Nat) a + S512x2048.size a ≤ S4096x2048.size a := by
  intro a; fin_cases a
  · show 512 * g.val + 512 ≤ 4096; omega
  · show 0 + 2048 ≤ 2048; omega
theorem inbK (g : Fin 4) : ∀ a, (![0, 512 * g.val] : Fin 2 → Nat) a + S2048x512.size a ≤ S2048x2048.size a := by
  intro a; fin_cases a
  · show 0 + 2048 ≤ 2048; omega
  · show 512 * g.val + 512 ≤ 2048; omega
theorem inbN (h : Fin 16) : ∀ a, (![128 * h.val, 0] : Fin 2 → Nat) a + S128x128.size a ≤ S2048x128.size a := by
  intro a; fin_cases a
  · show 128 * h.val + 128 ≤ 2048; omega
  · show 0 + 128 ≤ 128; omega
theorem inbM (h : Fin 16) : ∀ a, (![0, 128 * h.val] : Fin 2 → Nat) a + S1x128.size a ≤ S1x2048.size a := by
  intro a; fin_cases a
  · show 0 + 1 ≤ 1; omega
  · show 128 * h.val + 128 ≤ 2048; omega
theorem inbQ1 (h : Fin 16) : ∀ a, (![0, 128 * h.val, 0] : Fin 3 → Nat) a + S1x64x512.size a ≤ S1x2048x512.size a := by
  intro a; fin_cases a
  · show 0 + 1 ≤ 1; omega
  · show 128 * h.val + 64 ≤ 2048; omega
  · show 0 + 512 ≤ 512; omega
theorem inbQ2 (h : Fin 16) : ∀ a, (![0, 128 * h.val + 64, 0] : Fin 3 → Nat) a + S1x64x512.size a ≤ S1x2048x512.size a := by
  intro a; fin_cases a
  · show 0 + 1 ≤ 1; omega
  · show 128 * h.val + 64 + 64 ≤ 2048; omega
  · show 0 + 512 ≤ 512; omega
theorem inbO (h : Fin 16) : ∀ a, (![0, 0, 128 * h.val] : Fin 3 → Nat) a + S1x512x128.size a ≤ S1x512x2048.size a := by
  intro a; fin_cases a
  · show 0 + 1 ≤ 1; omega
  · show 0 + 512 ≤ 512; omega
  · show 128 * h.val + 128 ≤ 2048; omega
theorem inbV (g : Fin 4) : ∀ a, (![0, 512 * g.val, 0] : Fin 3 → Nat) a + S1x512x512.size a ≤ S1x2048x512.size a := by
  intro a; fin_cases a
  · show 0 + 1 ≤ 1; omega
  · show 512 * g.val + 512 ≤ 2048; omega
  · show 0 + 512 ≤ 512; omega
theorem slicesR (r : Fin 4) : S512x512.Slices ![128 * r.val, 0] S128x512 := by
  fin_cases r
  · exact slices_S512x512_o0_0_S128x512
  · exact slices_S512x512_o128_0_S128x512
  · exact slices_S512x512_o256_0_S128x512
  · exact slices_S512x512_o384_0_S128x512
theorem slicesC (r : Fin 4) : S512x512.Slices ![0, 128 * r.val] S512x128 := by
  fin_cases r
  · exact slices_S512x512_o0_0_S512x128
  · exact slices_S512x512_o0_128_S512x128
  · exact slices_S512x512_o0_256_S512x128
  · exact slices_S512x512_o0_384_S512x128

/-- A chunk of 512 rows of the transposed query and value weights. -/
abbrev chunkW (W : Vec F S4096x2048 .fp8e4m3) (g : Fin 8) : Vec F S512x2048 .fp8e4m3 :=
  View.ld W (Rect.unit (s := S4096x2048) ![512 * g.val, 0] S512x2048.size (inbW g))
/-- A chunk of 512 columns of the key weights. -/
abbrev chunkK (W : Vec F S2048x2048 .fp8e4m3) (g : Fin 4) : Vec F S2048x512 .fp8e4m3 :=
  View.ld W (Rect.unit (s := S2048x2048) ![0, 512 * g.val] S2048x512.size (inbK g))
/-- A head's norm weights, of the queries and of the keys. -/
abbrev headN (W : Vec F S2048x128 .f32) (h : Fin 16) : Vec F S128x128 .f32 :=
  View.ld W (Rect.unit (s := S2048x128) ![128 * h.val, 0] S128x128.size (inbN h))
abbrev headM (W : Vec F S1x2048 .f32) (h : Fin 16) : Vec F S1x128 .f32 :=
  View.ld W (Rect.unit (s := S1x2048) ![0, 128 * h.val] S1x128.size (inbM h))

/-- The product of a chunk of transposed weights with the codes, transposed. -/
def prodW (v : FVec F S512x2048 .fp8e4m3) (w : Vec F S512x2048 .fp8e4m3) : FVec F S512x512 .f32 :=
  matmul dot_S512x2048_S512x2048_S512x512_1_1_0_0_n_n none (shapeCast S512x2048 w shapeCasts_S512x2048_S512x2048) v (constant S512x512 .f32 0x00000000#32)
/-- The product of the codes with a chunk of key weights. -/
def prodK (v : FVec F S512x2048 .fp8e4m3) (w : Vec F S2048x512 .fp8e4m3) : FVec F S512x512 .f32 :=
  matmul dot_S512x2048_S2048x512_S512x512_1_0_0_1_n_n none v (shapeCast S2048x512 w shapeCasts_S2048x512_S2048x512) (constant S512x512 .f32 0x00000000#32)

/-- One head's queries, transposed. -/
def rawQ (t : FVec F S512x512 .f32) (sc : F .f32) (r : Fin 4) : FVec F S128x512 .f32 :=
  mulf (extractStridedSlice S128x512 ![128 * r.val, 0] t (slicesR r)) (broadcast S128x512 sc)
/-- One head's keys. -/
def rawK (t : FVec F S512x512 .f32) (sc : F .f32) (r : Fin 4) : FVec F S512x128 .f32 :=
  mulf (extractStridedSlice S512x128 ![0, 128 * r.val] t (slicesC r)) (broadcast S512x128 sc)

/-- The root-mean-square norm of one head's queries. -/
def normQ (q : FVec F S128x512 .f32) (w : Vec F S128x128 .f32) : FVec F S128x512 .f32 :=
  have v64 : FVec F S128x512 .f32 := mulf q q
  have v65 : FVec F S512 .f32 := multiReduction .add [0] S512 v64 0x00000000#32 reduces_S128x512_S512 (.inl rfl) rfl
  have v66 : FVec F S1x512 .f32 := shapeCast S1x512 v65 shapeCasts_S512_S1x512
  have v68 : FVec F S1x512 .f32 := divf v66 (broadcast S1x512 (Scalar.ofBits .f32 0x43000000#32))
  have v35 : FVec F S1x512 .f32 := addf v68 (broadcast S1x512 (Scalar.ofBits .f32 0x358637BD#32))
  have v36 : FVec F S1x512 .f32 := sqrt v35
  have v38 : FVec F S1x512 .f32 := divf (broadcast S1x512 (Scalar.ofBits .f32 0x3F800000#32)) v36
  have v40 : FVec F S128x128 .f32 := shapeCast S128x128 w shapeCasts_S128x128_S128x128
  have v41 : FVec F S128x512 .f32 := concatenate S128x512 1 [⟨S128x128, v40⟩, ⟨S128x128, v40⟩, ⟨S128x128, v40⟩, ⟨S128x128, v40⟩] concatenates_S128x128_S128x128_S128x128_S128x128_S128x512_d1
  have v42 : FVec F S128x512 .f32 := broadcastTo S128x512 v38 broadcasts_S1x512_S128x512
  mulf (mulf q v42) v41
/-- The root-mean-square norm of one head's keys. -/
def normK (q : FVec F S512x128 .f32) (w : Vec F S1x128 .f32) : FVec F S512x128 .f32 :=
  have v643 : FVec F S512x128 .f32 := mulf q q
  have v644 : FVec F S512 .f32 := multiReduction .add [1] S512 v643 0x00000000#32 reduces_S512x128_S512 (.inl rfl) rfl
  have v645 : FVec F S512x1 .f32 := shapeCast S512x1 v644 shapeCasts_S512_S512x1
  have v647 : FVec F S512x1 .f32 := divf v645 (broadcast S512x1 (Scalar.ofBits .f32 0x43000000#32))
  have v649 : FVec F S512x1 .f32 := addf v647 (broadcast S512x1 (Scalar.ofBits .f32 0x358637BD#32))
  have v650 : FVec F S512x1 .f32 := sqrt v649
  have v652 : FVec F S512x1 .f32 := divf (broadcast S512x1 (Scalar.ofBits .f32 0x3F800000#32)) v650
  have v653 : FVec F S512x128 .f32 := broadcastTo S512x128 v652 broadcasts_S512x1_S512x128
  have v656 : FVec F S1x128 .f32 := shapeCast S1x128 w shapeCasts_S1x128_S1x128
  have v657 : FVec F S512x128 .f32 := broadcastTo S512x128 v656 broadcasts_S1x128_S512x128
  mulf (mulf q v653) v657

/-- The rotary embedding of one head's normalised queries: the first and the second half of its rows. -/
def rotQ1 (n : FVec F S128x512 .f32) (cos sin : FVec F S64x512 .f32) : FVec F S1x64x512 .bf16 :=
  shapeCast S1x64x512 (truncf .bf16 (subf (mulf (extractStridedSlice S64x512 ![0, 0] n slices_S128x512_o0_0_S64x512) cos)
    (mulf (extractStridedSlice S64x512 ![64, 0] n slices_S128x512_o64_0_S64x512) sin)) bitsLt_bf16_f32) shapeCasts_S64x512_S1x64x512
def rotQ2 (n : FVec F S128x512 .f32) (cos sin : FVec F S64x512 .f32) : FVec F S1x64x512 .bf16 :=
  shapeCast S1x64x512 (truncf .bf16 (addf (mulf (extractStridedSlice S64x512 ![64, 0] n slices_S128x512_o64_0_S64x512) cos)
    (mulf (extractStridedSlice S64x512 ![0, 0] n slices_S128x512_o0_0_S64x512) sin)) bitsLt_bf16_f32) shapeCasts_S64x512_S1x64x512

/-- The rotary embedding's factors for the keys. -/
def cosK (cos : FVec F S64x512 .f32) : FVec F S512x128 .f32 :=
  transpose S512x128 [1, 0] (concatenate S128x512 0 [⟨S64x512, cos⟩, ⟨S64x512, cos⟩] concatenates_S64x512_S64x512_S128x512_d0) transposes_S128x512_p1_0_S512x128
def sinK (sin : FVec F S64x512 .f32) : FVec F S512x128 .f32 :=
  transpose S512x128 [1, 0] (concatenate S128x512 0 [⟨S64x512, subf (broadcast S64x512 (Scalar.ofBits .f32 0x00000000#32)) sin⟩, ⟨S64x512, sin⟩] concatenates_S64x512_S64x512_S128x512_d0) transposes_S128x512_p1_0_S512x128
/-- The rotary embedding of one head's normalised keys. -/
def rotK (n : FVec F S512x128 .f32) (cos sin : FVec F S64x512 .f32) : FVec F S1x512x128 .bf16 :=
  shapeCast S1x512x128 (truncf .bf16 (addf (mulf n (cosK cos)) (mulf (dynamicRotate 1 64#32 none n rotates_S512x128_d1) (sinK sin))) bitsLt_bf16_f32) shapeCasts_S512x128_S1x512x128

/-- The values of a chunk, transposed. -/
def valT (v : FVec F S512x2048 .fp8e4m3) (sc : F .f32) (w : Vec F S512x2048 .fp8e4m3) : FVec F S1x512x512 .bf16 :=
  shapeCast S1x512x512 (truncf .bf16 (mulf (prodW v w) (broadcast S512x512 sc)) bitsLt_bf16_f32) shapeCasts_S512x512_S1x512x512

/-! ### The stores -/

/-- The chunk a head lies in, and its place there. -/
abbrev grp (h : Fin 16) : Fin 4 := ⟨h.val / 4, by omega⟩
abbrev pos (h : Fin 16) : Fin 4 := ⟨h.val % 4, by omega⟩
abbrev wq (g : Fin 4) : Fin 8 := ⟨g.val, by omega⟩
abbrev wv (g : Fin 4) : Fin 8 := ⟨4 + g.val, by omega⟩

/-- One head's normalised queries and keys. -/
def headQ (v : FVec F S512x2048 .fp8e4m3) (sc : F .f32) (W : Vec F S4096x2048 .fp8e4m3) (N : Vec F S2048x128 .f32) (h : Fin 16) : FVec F S128x512 .f32 :=
  normQ (rawQ (prodW v (chunkW W (wq (grp h)))) sc (pos h)) (headN N h)
def headK (v : FVec F S512x2048 .fp8e4m3) (sc : F .f32) (W : Vec F S2048x2048 .fp8e4m3) (N : Vec F S1x2048 .f32) (h : Fin 16) : FVec F S512x128 .f32 :=
  normK (rawK (prodK v (chunkK W (grp h))) sc (pos h)) (headM N h)

def heads : List (Fin 16) := [0, 1, 2, 3, 4, 5, 6, 7, 8, 9, 10, 11, 12, 13, 14, 15]
theorem mem_heads : ∀ h : Fin 16, h ∈ heads := by decide
def groups : List (Fin 4) := [0, 1, 2, 3]
theorem mem_groups : ∀ h : Fin 4, h ∈ groups := by decide

def pieceQ1 (v : FVec F S512x2048 .fp8e4m3) (sc : F .f32) (cos sin : FVec F S64x512 .f32) (W : Vec F S4096x2048 .fp8e4m3) (N : Vec F S2048x128 .f32) (h : Fin 16) : View.Piece (Elt F) S1x2048x512 .bf16 :=
  ⟨Rect.unit (s := S1x2048x512) ![0, 128 * h.val, 0] S1x64x512.size (inbQ1 h), rotQ1 (headQ v sc W N h) cos sin⟩
def pieceQ2 (v : FVec F S512x2048 .fp8e4m3) (sc : F .f32) (cos sin : FVec F S64x512 .f32) (W : Vec F S4096x2048 .fp8e4m3) (N : Vec F S2048x128 .f32) (h : Fin 16) : View.Piece (Elt F) S1x2048x512 .bf16 :=
  ⟨Rect.unit (s := S1x2048x512) ![0, 128 * h.val + 64, 0] S1x64x512.size (inbQ2 h), rotQ2 (headQ v sc W N h) cos sin⟩
def pieceK (v : FVec F S512x2048 .fp8e4m3) (sc : F .f32) (cos sin : FVec F S64x512 .f32) (W : Vec F S2048x2048 .fp8e4m3) (N : Vec F S1x2048 .f32) (h : Fin 16) : View.Piece (Elt F) S1x512x2048 .bf16 :=
  ⟨Rect.unit (s := S1x512x2048) ![0, 0, 128 * h.val] S1x512x128.size (inbO h), rotK (headK v sc W N h) cos sin⟩
def pieceV (v : FVec F S512x2048 .fp8e4m3) (sc : F .f32) (W : Vec F S4096x2048 .fp8e4m3) (g : Fin 4) : View.Piece (Elt F) S1x2048x512 .bf16 :=
  ⟨Rect.unit (s := S1x2048x512) ![0, 512 * g.val, 0] S1x512x512.size (inbV g), valT v sc (chunkW W (wv g))⟩

variable (m : (ℓ : Loc nD τ sig) → Buf (Elt F) ℓ)

/-- A block's codes, and the codes as the products read them. -/
def codesAt (c : Dev nD) (t : Fin cfg0.N) : FVec F S1x512x2048 .fp8e4m3 := k0_pay2 (iblk m c 1 t) (word0 (iblk m c 0 t))
def vAt (c : Dev nD) (t : Fin cfg0.N) : FVec F S512x2048 .fp8e4m3 := k0_pay3 (codesAt m c t)
def scAt (c : Dev nD) (t : Fin cfg0.N) : F .f32 := k0_pay4 (word0 (iblk m c 0 t)) (word1 (iblk m c 0 t))
def cosAt (c : Dev nD) (t : Fin cfg0.N) : FVec F S64x512 .f32 := k0_pay5 (iblk m c 2 t)
def sinAt (c : Dev nD) (t : Fin cfg0.N) : FVec F S64x512 .f32 := k0_pay6 (iblk m c 3 t)

/-- What the kernel leaves in the codes' staging buffer. -/
theorem outs_8 (c : Dev nD) (t : Fin cfg0.N) : (outsAt0 m c t).1 = codesAt m c t := by
  unfold outsAt0 out0_A_8
  dsimp only
  rw [View.read_writes_eq_canon _ _ _ (cover0_A_8 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rw [View.canon_unit_zero hz3]
  repeat first | rw [View.ld_unit_zero hz3] | rw [ld_word0] | rw [ld_word1]
  rfl

set_option maxHeartbeats 4000000 in
theorem outs_11 (c : Dev nD) (t : Fin cfg0.N) :
    (outsAt0 m c t).2.2.2 = View.canon (groups.reverse.map (pieceV (vAt m c t) (scAt m c t) (iblk m c 4 t))) := by
  unfold outsAt0 out0_A_11
  dsimp only
  rw [View.read_writes_eq_canon _ _ _ (cover0_A_11 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  repeat first | rw [View.ld_unit_zero hz3] | rw [ld_word0] | rw [ld_word1] | rw [View.readCov_unit_zero _ hz3]
  rfl

set_option maxHeartbeats 4000000 in
/-- The stores of the queries: two to a head, the last head's on top. -/
theorem outs_9 (c : Dev nD) (t : Fin cfg0.N) :
    (outsAt0 m c t).2.1 = View.canon (heads.reverse.flatMap fun h =>
      [pieceQ2 (vAt m c t) (scAt m c t) (cosAt m c t) (sinAt m c t) (iblk m c 4 t) (iblk m c 6 t) h,
        pieceQ1 (vAt m c t) (scAt m c t) (cosAt m c t) (sinAt m c t) (iblk m c 4 t) (iblk m c 6 t) h]) := by
  unfold outsAt0 out0_A_9
  dsimp only
  rw [View.read_writes_eq_canon _ _ _ (cover0_A_9 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  repeat first | rw [View.ld_unit_zero hz3] | rw [ld_word0] | rw [ld_word1] | rw [View.readCov_unit_zero _ hz3]
  rfl

set_option maxHeartbeats 4000000 in
/-- The stores of the keys, one to a head. -/
theorem outs_10 (c : Dev nD) (t : Fin cfg0.N) :
    (outsAt0 m c t).2.2.1 = View.canon (heads.reverse.map
      (pieceK (vAt m c t) (scAt m c t) (cosAt m c t) (sinAt m c t) (iblk m c 5 t) (iblk m c 7 t))) := by
  unfold outsAt0 out0_A_10
  dsimp only
  rw [View.read_writes_eq_canon _ _ _ (cover0_A_10 c _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  repeat first | rw [View.ld_unit_zero hz3] | rw [ld_word0] | rw [ld_word1] | rw [View.readCov_unit_zero _ hz3]
  rfl

end Cert.QkvIdeal.Hand

end
-- ==== Proof.QkvMath.lean ====
/-
  The query, key and value projections' kernel at the extended reals: its payloads, element by element.
-/
module

public import proofs.«01_k».proof.Proof.QkvPieces

@[expose] public section

set_option maxRecDepth 16384

noncomputable section

namespace Cert.Proof.Math

open Idealize.ShloMosaic

/-- The rotary embedding of one head: the first and the second half. -/
def rot1 (n : Fin 128 → EReal) (c s : Fin 64 → EReal) (j : Fin 64) : EReal :=
  n ⟨j.val, by omega⟩ * c j - n ⟨64 + j.val, by omega⟩ * s j
def rot2 (n : Fin 128 → EReal) (c s : Fin 64 → EReal) (j : Fin 64) : EReal :=
  n ⟨64 + j.val, by omega⟩ * c j + n ⟨j.val, by omega⟩ * s j
def rotary (n : Fin 128 → EReal) (c s : Fin 64 → EReal) (d : Fin 128) : EReal :=
  if h : d.val < 64 then rot1 n c s ⟨d.val, h⟩ else rot2 n c s ⟨d.val - 64, by omega⟩

theorem rotary_lo (n : Fin 128 → EReal) (c s : Fin 64 → EReal) (j : Fin 64) : rotary n c s ⟨j.val, by omega⟩ = rot1 n c s j := by
  unfold rotary; rw [dif_pos j.isLt]
theorem rotary_hi (n : Fin 128 → EReal) (c s : Fin 64 → EReal) (j : Fin 64) : rotary n c s ⟨64 + j.val, by omega⟩ = rot2 n c s j := by
  unfold rotary
  rw [dif_neg (by show ¬ 64 + j.val < 64; omega)]
  exact congrArg (rot2 n c s) (Fin.ext (by show 64 + j.val - 64 = j.val; omega))

/-- Every place in a head is in its first or its second half. -/
theorem half_surj (d : Fin 128) : (∃ j : Fin 64, d = ⟨j.val, by omega⟩) ∨ ∃ j : Fin 64, d = ⟨64 + j.val, by omega⟩ := by
  by_cases h : d.val < 64
  · exact .inl ⟨⟨d.val, h⟩, rfl⟩
  · exact .inr ⟨⟨d.val - 64, by omega⟩, Fin.ext (by show d.val = 64 + (d.val - 64); omega)⟩

theorem zero_f32' : Ideal.ofBits .f32 0x00000000#32 = 0 := by
  simp [Ideal.ofBits, Ideal.ieee]

/-- Adding a multiple of a negated factor is subtracting the multiple. -/
theorem add_mul_zero_sub (a b c : EReal) : a + b * (0 - c) = a - b * c := by
  rw [zero_sub, mul_neg, sub_eq_add_neg]

end Cert.Proof.Math

namespace Cert.QkvIdeal.Hand

open Cert.QkvIdeal Cert.QkvIdeal.Gen Idealize.ShloMosaic Idealize.ShloMosaic.TcCoe Idealize.SL.Sem
open Idealize.ShloMosaic.Pointwise
open Cert.Proof.Math

/-- The heads' length. -/
abbrev n128 : EReal := Ideal.ofBits .f32 0x43000000#32

theorem prodW_apply (v : FVec Ideal S512x2048 .fp8e4m3) (w : Vec Ideal S512x2048 .fp8e4m3) (n l : Fin 512) :
    prodW (F := Ideal) v w (ix2 n l) = ∑ k : Fin 2048, w (ix2 n k) * v (ix2 l k) := by
  pointwise [prodW]
theorem prodK_apply (v : FVec Ideal S512x2048 .fp8e4m3) (w : Vec Ideal S2048x512 .fp8e4m3) (l n : Fin 512) :
    prodK (F := Ideal) v w (ix2 l n) = ∑ k : Fin 2048, v (ix2 l k) * w (ix2 k n) := by
  pointwise [prodK]
theorem rawQ_apply (t : FVec Ideal S512x512 .f32) (sc : Ideal .f32) (r : Fin 4) (d : Fin 128) (l : Fin 512) :
    rawQ (F := Ideal) t sc r (ix2 d l) = t (ix2 ⟨128 * r.val + d.val, by omega⟩ l) * sc := by
  pointwise [rawQ]
theorem rawK_apply (t : FVec Ideal S512x512 .f32) (sc : Ideal .f32) (r : Fin 4) (d : Fin 128) (l : Fin 512) :
    rawK (F := Ideal) t sc r (ix2 l d) = t (ix2 l ⟨128 * r.val + d.val, by omega⟩) * sc := by
  pointwise [rawK]

theorem normK_apply (q : FVec Ideal S512x128 .f32) (w : Vec Ideal S1x128 .f32) (l : Fin 512) (d : Fin 128) :
    normK (F := Ideal) q w (ix2 l d) = rms n128 (fun d => q (ix2 l d)) (w (ix2 0 d)) d := by
  rw [← rms_eq n128 n128_pos]
  unfold eps
  pointwise [normK]

/-- The norm weights of a head, repeated along the lanes. -/
theorem tile_apply (w : Vec Ideal S128x128 .f32) (u : Fin 128 → EReal) (hw : ∀ d e : Fin 128, w (ix2 d e) = u d) (d : Fin 128) (l : Fin 512) :
    concatenate S128x512 1 [⟨S128x128, w⟩, ⟨S128x128, w⟩, ⟨S128x128, w⟩, ⟨S128x128, w⟩] concatenates_S128x128_S128x128_S128x128_S128x128_S128x512_d1 (ix2 d l) = u d := by
  pointwise [hw]
  split_ifs <;> rfl

theorem normQ_apply (q : FVec Ideal S128x512 .f32) (w : Vec Ideal S128x128 .f32) (u : Fin 128 → EReal) (hw : ∀ d e : Fin 128, w (ix2 d e) = u d) (d : Fin 128) (l : Fin 512) :
    normQ (F := Ideal) q w (ix2 d l) = rms n128 (fun d => q (ix2 d l)) (u d) d := by
  rw [← rms_eq n128 n128_pos]
  unfold eps
  have hs : shapeCast S128x128 w shapeCasts_S128x128_S128x128 = w := by
    funext (y : S128x128.Idx); obtain ⟨i, j, rfl⟩ : ∃ i j, y = ix2 i j := ⟨y 0, y 1, eq_ix2 y⟩; pointwise
  have ht := tile_apply w u hw d l
  unfold normQ
  dsimp only
  rw [hs]
  generalize concatenate S128x512 1 [⟨S128x128, w⟩, ⟨S128x128, w⟩, ⟨S128x128, w⟩, ⟨S128x128, w⟩] concatenates_S128x128_S128x128_S128x128_S128x128_S128x512_d1 = W at ht ⊢
  rw [← ht]
  pointwise

theorem rotQ1_apply (n : FVec Ideal S128x512 .f32) (cos sin : FVec Ideal S64x512 .f32) (j : Fin 64) (l : Fin 512) :
    rotQ1 (F := Ideal) n cos sin (ix3 0 j l) = rot1 (fun d => n (ix2 d l)) (fun j => cos (ix2 j l)) (fun j => sin (ix2 j l)) j := by
  unfold rot1
  pointwise [rotQ1]
theorem rotQ2_apply (n : FVec Ideal S128x512 .f32) (cos sin : FVec Ideal S64x512 .f32) (j : Fin 64) (l : Fin 512) :
    rotQ2 (F := Ideal) n cos sin (ix3 0 j l) = rot2 (fun d => n (ix2 d l)) (fun j => cos (ix2 j l)) (fun j => sin (ix2 j l)) j := by
  unfold rot2
  pointwise [rotQ2]

theorem rotK_lo (n : FVec Ideal S512x128 .f32) (cos sin : FVec Ideal S64x512 .f32) (j : Fin 64) (l : Fin 512) :
    rotK (F := Ideal) n cos sin (ix3 0 l ⟨j.val, by omega⟩) = rot1 (fun d => n (ix2 l d)) (fun j => cos (ix2 j l)) (fun j => sin (ix2 j l)) j := by
  unfold rot1
  rw [← add_mul_zero_sub, ← zero_f32']
  pointwise [rotK, cosK, sinK]
  have e : (⟨(j.val + 128 - 64) % 128, by omega⟩ : Fin 128) = ⟨64 + j.val, by omega⟩ := Fin.ext (by show (j.val + 128 - 64) % 128 = 64 + j.val; omega)
  rw [e]
theorem rotK_hi (n : FVec Ideal S512x128 .f32) (cos sin : FVec Ideal S64x512 .f32) (j : Fin 64) (l : Fin 512) :
    rotK (F := Ideal) n cos sin (ix3 0 l ⟨64 + j.val, by omega⟩) = rot2 (fun d => n (ix2 l d)) (fun j => cos (ix2 j l)) (fun j => sin (ix2 j l)) j := by
  unfold rot2
  pointwise [rotK, cosK, sinK]
  have e : (⟨(64 + j.val + 128 - 64) % 128, by omega⟩ : Fin 128) = ⟨j.val, by omega⟩ := Fin.ext (by show (64 + j.val + 128 - 64) % 128 = j.val; omega)
  rw [e]

theorem valT_apply (v : FVec Ideal S512x2048 .fp8e4m3) (sc : Ideal .f32) (w : Vec Ideal S512x2048 .fp8e4m3) (n l : Fin 512) :
    valT (F := Ideal) v sc w (ix3 0 n l) = prodW (F := Ideal) v w (ix2 n l) * sc := by
  unfold valT
  generalize prodW (F := Ideal) v w = p
  pointwise

theorem pay2_apply (v : Vec Ideal S1x512x2048 .bf16) (s : Ideal .f32) (l : Fin 512) (k : Fin 2048) :
    k0_pay2 (F := Ideal) v s (ix3 0 l k) = quant (v (ix3 0 l k)) s := by
  pointwise [k0_pay2, quant]
theorem pay3_apply (v : Vec Ideal S1x512x2048 .fp8e4m3) (l : Fin 512) (k : Fin 2048) :
    k0_pay3 (F := Ideal) v (ix2 l k) = v (ix3 0 l k) := by
  pointwise [k0_pay3]
theorem pay4_eq (a b : Ideal .f32) : k0_pay4 (F := Ideal) a b = a * b := rfl
theorem pay5_apply (v : Vec Ideal S1x64x512 .f32) (j : Fin 64) (l : Fin 512) : k0_pay5 (F := Ideal) v (ix2 j l) = v (ix3 0 j l) := by
  pointwise [k0_pay5]
theorem pay6_apply (v : Vec Ideal S1x64x512 .f32) (j : Fin 64) (l : Fin 512) : k0_pay6 (F := Ideal) v (ix2 j l) = v (ix3 0 j l) := by
  pointwise [k0_pay6]

end Cert.QkvIdeal.Hand

end
-- ==== Proof.QkvKernel.lean ====
/-
  The query, key and value projections' kernel: what its 42 blocks leave in the four result arrays, as functions of the
  arguments.
-/
module

public import proofs.«01_k».proof.Proof.QkvMath

@[expose] public section

set_option maxRecDepth 16384

noncomputable section

namespace Cert.QkvIdeal.Hand

open Cert.QkvIdeal Cert.QkvIdeal.Gen Idealize.ShloMosaic Idealize.ShloMosaic.TcCoe Idealize.SL.Sem
open Idealize.ShloMosaic.StableHlo
open Idealize.ShloMosaic.Pipeline (Dat)
open Idealize.ShloMosaic.Pointwise
open Cert.Proof.Math

section Blocks

variable {F : FTy → Type} [FloatOps F]
variable (m : (ℓ : Loc nD τ sig) → Buf (Elt F) ℓ)

/-- The whole-array windows' one block starts at the array's origin. -/
theorem index0_0 : ∀ (t : Fin cfg0.N) (a : Fin win0_0.shape.rank), win0_0.index t a = 0 :=
  (by decide +kernel : ∀ (t : Fin grid0.N) (a : Fin win0_0.shape.rank), win0_0.index t a = 0)
theorem index0_4 : ∀ (t : Fin cfg0.N) (a : Fin win0_4.shape.rank), win0_4.index t a = 0 :=
  (by decide +kernel : ∀ (t : Fin grid0.N) (a : Fin win0_4.shape.rank), win0_4.index t a = 0)
theorem index0_5 : ∀ (t : Fin cfg0.N) (a : Fin win0_5.shape.rank), win0_5.index t a = 0 :=
  (by decide +kernel : ∀ (t : Fin grid0.N) (a : Fin win0_5.shape.rank), win0_5.index t a = 0)
theorem index0_6 : ∀ (t : Fin cfg0.N) (a : Fin win0_6.shape.rank), win0_6.index t a = 0 :=
  (by decide +kernel : ∀ (t : Fin grid0.N) (a : Fin win0_6.shape.rank), win0_6.index t a = 0)
theorem index0_7 : ∀ (t : Fin cfg0.N) (a : Fin win0_7.shape.rank), win0_7.index t a = 0 :=
  (by decide +kernel : ∀ (t : Fin grid0.N) (a : Fin win0_7.shape.rank), win0_7.index t a = 0)

/-- The other windows' block at point `t` is row block `t % 14` of batch `t / 14`, its rows second or, transposed, third. -/
theorem index0_1 : ∀ t : Fin cfg0.N, win0_1.index t 0 = t.val / 14 ∧ win0_1.index t 1 = t.val % 14 ∧ win0_1.index t 2 = 0 :=
  (by decide +kernel : ∀ t : Fin grid0.N, win0_1.index t 0 = t.val / 14 ∧ win0_1.index t 1 = t.val % 14 ∧ win0_1.index t 2 = 0)
theorem index0_2 : ∀ t : Fin cfg0.N, win0_2.index t 0 = t.val / 14 ∧ win0_2.index t 1 = 0 ∧ win0_2.index t 2 = t.val % 14 :=
  (by decide +kernel : ∀ t : Fin grid0.N, win0_2.index t 0 = t.val / 14 ∧ win0_2.index t 1 = 0 ∧ win0_2.index t 2 = t.val % 14)
theorem index0_3 : ∀ t : Fin cfg0.N, win0_3.index t 0 = t.val / 14 ∧ win0_3.index t 1 = 0 ∧ win0_3.index t 2 = t.val % 14 :=
  (by decide +kernel : ∀ t : Fin grid0.N, win0_3.index t 0 = t.val / 14 ∧ win0_3.index t 1 = 0 ∧ win0_3.index t 2 = t.val % 14)
theorem index0_8 : ∀ t : Fin cfg0.N, win0_8.index t 0 = t.val / 14 ∧ win0_8.index t 1 = t.val % 14 ∧ win0_8.index t 2 = 0 :=
  (by decide +kernel : ∀ t : Fin grid0.N, win0_8.index t 0 = t.val / 14 ∧ win0_8.index t 1 = t.val % 14 ∧ win0_8.index t 2 = 0)
theorem index0_9 : ∀ t : Fin cfg0.N, win0_9.index t 0 = t.val / 14 ∧ win0_9.index t 1 = 0 ∧ win0_9.index t 2 = t.val % 14 :=
  (by decide +kernel : ∀ t : Fin grid0.N, win0_9.index t 0 = t.val / 14 ∧ win0_9.index t 1 = 0 ∧ win0_9.index t 2 = t.val % 14)
theorem index0_10 : ∀ t : Fin cfg0.N, win0_10.index t 0 = t.val / 14 ∧ win0_10.index t 1 = t.val % 14 ∧ win0_10.index t 2 = 0 :=
  (by decide +kernel : ∀ t : Fin grid0.N, win0_10.index t 0 = t.val / 14 ∧ win0_10.index t 1 = t.val % 14 ∧ win0_10.index t 2 = 0)
theorem index0_11 : ∀ t : Fin cfg0.N, win0_11.index t 0 = t.val / 14 ∧ win0_11.index t 1 = 0 ∧ win0_11.index t 2 = t.val % 14 :=
  (by decide +kernel : ∀ t : Fin grid0.N, win0_11.index t 0 = t.val / 14 ∧ win0_11.index t 1 = 0 ∧ win0_11.index t 2 = t.val % 14)

/-- The batch of block `t`, and row `l` of the block as a row of the batch. -/
abbrev bat (t : Fin cfg0.N) : Fin 3 := ⟨t.val / 14, by have h : t.val < grid0.N := t.isLt; rw [N_0] at h; omega⟩
abbrev row (t : Fin cfg0.N) (l : Fin 512) : Fin 7168 := ⟨t.val % 14 * 512 + l.val, by omega⟩

theorem at_batch {a b k : Nat} (h : a = b) (hk : k = 0) : a * 1 + k = b := by omega

theorem emb_1 (t : Fin cfg0.N) (l : Fin 512) (k : Fin 2048) : (win0_1.rect t).emb (ix3 0 l k) = ix3 (bat t) (row t l) k :=
  funext fun a => Fin.ext (by
    rw [win0_1.rect_emb_val t _ a rfl]
    match a with
    | ⟨0, _⟩ => exact at_batch (index0_1 t).1 rfl
    | ⟨1, _⟩ => exact at_idx (index0_1 t).2.1
    | ⟨2, _⟩ => exact at_zero (index0_1 t).2.2)
theorem emb_2 (t : Fin cfg0.N) (j : Fin 64) (l : Fin 512) : (win0_2.rect t).emb (ix3 0 j l) = ix3 (bat t) j (row t l) :=
  funext fun a => Fin.ext (by
    rw [win0_2.rect_emb_val t _ a rfl]
    match a with
    | ⟨0, _⟩ => exact at_batch (index0_2 t).1 rfl
    | ⟨1, _⟩ => exact at_zero (index0_2 t).2.1
    | ⟨2, _⟩ => exact at_idx (index0_2 t).2.2)
theorem emb_3 (t : Fin cfg0.N) (j : Fin 64) (l : Fin 512) : (win0_3.rect t).emb (ix3 0 j l) = ix3 (bat t) j (row t l) :=
  funext fun a => Fin.ext (by
    rw [win0_3.rect_emb_val t _ a rfl]
    match a with
    | ⟨0, _⟩ => exact at_batch (index0_3 t).1 rfl
    | ⟨1, _⟩ => exact at_zero (index0_3 t).2.1
    | ⟨2, _⟩ => exact at_idx (index0_3 t).2.2)
theorem emb_8 (t : Fin cfg0.N) (l : Fin 512) (k : Fin 2048) : (win0_8.rect t).emb (ix3 0 l k) = ix3 (bat t) (row t l) k :=
  funext fun a => Fin.ext (by
    rw [win0_8.rect_emb_val t _ a rfl]
    match a with
    | ⟨0, _⟩ => exact at_batch (index0_8 t).1 rfl
    | ⟨1, _⟩ => exact at_idx (index0_8 t).2.1
    | ⟨2, _⟩ => exact at_zero (index0_8 t).2.2)
theorem emb_9 (t : Fin cfg0.N) (n : Fin 2048) (l : Fin 512) : (win0_9.rect t).emb (ix3 0 n l) = ix3 (bat t) n (row t l) :=
  funext fun a => Fin.ext (by
    rw [win0_9.rect_emb_val t _ a rfl]
    match a with
    | ⟨0, _⟩ => exact at_batch (index0_9 t).1 rfl
    | ⟨1, _⟩ => exact at_zero (index0_9 t).2.1
    | ⟨2, _⟩ => exact at_idx (index0_9 t).2.2)
theorem emb_10 (t : Fin cfg0.N) (l : Fin 512) (k : Fin 2048) : (win0_10.rect t).emb (ix3 0 l k) = ix3 (bat t) (row t l) k :=
  funext fun a => Fin.ext (by
    rw [win0_10.rect_emb_val t _ a rfl]
    match a with
    | ⟨0, _⟩ => exact at_batch (index0_10 t).1 rfl
    | ⟨1, _⟩ => exact at_idx (index0_10 t).2.1
    | ⟨2, _⟩ => exact at_zero (index0_10 t).2.2)
theorem emb_11 (t : Fin cfg0.N) (n : Fin 2048) (l : Fin 512) : (win0_11.rect t).emb (ix3 0 n l) = ix3 (bat t) n (row t l) :=
  funext fun a => Fin.ext (by
    rw [win0_11.rect_emb_val t _ a rfl]
    match a with
    | ⟨0, _⟩ => exact at_batch (index0_11 t).1 rfl
    | ⟨1, _⟩ => exact at_zero (index0_11 t).2.1
    | ⟨2, _⟩ => exact at_idx (index0_11 t).2.2)

theorem iblk_0 (c : Dev nD) (t : Fin cfg0.N) : iblk m c 0 t = V m c main_v10 :=
  funext fun y => congrArg (V m c main_v10) (funext fun a => Fin.ext (win0_0.rect_emb_val_of_index_zero t a (index0_0 t a) y))
theorem iblk_1 (c : Dev nD) (t : Fin cfg0.N) (l : Fin 512) (k : Fin 2048) :
    (iblk m c 1 t : S1x512x2048.Idx → Elt F .bf16) (ix3 0 l k) = m ((c.tc : Thread nD τ).loc main_arg0) (ix3 (bat t) (row t l) k) :=
  (congrArg (V m c main_arg0) (emb_1 t l k)).trans (congrFun (V_main_arg0 m c) _)
theorem iblk_2 (c : Dev nD) (t : Fin cfg0.N) (j : Fin 64) (l : Fin 512) :
    (iblk m c 2 t : S1x64x512.Idx → Elt F .f32) (ix3 0 j l) = V m c main_v11 (ix3 (bat t) j (row t l)) :=
  congrArg (V m c main_v11) (emb_2 t j l)
theorem iblk_3 (c : Dev nD) (t : Fin cfg0.N) (j : Fin 64) (l : Fin 512) :
    (iblk m c 3 t : S1x64x512.Idx → Elt F .f32) (ix3 0 j l) = V m c main_v12 (ix3 (bat t) j (row t l)) :=
  congrArg (V m c main_v12) (emb_3 t j l)
theorem iblk_4 (c : Dev nD) (t : Fin cfg0.N) : iblk m c 4 t = V m c main_v4 :=
  funext fun y => congrArg (V m c main_v4) (funext fun a => Fin.ext (win0_4.rect_emb_val_of_index_zero t a (index0_4 t a) y))
theorem iblk_5 (c : Dev nD) (t : Fin cfg0.N) : iblk m c 5 t = V m c main_v1 :=
  funext fun y => congrArg (V m c main_v1) (funext fun a => Fin.ext (win0_5.rect_emb_val_of_index_zero t a (index0_5 t a) y))
theorem iblk_6 (c : Dev nD) (t : Fin cfg0.N) : iblk m c 6 t = V m c main_v6 :=
  funext fun y => congrArg (V m c main_v6) (funext fun a => Fin.ext (win0_6.rect_emb_val_of_index_zero t a (index0_6 t a) y))
theorem iblk_7 (c : Dev nD) (t : Fin cfg0.N) : iblk m c 7 t = V m c main_v7 :=
  funext fun y => congrArg (V m c main_v7) (funext fun a => Fin.ext (win0_7.rect_emb_val_of_index_zero t a (index0_7 t a) y))

/-- Every row of every batch is in some block. -/
theorem row_surj (b : Fin 3) (s : Fin 7168) : ∃ (t : Fin cfg0.N) (l : Fin 512), bat t = b ∧ row t l = s := by
  refine ⟨⟨b.val * 14 + s.val / 512, by show _ < grid0.N; rw [N_0]; omega⟩, ⟨s.val % 512, by omega⟩, Fin.ext ?_, Fin.ext ?_⟩
  · show (b.val * 14 + s.val / 512) / 14 = b.val
    omega
  · show (b.val * 14 + s.val / 512) % 14 * 512 + s.val % 512 = s.val
    omega

theorem cover_8 (i : S3x7168x2048.Idx) : ∃ t : Fin cfg0.N, (cfg0.win 8).flush t = true ∧ i ∈ ((cfg0.win 8).blk t).view.set := by
  obtain ⟨t, l, hb, hs⟩ := row_surj (i 0) (i 1)
  refine ⟨t, flush0_8 t, ?_⟩
  have hm := ((cfg0.win 8).blk t).view.emb_mem_set (ix3 0 l (i 2) : S1x512x2048.Idx)
  have e : ((cfg0.win 8).blk t).view.emb (ix3 0 l (i 2) : S1x512x2048.Idx) = i := by
    refine (emb_8 t l (i 2)).trans ?_
    rw [hb, hs]; exact (eq_ix3 i).symm
  rwa [e] at hm
theorem cover_9 (i : S3x2048x7168.Idx) : ∃ t : Fin cfg0.N, (cfg0.win 9).flush t = true ∧ i ∈ ((cfg0.win 9).blk t).view.set := by
  obtain ⟨t, l, hb, hs⟩ := row_surj (i 0) (i 2)
  refine ⟨t, flush0_9 t, ?_⟩
  have hm := ((cfg0.win 9).blk t).view.emb_mem_set (ix3 0 (i 1) l : S1x2048x512.Idx)
  have e : ((cfg0.win 9).blk t).view.emb (ix3 0 (i 1) l : S1x2048x512.Idx) = i := by
    refine (emb_9 t (i 1) l).trans ?_
    rw [hb, hs]; exact (eq_ix3 i).symm
  rwa [e] at hm
theorem cover_10 (i : S3x7168x2048.Idx) : ∃ t : Fin cfg0.N, (cfg0.win 10).flush t = true ∧ i ∈ ((cfg0.win 10).blk t).view.set := by
  obtain ⟨t, l, hb, hs⟩ := row_surj (i 0) (i 1)
  refine ⟨t, flush0_10 t, ?_⟩
  have hm := ((cfg0.win 10).blk t).view.emb_mem_set (ix3 0 l (i 2) : S1x512x2048.Idx)
  have e : ((cfg0.win 10).blk t).view.emb (ix3 0 l (i 2) : S1x512x2048.Idx) = i := by
    refine (emb_10 t l (i 2)).trans ?_
    rw [hb, hs]; exact (eq_ix3 i).symm
  rwa [e] at hm
theorem cover_11 (i : S3x2048x7168.Idx) : ∃ t : Fin cfg0.N, (cfg0.win 11).flush t = true ∧ i ∈ ((cfg0.win 11).blk t).view.set := by
  obtain ⟨t, l, hb, hs⟩ := row_surj (i 0) (i 2)
  refine ⟨t, flush0_11 t, ?_⟩
  have hm := ((cfg0.win 11).blk t).view.emb_mem_set (ix3 0 (i 1) l : S1x2048x512.Idx)
  have e : ((cfg0.win 11).blk t).view.emb (ix3 0 (i 1) l : S1x2048x512.Idx) = i := by
    refine (emb_11 t (i 1) l).trans ?_
    rw [hb, hs]; exact (eq_ix3 i).symm
  rwa [e] at hm

/-! ### What the host prepares -/

theorem V_main_v10 (c : Dev nD) : V m c main_v10 = concatenate S2 0 [⟨S1, broadcastInDim S1 ![] bcast_S_S1 (m ((c.tc : Thread nD τ).loc main_arg1))⟩, ⟨S1, broadcastInDim S1 ![] bcast_S_S1 (m ((c.tc : Thread nD τ).loc main_arg5))⟩] concatenates_S1_S1_S2_d0 := by
  show StableHlo.after hostOps0 _ _ = _
  after_results
  try rfl
theorem V_main_v11 (c : Dev nD) : V m c main_v11 = transpose S3x64x7168 [0, 2, 1] (m ((c.tc : Thread nD τ).loc main_arg2)) transposes_S3x7168x64_S3x64x7168_0_2_1 := by
  show StableHlo.after hostOps0 _ _ = _
  after_results
  try rfl
theorem V_main_v12 (c : Dev nD) : V m c main_v12 = transpose S3x64x7168 [0, 2, 1] (m ((c.tc : Thread nD τ).loc main_arg3)) transposes_S3x7168x64_S3x64x7168_0_2_1 := by
  show StableHlo.after hostOps0 _ _ = _
  after_results
  try rfl
theorem V_main_v4 (c : Dev nD) : V m c main_v4 = transpose S4096x2048 [1, 0] (concatenate S2048x4096 1
    [⟨S2048x2048, extractStridedSlice S2048x2048 ![0, 0] (m ((c.tc : Thread nD τ).loc main_arg4)) slices_S2048x6144_S2048x2048_0_0⟩,
     ⟨S2048x2048, extractStridedSlice S2048x2048 ![0, 4096] (m ((c.tc : Thread nD τ).loc main_arg4)) slices_S2048x6144_S2048x2048_0_4096⟩]
    concatenates_S2048x2048_S2048x2048_S2048x4096_d1) transposes_S2048x4096_S4096x2048_1_0 := by
  show StableHlo.after hostOps0 _ _ = _
  after_results
  try rfl
theorem V_main_v1 (c : Dev nD) : V m c main_v1 = extractStridedSlice S2048x2048 ![0, 2048] (m ((c.tc : Thread nD τ).loc main_arg4)) slices_S2048x6144_S2048x2048_0_2048 := by
  show StableHlo.after hostOps0 _ _ = _
  after_results
  try rfl
theorem V_main_v6 (c : Dev nD) : V m c main_v6 = broadcastInDim S2048x128 ![0, 1] bcast_S2048x1_S2048x128_0_1 (shapeCast S2048x1 (m ((c.tc : Thread nD τ).loc main_arg6)) shapeCasts_S16x128_S2048x1) := by
  show StableHlo.after hostOps0 _ _ = _
  after_results
  try rfl
theorem V_main_v7 (c : Dev nD) : V m c main_v7 = shapeCast S1x2048 (m ((c.tc : Thread nD τ).loc main_arg7)) shapeCasts_S16x128_S1x2048 := by
  show StableHlo.after hostOps0 _ _ = _
  after_results
  try rfl

theorem scale_0 (c : Dev nD) (t : Fin cfg0.N) : word0 (iblk m c 0 t) = m ((c.tc : Thread nD τ).loc main_arg1) ix0 := by
  rw [iblk_0, V_main_v10]; unfold word0
  pointwise
theorem scale_1 (c : Dev nD) (t : Fin cfg0.N) : word1 (iblk m c 0 t) = m ((c.tc : Thread nD τ).loc main_arg5) ix0 := by
  rw [iblk_0, V_main_v10]; unfold word1
  pointwise
theorem cos_at (c : Dev nD) (t : Fin cfg0.N) (j : Fin 64) (l : Fin 512) :
    (iblk m c 2 t : S1x64x512.Idx → Elt F .f32) (ix3 0 j l) = m ((c.tc : Thread nD τ).loc main_arg2) (ix3 (bat t) (row t l) j) := by
  rw [iblk_2, V_main_v11]
  pointwise
theorem sin_at (c : Dev nD) (t : Fin cfg0.N) (j : Fin 64) (l : Fin 512) :
    (iblk m c 3 t : S1x64x512.Idx → Elt F .f32) (ix3 0 j l) = m ((c.tc : Thread nD τ).loc main_arg3) (ix3 (bat t) (row t l) j) := by
  rw [iblk_3, V_main_v12]
  pointwise
/-- The transposed weights: the queries' columns, then the values'. -/
theorem wq_at (c : Dev nD) (t : Fin cfg0.N) (n k : Fin 2048) :
    (iblk m c 4 t : S4096x2048.Idx → Elt F .fp8e4m3) (ix2 ⟨n.val, by omega⟩ k) = m ((c.tc : Thread nD τ).loc main_arg4) (ix2 k ⟨n.val, by omega⟩) := by
  rw [iblk_4, V_main_v4]
  pointwise
theorem wv_at (c : Dev nD) (t : Fin cfg0.N) (n k : Fin 2048) :
    (iblk m c 4 t : S4096x2048.Idx → Elt F .fp8e4m3) (ix2 ⟨2048 + n.val, by omega⟩ k) = m ((c.tc : Thread nD τ).loc main_arg4) (ix2 k ⟨4096 + n.val, by omega⟩) := by
  rw [iblk_4, V_main_v4]
  pointwise
theorem wk_at (c : Dev nD) (t : Fin cfg0.N) (k n : Fin 2048) :
    (iblk m c 5 t : S2048x2048.Idx → Elt F .fp8e4m3) (ix2 k n) = m ((c.tc : Thread nD τ).loc main_arg4) (ix2 k ⟨2048 + n.val, by omega⟩) := by
  rw [iblk_5, V_main_v1]
  pointwise
theorem qw_at (c : Dev nD) (t : Fin cfg0.N) (h : Fin 16) (d e : Fin 128) :
    (iblk m c 6 t : S2048x128.Idx → Elt F .f32) (ix2 ⟨128 * h.val + d.val, by omega⟩ e) = m ((c.tc : Thread nD τ).loc main_arg6) (ix2 h d) := by
  rw [iblk_6, V_main_v6]
  pointwise
theorem kw_at (c : Dev nD) (t : Fin cfg0.N) (h : Fin 16) (d : Fin 128) :
    (iblk m c 7 t : S1x2048.Idx → Elt F .f32) (ix2 0 ⟨128 * h.val + d.val, by omega⟩) = m ((c.tc : Thread nD τ).loc main_arg7) (ix2 h d) := by
  rw [iblk_7, V_main_v7]
  exact shapeCast_apply _ shapeCasts_S16x128_S1x2048 _ (ix2 h d) (by
    rewrite [Shape.rowMajor_val_two, Shape.rowMajor_val_two]
    show h.val * 128 + d.val = 0 * 2048 + (128 * h.val + d.val)
    omega)

/-- Elements of the chunks. -/
theorem chunkW_apply (W : Vec F S4096x2048 .fp8e4m3) (g : Fin 8) (n : Fin 512) (k : Fin 2048) :
    chunkW W g (ix2 n k) = W (ix2 ⟨512 * g.val + n.val, by omega⟩ k) := by
  refine congrArg W (funext fun a => Fin.ext ?_)
  match a with
  | ⟨0, _⟩ => show 512 * g.val + 1 * n.val = 512 * g.val + n.val; omega
  | ⟨1, _⟩ => show 0 + 1 * k.val = k.val; omega
theorem chunkK_apply (W : Vec F S2048x2048 .fp8e4m3) (g : Fin 4) (k : Fin 2048) (n : Fin 512) :
    chunkK W g (ix2 k n) = W (ix2 k ⟨512 * g.val + n.val, by omega⟩) := by
  refine congrArg W (funext fun a => Fin.ext ?_)
  match a with
  | ⟨0, _⟩ => show 0 + 1 * k.val = k.val; omega
  | ⟨1, _⟩ => show 512 * g.val + 1 * n.val = 512 * g.val + n.val; omega
theorem headN_apply (W : Vec F S2048x128 .f32) (h : Fin 16) (d e : Fin 128) :
    headN W h (ix2 d e) = W (ix2 ⟨128 * h.val + d.val, by omega⟩ e) := by
  refine congrArg W (funext fun a => Fin.ext ?_)
  match a with
  | ⟨0, _⟩ => show 128 * h.val + 1 * d.val = 128 * h.val + d.val; omega
  | ⟨1, _⟩ => show 0 + 1 * e.val = e.val; omega
theorem headM_apply (W : Vec F S1x2048 .f32) (h : Fin 16) (d : Fin 128) :
    headM W h (ix2 0 d) = W (ix2 0 ⟨128 * h.val + d.val, by omega⟩) := by
  refine congrArg W (funext fun a => Fin.ext ?_)
  match a with
  | ⟨0, _⟩ => rfl
  | ⟨1, _⟩ => show 128 * h.val + 1 * d.val = 128 * h.val + d.val; omega

end Blocks

end Cert.QkvIdeal.Hand

end
-- ==== Proof.QkvValue.lean ====
/-
  The query, key and value projections' kernel at the extended reals: its four result arrays, element by element.
-/
module

public import proofs.«01_k».proof.Proof.QkvKernel

@[expose] public section

set_option maxRecDepth 16384

noncomputable section

namespace Cert.QkvIdeal.Hand

open Cert.QkvIdeal Cert.QkvIdeal.Gen Idealize.ShloMosaic Idealize.ShloMosaic.TcCoe Idealize.SL.Sem
open Idealize.ShloMosaic.Pipeline (Dat)
open Idealize.ShloMosaic.Pointwise
open Cert.Proof.Math

variable (m : (ℓ : Loc nD τ sig) → Buf (Elt Ideal) ℓ)

/-- The arguments, as arrays of extended reals. -/
abbrev x (c : Dev nD) : S3x7168x2048.Idx → EReal := m ((c.tc : Thread nD τ).loc main_arg0)
abbrev xScale (c : Dev nD) : EReal := m ((c.tc : Thread nD τ).loc main_arg1) ix0
abbrev cosA (c : Dev nD) : S3x7168x64.Idx → EReal := m ((c.tc : Thread nD τ).loc main_arg2)
abbrev sinA (c : Dev nD) : S3x7168x64.Idx → EReal := m ((c.tc : Thread nD τ).loc main_arg3)
abbrev wts (c : Dev nD) : S2048x6144.Idx → EReal := m ((c.tc : Thread nD τ).loc main_arg4)
abbrev wScale (c : Dev nD) : EReal := m ((c.tc : Thread nD τ).loc main_arg5) ix0
abbrev qNorm (c : Dev nD) : S16x128.Idx → EReal := m ((c.tc : Thread nD τ).loc main_arg6)
abbrev kNorm (c : Dev nD) : S16x128.Idx → EReal := m ((c.tc : Thread nD τ).loc main_arg7)

/-- The codes of the input. -/
def codes (c : Dev nD) : S3x7168x2048.Idx → EReal := fun i => quant (x m c i) (xScale m c)
/-- The projection of a row onto a column. -/
def qkv (c : Dev nD) (b : Fin 3) (s : Fin 7168) (n : Fin 6144) : EReal :=
  qdot (fun k => x m c (ix3 b s k)) (xScale m c) (fun k => wts m c (ix2 k n)) * (xScale m c * wScale m c)
/-- Column `d` of head `h`. -/
abbrev col (h : Fin 16) (d : Fin 128) : Fin 2048 := ⟨128 * h.val + d.val, by omega⟩
/-- The three thirds of the columns. -/
abbrev colQ (n : Fin 2048) : Fin 6144 := ⟨n.val, by omega⟩
abbrev colK (n : Fin 2048) : Fin 6144 := ⟨2048 + n.val, by omega⟩
abbrev colV (n : Fin 2048) : Fin 6144 := ⟨4096 + n.val, by omega⟩
/-- A head's queries and keys: normalised, then rotated. -/
def queryAt (c : Dev nD) (b : Fin 3) (s : Fin 7168) (h : Fin 16) : Fin 128 → EReal :=
  rotary (fun d => rms n128 (fun d => qkv m c b s (colQ (col h d))) (qNorm m c (ix2 h d)) d)
    (fun j => cosA m c (ix3 b s j)) (fun j => sinA m c (ix3 b s j))
def keyAt (c : Dev nD) (b : Fin 3) (s : Fin 7168) (h : Fin 16) : Fin 128 → EReal :=
  rotary (fun d => rms n128 (fun d => qkv m c b s (colK (col h d))) (kNorm m c (ix2 h d)) d)
    (fun j => cosA m c (ix3 b s j)) (fun j => sinA m c (ix3 b s j))
/-- A column's head, and its place there. -/
abbrev hd (n : Fin 2048) : Fin 16 := ⟨n.val / 128, by omega⟩
abbrev pl (n : Fin 2048) : Fin 128 := ⟨n.val % 128, by omega⟩
theorem hd_col (h : Fin 16) (d : Fin 128) : hd (col h d) = h := Fin.ext (by show (128 * h.val + d.val) / 128 = h.val; omega)
theorem pl_col (h : Fin 16) (d : Fin 128) : pl (col h d) = d := Fin.ext (by show (128 * h.val + d.val) % 128 = d.val; omega)
theorem col_surj (n : Fin 2048) : ∃ h d, n = col h d :=
  ⟨hd n, pl n, Fin.ext (by show n.val = 128 * (n.val / 128) + n.val % 128; omega)⟩

/-- The queries and the values, transposed, and the keys. -/
def qT (c : Dev nD) : S3x2048x7168.Idx → EReal := fun i => queryAt m c (i 0) (i 2) (hd (i 1)) (pl (i 1))
def kRot (c : Dev nD) : S3x7168x2048.Idx → EReal := fun i => keyAt m c (i 0) (i 1) (hd (i 2)) (pl (i 2))
def vT (c : Dev nD) : S3x2048x7168.Idx → EReal := fun i => qkv m c (i 0) (i 2) (colV (i 1))

theorem qT_at (c : Dev nD) (b : Fin 3) (h : Fin 16) (d : Fin 128) (s : Fin 7168) : qT m c (ix3 b (col h d) s) = queryAt m c b s h d := by
  show queryAt m c b s (hd (col h d)) (pl (col h d)) = _
  rw [hd_col, pl_col]
theorem kRot_at (c : Dev nD) (b : Fin 3) (h : Fin 16) (d : Fin 128) (s : Fin 7168) : kRot m c (ix3 b s (col h d)) = keyAt m c b s h d := by
  show keyAt m c b s (hd (col h d)) (pl (col h d)) = _
  rw [hd_col, pl_col]

/-! ### One block -/

theorem codesAt_apply (c : Dev nD) (t : Fin cfg0.N) (l : Fin 512) (k : Fin 2048) :
    (codesAt m c t : FVec Ideal S1x512x2048 .fp8e4m3) (ix3 0 l k) = quant (x m c (ix3 (bat t) (row t l) k)) (xScale m c) := by
  unfold codesAt
  rw [pay2_apply, iblk_1, scale_0]
theorem vAt_apply (c : Dev nD) (t : Fin cfg0.N) (l : Fin 512) (k : Fin 2048) :
    (vAt m c t : FVec Ideal S512x2048 .fp8e4m3) (ix2 l k) = quant (x m c (ix3 (bat t) (row t l) k)) (xScale m c) := by
  unfold vAt
  rw [pay3_apply, codesAt_apply]
theorem scAt_eq (c : Dev nD) (t : Fin cfg0.N) : @Eq EReal (scAt m c t) (xScale m c * wScale m c) := by
  unfold scAt
  rw [pay4_eq, scale_0, scale_1]

theorem rawQ_at (c : Dev nD) (t : Fin cfg0.N) (h : Fin 16) (d : Fin 128) (l : Fin 512) :
    rawQ (F := Ideal) (prodW (vAt m c t) (chunkW (iblk m c 4 t) (wq (grp h)))) (scAt m c t) (pos h) (ix2 d l)
      = qkv m c (bat t) (row t l) (colQ (col h d)) := by
  rw [rawQ_apply, prodW_apply]
  unfold qkv qdot
  refine congrArg₂ (· * ·) (Finset.sum_congr rfl fun k _ => ?_) (scAt_eq m c t)
  rw [vAt_apply, chunkW_apply, mul_comm]
  refine congrArg (_ * ·) (Eq.trans (congrArg (fun n => (iblk m c 4 t : S4096x2048.Idx → EReal) (ix2 n k)) (Fin.ext ?_)) (wq_at m c t (col h d) k))
  show 512 * (h.val / 4) + (128 * (h.val % 4) + d.val) = 128 * h.val + d.val
  omega
theorem rawK_at (c : Dev nD) (t : Fin cfg0.N) (h : Fin 16) (d : Fin 128) (l : Fin 512) :
    rawK (F := Ideal) (prodK (vAt m c t) (chunkK (iblk m c 5 t) (grp h))) (scAt m c t) (pos h) (ix2 l d)
      = qkv m c (bat t) (row t l) (colK (col h d)) := by
  rw [rawK_apply, prodK_apply]
  unfold qkv qdot
  refine congrArg₂ (· * ·) (Finset.sum_congr rfl fun k _ => ?_) (scAt_eq m c t)
  rw [vAt_apply, chunkK_apply]
  refine congrArg (_ * ·) (Eq.trans (congrArg (fun n => (iblk m c 5 t : S2048x2048.Idx → EReal) (ix2 k n)) (Fin.ext ?_)) (wk_at m c t k (col h d)))
  show 512 * (h.val / 4) + (128 * (h.val % 4) + d.val) = 128 * h.val + d.val
  omega

theorem headQ_at (c : Dev nD) (t : Fin cfg0.N) (h : Fin 16) (d : Fin 128) (l : Fin 512) :
    headQ (F := Ideal) (vAt m c t) (scAt m c t) (iblk m c 4 t) (iblk m c 6 t) h (ix2 d l)
      = rms n128 (fun d => qkv m c (bat t) (row t l) (colQ (col h d))) (qNorm m c (ix2 h d)) d := by
  unfold headQ
  rw [normQ_apply _ _ (fun d => qNorm m c (ix2 h d)) (fun d e => (headN_apply _ h d e).trans (qw_at m c t h d e))]
  simp only [rawQ_at]
theorem headK_at (c : Dev nD) (t : Fin cfg0.N) (h : Fin 16) (d : Fin 128) (l : Fin 512) :
    headK (F := Ideal) (vAt m c t) (scAt m c t) (iblk m c 5 t) (iblk m c 7 t) h (ix2 l d)
      = rms n128 (fun d => qkv m c (bat t) (row t l) (colK (col h d))) (kNorm m c (ix2 h d)) d := by
  unfold headK
  rw [normK_apply, headM_apply, kw_at]
  simp only [rawK_at]
theorem cosAt_apply (c : Dev nD) (t : Fin cfg0.N) (j : Fin 64) (l : Fin 512) :
    (cosAt m c t : FVec Ideal S64x512 .f32) (ix2 j l) = cosA m c (ix3 (bat t) (row t l) j) := by
  unfold cosAt
  rw [pay5_apply, cos_at]
theorem sinAt_apply (c : Dev nD) (t : Fin cfg0.N) (j : Fin 64) (l : Fin 512) :
    (sinAt m c t : FVec Ideal S64x512 .f32) (ix2 j l) = sinA m c (ix3 (bat t) (row t l) j) := by
  unfold sinAt
  rw [pay6_apply, sin_at]

theorem rotQ1_at (c : Dev nD) (t : Fin cfg0.N) (h : Fin 16) (j : Fin 64) (l : Fin 512) :
    rotQ1 (F := Ideal) (headQ (vAt m c t) (scAt m c t) (iblk m c 4 t) (iblk m c 6 t) h) (cosAt m c t) (sinAt m c t) (ix3 0 j l)
      = queryAt m c (bat t) (row t l) h ⟨j.val, by omega⟩ := by
  rw [rotQ1_apply]
  unfold queryAt
  rw [rotary_lo]
  simp only [headQ_at, cosAt_apply, sinAt_apply]
theorem rotQ2_at (c : Dev nD) (t : Fin cfg0.N) (h : Fin 16) (j : Fin 64) (l : Fin 512) :
    rotQ2 (F := Ideal) (headQ (vAt m c t) (scAt m c t) (iblk m c 4 t) (iblk m c 6 t) h) (cosAt m c t) (sinAt m c t) (ix3 0 j l)
      = queryAt m c (bat t) (row t l) h ⟨64 + j.val, by omega⟩ := by
  rw [rotQ2_apply]
  unfold queryAt
  rw [rotary_hi]
  simp only [headQ_at, cosAt_apply, sinAt_apply]
theorem rotK_at (c : Dev nD) (t : Fin cfg0.N) (h : Fin 16) (d : Fin 128) (l : Fin 512) :
    rotK (F := Ideal) (headK (vAt m c t) (scAt m c t) (iblk m c 5 t) (iblk m c 7 t) h) (cosAt m c t) (sinAt m c t) (ix3 0 l d)
      = keyAt m c (bat t) (row t l) h d := by
  unfold keyAt
  rcases half_surj d with ⟨j, rfl⟩ | ⟨j, rfl⟩
  · rw [rotK_lo, rotary_lo]
    simp only [headK_at, cosAt_apply, sinAt_apply]
  · rw [rotK_hi, rotary_hi]
    simp only [headK_at, cosAt_apply, sinAt_apply]
theorem valT_at (c : Dev nD) (t : Fin cfg0.N) (g : Fin 4) (n l : Fin 512) :
    valT (F := Ideal) (vAt m c t) (scAt m c t) (chunkW (iblk m c 4 t) (wv g)) (ix3 0 n l)
      = qkv m c (bat t) (row t l) (colV ⟨512 * g.val + n.val, by omega⟩) := by
  rw [valT_apply, prodW_apply]
  unfold qkv qdot
  refine congrArg₂ (· * ·) (Finset.sum_congr rfl fun k _ => ?_) (scAt_eq m c t)
  rw [vAt_apply, chunkW_apply, mul_comm]
  refine congrArg (_ * ·) (Eq.trans (congrArg (fun n => (iblk m c 4 t : S4096x2048.Idx → EReal) (ix2 n k)) (Fin.ext ?_)) (wv_at m c t ⟨512 * g.val + n.val, by omega⟩ k))
  show 512 * (4 + g.val) + n.val = 2048 + (512 * g.val + n.val)
  omega

/-! ### The stores cover their blocks -/

theorem emb_mem {s : Shape} (r : Rect s) (x : r.shape.Idx) : r.emb x ∈ r.set :=
  LoadRect.mem_set _ |>.mpr fun a => ⟨(x a).val, (x a).isLt, rfl⟩

theorem mem_q1 (h : Fin 16) (j : Fin 64) (l : Fin 512) (d : Fin 128) (e : d.val = j.val) :
    (Rect.unit (s := S1x2048x512) ![0, 128 * h.val, 0] S1x64x512.size (inbQ1 h)).emb (ix3 0 j l : S1x64x512.Idx) = ix3 0 (col h d) l :=
  funext fun a => Fin.ext (by
    match a with
    | ⟨0, _⟩ => rfl
    | ⟨1, _⟩ => show 128 * h.val + 1 * j.val = 128 * h.val + d.val; omega
    | ⟨2, _⟩ => show 0 + 1 * l.val = l.val; omega)
theorem mem_q2 (h : Fin 16) (j : Fin 64) (l : Fin 512) (d : Fin 128) (e : d.val = 64 + j.val) :
    (Rect.unit (s := S1x2048x512) ![0, 128 * h.val + 64, 0] S1x64x512.size (inbQ2 h)).emb (ix3 0 j l : S1x64x512.Idx) = ix3 0 (col h d) l :=
  funext fun a => Fin.ext (by
    match a with
    | ⟨0, _⟩ => rfl
    | ⟨1, _⟩ => show 128 * h.val + 64 + 1 * j.val = 128 * h.val + d.val; omega
    | ⟨2, _⟩ => show 0 + 1 * l.val = l.val; omega)
theorem mem_k (h : Fin 16) (d : Fin 128) (l : Fin 512) :
    (Rect.unit (s := S1x512x2048) ![0, 0, 128 * h.val] S1x512x128.size (inbO h)).emb (ix3 0 l d : S1x512x128.Idx) = ix3 0 l (col h d) :=
  funext fun a => Fin.ext (by
    match a with
    | ⟨0, _⟩ => rfl
    | ⟨1, _⟩ => show 0 + 1 * l.val = l.val; omega
    | ⟨2, _⟩ => show 128 * h.val + 1 * d.val = 128 * h.val + d.val; omega)
theorem mem_v (g : Fin 4) (n l : Fin 512) :
    (Rect.unit (s := S1x2048x512) ![0, 512 * g.val, 0] S1x512x512.size (inbV g)).emb (ix3 0 n l : S1x512x512.Idx) = ix3 0 ⟨512 * g.val + n.val, by omega⟩ l :=
  funext fun a => Fin.ext (by
    match a with
    | ⟨0, _⟩ => rfl
    | ⟨1, _⟩ => show 512 * g.val + 1 * n.val = 512 * g.val + n.val; omega
    | ⟨2, _⟩ => show 0 + 1 * l.val = l.val; omega)

/-- A unit axis has one index. -/
theorem eq_ix3_unit {b n : Nat} (y : (⟨3, ![1, b, n]⟩ : Shape).Idx) : y = ix3 0 (y 1) (y 2) := by
  refine (eq_ix3 y).trans (congrArg (fun z => ix3 z (y 1) (y 2)) (Fin.ext ?_))
  have : (y 0).val < 1 := (y 0).isLt
  show (y 0).val = 0
  omega

/-- The queries' array after the run. -/
theorem q_eq (c : Dev nD) : (dats m 0 c).arrAt 9 cfg0.N = qT m c := by
  refine (dats m 0 c).arrAt_eq_of_cover 9 _ (fun t _ => ?_) cover_9
  show (cfg0.win 9).cut (grid0.coords t) ((dats m 0 c).after 9 t) = _
  rw [after0_9, outs_9]
  funext (y : S1x2048x512.Idx)
  refine View.canon_apply_of_pieces (Val := Elt Ideal) (e := .bf16) ((fun y => qT m c ((win0_9.rect t).emb y)) : Vec Ideal S1x2048x512 .bf16) _ (fun p hp z => ?_) y ?_
  · obtain ⟨h, -, hp⟩ := List.mem_flatMap.mp hp
    rcases List.mem_cons.mp hp with rfl | hp
    · obtain ⟨j, l, rfl⟩ : ∃ j l, z = (ix3 0 j l : S1x64x512.Idx) := ⟨_, _, eq_ix3_unit z⟩
      refine (rotQ2_at m c t h j l).trans ?_
      refine Eq.trans ?_ (congrArg (fun y => qT m c ((win0_9.rect t).emb y)) (mem_q2 h j l ⟨64 + j.val, by omega⟩ rfl)).symm
      show _ = qT m c ((win0_9.rect t).emb _)
      rw [emb_9, qT_at]
    · obtain rfl := List.mem_singleton.mp hp
      obtain ⟨j, l, rfl⟩ : ∃ j l, z = (ix3 0 j l : S1x64x512.Idx) := ⟨_, _, eq_ix3_unit z⟩
      refine (rotQ1_at m c t h j l).trans ?_
      refine Eq.trans ?_ (congrArg (fun y => qT m c ((win0_9.rect t).emb y)) (mem_q1 h j l ⟨j.val, by omega⟩ rfl)).symm
      show _ = qT m c ((win0_9.rect t).emb _)
      rw [emb_9, qT_at]
  · obtain ⟨n, l, rfl⟩ : ∃ n l, y = ix3 0 n l := ⟨_, _, eq_ix3_unit y⟩
    obtain ⟨h, d, rfl⟩ := col_surj n
    rcases half_surj d with ⟨j, rfl⟩ | ⟨j, rfl⟩
    · refine ⟨_, List.mem_flatMap.mpr ⟨h, List.mem_reverse.mpr (mem_heads h), List.mem_cons_of_mem _ (List.mem_singleton.mpr rfl)⟩, ?_⟩
      rw [← mem_q1 h j l ⟨j.val, by omega⟩ rfl]
      exact emb_mem _ _
    · refine ⟨_, List.mem_flatMap.mpr ⟨h, List.mem_reverse.mpr (mem_heads h), List.mem_cons_self ..⟩, ?_⟩
      rw [← mem_q2 h j l ⟨64 + j.val, by omega⟩ rfl]
      exact emb_mem _ _

/-- The keys' array after the run. -/
theorem k_eq (c : Dev nD) : (dats m 0 c).arrAt 10 cfg0.N = kRot m c := by
  refine (dats m 0 c).arrAt_eq_of_cover 10 _ (fun t _ => ?_) cover_10
  show (cfg0.win 10).cut (grid0.coords t) ((dats m 0 c).after 10 t) = _
  rw [after0_10, outs_10]
  funext (y : S1x512x2048.Idx)
  refine View.canon_apply_of_pieces (Val := Elt Ideal) (e := .bf16) ((fun y => kRot m c ((win0_10.rect t).emb y)) : Vec Ideal S1x512x2048 .bf16) _ (fun p hp z => ?_) y ?_
  · obtain ⟨h, -, rfl⟩ := List.mem_map.mp hp
    obtain ⟨l, d, rfl⟩ : ∃ l d, z = (ix3 0 l d : S1x512x128.Idx) := ⟨_, _, eq_ix3_unit z⟩
    refine (rotK_at m c t h d l).trans ?_
    refine Eq.trans ?_ (congrArg (fun y => kRot m c ((win0_10.rect t).emb y)) (mem_k h d l)).symm
    show _ = kRot m c ((win0_10.rect t).emb _)
    rw [emb_10, kRot_at]
  · obtain ⟨l, n, rfl⟩ : ∃ l n, y = ix3 0 l n := ⟨_, _, eq_ix3_unit y⟩
    obtain ⟨h, d, rfl⟩ := col_surj n
    refine ⟨_, List.mem_map.mpr ⟨h, List.mem_reverse.mpr (mem_heads h), rfl⟩, ?_⟩
    rw [← mem_k h d l]
    exact emb_mem _ _

/-- The values' array after the run. -/
theorem v_eq (c : Dev nD) : (dats m 0 c).arrAt 11 cfg0.N = vT m c := by
  refine (dats m 0 c).arrAt_eq_of_cover 11 _ (fun t _ => ?_) cover_11
  show (cfg0.win 11).cut (grid0.coords t) ((dats m 0 c).after 11 t) = _
  rw [after0_11, outs_11]
  funext (y : S1x2048x512.Idx)
  refine View.canon_apply_of_pieces (Val := Elt Ideal) (e := .bf16) ((fun y => vT m c ((win0_11.rect t).emb y)) : Vec Ideal S1x2048x512 .bf16) _ (fun p hp z => ?_) y ?_
  · obtain ⟨g, -, rfl⟩ := List.mem_map.mp hp
    obtain ⟨n, l, rfl⟩ : ∃ n l, z = (ix3 0 n l : S1x512x512.Idx) := ⟨_, _, eq_ix3_unit z⟩
    refine (valT_at m c t g n l).trans ?_
    refine Eq.trans ?_ (congrArg (fun y => vT m c ((win0_11.rect t).emb y)) (mem_v g n l)).symm
    show _ = vT m c ((win0_11.rect t).emb _)
    rw [emb_11]
    rfl
  · obtain ⟨n, l, rfl⟩ : ∃ n l, y = ix3 0 n l := ⟨_, _, eq_ix3_unit y⟩
    obtain ⟨g, k, rfl⟩ : ∃ (g : Fin 4) (k : Fin 512), n = ⟨512 * g.val + k.val, by omega⟩ :=
      ⟨⟨n.val / 512, by omega⟩, ⟨n.val % 512, by omega⟩, Fin.ext (by show n.val = 512 * (n.val / 512) + n.val % 512; omega)⟩
    refine ⟨_, List.mem_map.mpr ⟨g, List.mem_reverse.mpr (mem_groups g), rfl⟩, ?_⟩
    rw [← mem_v g k l]
    exact emb_mem _ _

/-- The codes' array after the run. -/
theorem codes_eq (c : Dev nD) : (dats m 0 c).arrAt 8 cfg0.N = codes m c := by
  refine (dats m 0 c).arrAt_eq_of_cover 8 _ (fun t _ => ?_) cover_8
  show (cfg0.win 8).cut (grid0.coords t) ((dats m 0 c).after 8 t) = _
  rw [after0_8, outs_8]
  funext (y : S1x512x2048.Idx)
  obtain ⟨l, k, rfl⟩ : ∃ l k, y = ix3 0 l k := ⟨_, _, eq_ix3_unit y⟩
  refine Eq.trans (codesAt_apply m c t l k) ?_
  exact (congrArg (codes m c) (emb_8 t l k)).symm

end Cert.QkvIdeal.Hand

end
-- ==== Proof.QkvRef.lean ====
/-
  The reference of the q, k and v projections: what its one gridless kernel leaves in its two result arrays, as functions of
  the arguments.
-/
module

public import proofs.«01_k».proof.Proof.Math
public import proofs.«01_k».proof.Proof.Gen.QkvRefIdeal.Run
public import proofs.«01_k».proof.Proof.Gen.QkvRefIdeal.Read
public import Idealize.ShloMosaic.Lib.Pipeline.Value
public import Idealize.ShloMosaic.Lib.UnfoldOut

@[expose] public section

set_option maxRecDepth 16384

noncomputable section

namespace Cert.QkvRefIdeal.Hand

open Cert.QkvRefIdeal Cert.QkvRefIdeal.Gen Idealize.ShloMosaic Idealize.ShloMosaic.TcCoe Idealize.SL.Sem
open Idealize.ShloMosaic.Pipeline (Dat)
open Idealize.ShloMosaic.Pointwise

variable {F : FTy → Type} [FloatOps F]
variable (m : (ℓ : Loc nD τ sig) → Buf (Elt F) ℓ)

/-- Every window's one block starts at the array's origin. -/
theorem index0_0 : ∀ (t : Fin cfg0.N) (a : Fin win0_0.shape.rank), win0_0.index t a = 0 :=
  (by decide +kernel : ∀ (t : Fin grid0.N) (a : Fin win0_0.shape.rank), win0_0.index t a = 0)
theorem index0_1 : ∀ (t : Fin cfg0.N) (a : Fin win0_1.shape.rank), win0_1.index t a = 0 :=
  (by decide +kernel : ∀ (t : Fin grid0.N) (a : Fin win0_1.shape.rank), win0_1.index t a = 0)
theorem index0_2 : ∀ (t : Fin cfg0.N) (a : Fin win0_2.shape.rank), win0_2.index t a = 0 :=
  (by decide +kernel : ∀ (t : Fin grid0.N) (a : Fin win0_2.shape.rank), win0_2.index t a = 0)
theorem index0_3 : ∀ (t : Fin cfg0.N) (a : Fin win0_3.shape.rank), win0_3.index t a = 0 :=
  (by decide +kernel : ∀ (t : Fin grid0.N) (a : Fin win0_3.shape.rank), win0_3.index t a = 0)
theorem index0_4 : ∀ (t : Fin cfg0.N) (a : Fin win0_4.shape.rank), win0_4.index t a = 0 :=
  (by decide +kernel : ∀ (t : Fin grid0.N) (a : Fin win0_4.shape.rank), win0_4.index t a = 0)

/-- So each input block is its whole array. -/
theorem iblk_0 (c : Dev nD) (t : Fin cfg0.N) : iblk m c 0 t = V m c main_v1 :=
  funext fun y => congrArg (V m c main_v1) (funext fun a => Fin.ext (win0_0.rect_emb_val_of_index_zero t a (index0_0 t a) y))
theorem iblk_1 (c : Dev nD) (t : Fin cfg0.N) : iblk m c 1 t = V m c main_v2 :=
  funext fun y => congrArg (V m c main_v2) (funext fun a => Fin.ext (win0_1.rect_emb_val_of_index_zero t a (index0_1 t a) y))
theorem iblk_2 (c : Dev nD) (t : Fin cfg0.N) : iblk m c 2 t = V m c main_arg4 :=
  funext fun y => congrArg (V m c main_arg4) (funext fun a => Fin.ext (win0_2.rect_emb_val_of_index_zero t a (index0_2 t a) y))

/-- and reading a whole array through an output's one block is the array. -/
theorem read_3 (t : Fin cfg0.N) (G : S21504x2048.Idx → Elt F .fp8e4m3) : (win0_3.blk t).view.read (Elt F) G = G :=
  funext fun y => congrArg G (funext fun a => Fin.ext (win0_3.rect_emb_val_of_index_zero t a (index0_3 t a) y))
theorem read_4 (t : Fin cfg0.N) (G : S21504x6144.Idx → Elt F .f32) : (win0_4.blk t).view.read (Elt F) G = G :=
  funext fun y => congrArg G (funext fun a => Fin.ext (win0_4.rect_emb_val_of_index_zero t a (index0_4 t a) y))

theorem cover_3 (i : S21504x2048.Idx) : ∃ t : Fin cfg0.N, (cfg0.win 3).flush t = true ∧ i ∈ ((cfg0.win 3).blk t).view.set := by
  refine ⟨⟨0, by show 0 < grid0.N; rw [N_0]; exact Nat.one_pos⟩, flush0_3 _, ?_⟩
  generalize (⟨0, by show 0 < grid0.N; rw [N_0]; exact Nat.one_pos⟩ : Fin cfg0.N) = t
  have h := ((cfg0.win 3).blk t).view.emb_mem_set i
  have e : ((cfg0.win 3).blk t).view.emb i = i :=
    funext fun a => Fin.ext (win0_3.rect_emb_val_of_index_zero t a (index0_3 t a) i)
  rwa [e] at h
theorem cover_4 (i : S21504x6144.Idx) : ∃ t : Fin cfg0.N, (cfg0.win 4).flush t = true ∧ i ∈ ((cfg0.win 4).blk t).view.set := by
  refine ⟨⟨0, by show 0 < grid0.N; rw [N_0]; exact Nat.one_pos⟩, flush0_4 _, ?_⟩
  generalize (⟨0, by show 0 < grid0.N; rw [N_0]; exact Nat.one_pos⟩ : Fin cfg0.N) = t
  have h := ((cfg0.win 4).blk t).view.emb_mem_set i
  have e : ((cfg0.win 4).blk t).view.emb i = i :=
    funext fun a => Fin.ext (win0_4.rect_emb_val_of_index_zero t a (index0_4 t a) i)
  rwa [e] at h

theorem hz2 : (![0, 0] : Fin 2 → Nat) = fun _ => 0 := funext fun a => by fin_cases a <;> rfl
theorem hz1 : (![0] : Fin 1 → Nat) = fun _ => 0 := funext fun a => by fin_cases a <;> rfl

/-- The scale, read from its one-word array. -/
abbrev scaleWord (x : Vec F S1 .f32) : F .f32 := x (ix1 0)

/-- What the kernel leaves in the codes' staging buffer is its quantising payload of the input blocks. -/
theorem outs_3 (c : Dev nD) (t : Fin cfg0.N) :
    (outsAt0 m c t).1 = k0_pay1 (iblk m c 0 t) (scaleWord (iblk m c 1 t)) := by
  unfold outsAt0 out0_A_3
  dsimp only
  rw [View.read_writes_eq_canon _ _ _ (cover0_A_3 c _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero hz2, View.ld_unit_zero hz2, View.ld_unit_zero hz1]
  exact congrArg (k0_pay1 (iblk m c 0 t)) (congrArg (iblk m c 1 t) (eq_ix1 _))

/-- and in the product's, its product payload. -/
theorem outs_4 (c : Dev nD) (t : Fin cfg0.N) :
    (outsAt0 m c t).2 = k0_pay2 (iblk m c 0 t) (scaleWord (iblk m c 1 t)) (iblk m c 2 t) := by
  unfold outsAt0 out0_A_4
  dsimp only
  rw [View.read_writes_eq_canon _ _ _ (cover0_A_4 c _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero hz2]
  repeat first | rw [View.ld_unit_zero hz2] | rw [View.ld_unit_zero hz1]
  exact congrArg (fun w => k0_pay2 (iblk m c 0 t) w (iblk m c 2 t)) (congrArg (iblk m c 1 t) (eq_ix1 _))

theorem V_main_v1 (c : Dev nD) : V m c main_v1 = extf .f32 (shapeCast S21504x2048 (m ((c.tc : Thread nD τ).loc main_arg0)) shapeCasts_S3x7168x2048_S21504x2048) bitsLt_bf16_f32 := by
  show StableHlo.after hostOps0 _ _ = _
  after_results
  try rfl
theorem V_main_v2 (c : Dev nD) : V m c main_v2 = shapeCast S1 (m ((c.tc : Thread nD τ).loc main_arg1)) shapeCasts_S_S1 := by
  show StableHlo.after hostOps0 _ _ = _
  after_results
  try rfl

/-- The codes' array after the region. -/
theorem codes_eq (c : Dev nD) :
    Value.reg_main_v3_0 m c = k0_pay1 (extf .f32 (shapeCast S21504x2048 (m ((c.tc : Thread nD τ).loc main_arg0)) shapeCasts_S3x7168x2048_S21504x2048) bitsLt_bf16_f32) (m ((c.tc : Thread nD τ).loc main_arg1) ix0) := by
  refine (dats m 0 c).arrAt_eq_of_cover 3 _ (fun t _ => ?_) cover_3
  rw [read_3]
  show (cfg0.win 3).cut (grid0.coords t) ((dats m 0 c).after 3 t) = _
  rw [after0_3, outs_3, iblk_0, iblk_1, V_main_v1, V_main_v2]
  exact congrArg (k0_pay1 _) (by pointwise)

/-- The product's array after the region. -/
theorem prod_eq (c : Dev nD) :
    Value.reg_main_v3_1 m c = k0_pay2 (extf .f32 (shapeCast S21504x2048 (m ((c.tc : Thread nD τ).loc main_arg0)) shapeCasts_S3x7168x2048_S21504x2048) bitsLt_bf16_f32) (m ((c.tc : Thread nD τ).loc main_arg1) ix0) (m ((c.tc : Thread nD τ).loc main_arg4)) := by
  refine (dats m 0 c).arrAt_eq_of_cover 4 _ (fun t _ => ?_) cover_4
  rw [read_4]
  show (cfg0.win 4).cut (grid0.coords t) ((dats m 0 c).after 4 t) = _
  rw [after0_4, outs_4, iblk_0, iblk_1, iblk_2, V_main_v1, V_main_v2, V_main_arg4]
  exact congrArg (fun w => k0_pay2 _ w _) (by pointwise)

/-! ## At the extended reals, element by element -/

section AtIdeal

/-- The quantising payload at an index. -/
theorem pay1_apply (v : FVec Ideal S21504x2048 .f32) (s : Ideal .f32) (i : Fin 21504) (k : Fin 2048) :
    k0_pay1 (F := Ideal) v s (ix2 i k) = Cert.Proof.Math.quant (v (ix2 i k)) s := by
  pointwise [k0_pay1, Cert.Proof.Math.quant]

/-- The product payload at an index. -/
theorem pay2_apply (v : FVec Ideal S21504x2048 .f32) (s : Ideal .f32) (w : FVec Ideal S2048x6144 .fp8e4m3) (i : Fin 21504) (j : Fin 6144) :
    k0_pay2 (F := Ideal) v s w (ix2 i j) = ∑ k : Fin 2048, Cert.Proof.Math.quant (v (ix2 i k)) s * w (ix2 k j) := by
  pointwise [k0_pay2, k0_pay1, Cert.Proof.Math.quant]

end AtIdeal

end Cert.QkvRefIdeal.Hand

end
-- ==== Proof.QkvRefRead.lean ====
/-
  The query, key and value projections' reference at the extended reals: its host operations, element by element.
-/
module

public import proofs.«01_k».proof.Proof.QkvRef
public import proofs.«01_k».proof.Proof.QkvMath

@[expose] public section

set_option maxRecDepth 16384

noncomputable section

namespace Cert.QkvRefIdeal.Hand

open Idealize.ShloMosaic Idealize.ShloMosaic.TcCoe Idealize.SL.Sem
open Idealize.ShloMosaic.Pointwise
open Cert.Proof.Math
open Cert.QkvRefIdeal Cert.QkvRefIdeal.Gen Cert.QkvRefIdeal.Read

/-- A row of a batch, as a row of the flattened input. -/
abbrev flat (b : Fin 3) (s : Fin 7168) : Fin 21504 := ⟨7168 * b.val + s.val, by omega⟩
abbrev n128 : EReal := Ideal.ofBits .f32 0x43000000#32

/-- The rescaled product, unflattened. -/
theorem ref_qkv (x1 x5 : FVec Ideal S_ .f32) (r : FVec Ideal S21504x6144 .f32) (b : Fin 3) (s : Fin 7168) (n : Fin 6144) :
    val_main_v7 (F := Ideal) x1 x5 r (ix3 b s n) = r (ix2 (flat b s) n) * (x1 ix0 * x5 ix0) := by
  have e : shapeCast S3x7168x6144 r shapeCasts_S21504x6144_S3x7168x6144 (ix3 b s n) = r (ix2 (flat b s) n) :=
    shapeCast_apply r shapeCasts_S21504x6144_S3x7168x6144 _ (ix2 (flat b s) n) (by
      rewrite [Shape.rowMajor_val_three, Shape.rowMajor_val_two]
      show (7168 * b.val + s.val) * 6144 + n.val = (b.val * 7168 + s.val) * 6144 + n.val
      omega)
  rw [← e]
  pointwise [val_main_v7, val_main_v6, val_main_v5, val_main_v4]

theorem ref_q (x1 x5 : FVec Ideal S_ .f32) (r : FVec Ideal S21504x6144 .f32) (b : Fin 3) (s : Fin 7168) (h : Fin 16) (d : Fin 128) :
    val_main_v11 (F := Ideal) x1 x5 r (ix4 b s h d) = val_main_v7 (F := Ideal) x1 x5 r (ix3 b s ⟨128 * h.val + d.val, by omega⟩) := by
  unfold val_main_v11 val_main_v8
  generalize val_main_v7 (F := Ideal) x1 x5 r = p
  pointwise
  exact congrArg (fun n => p (ix3 b s n)) (Fin.ext (by show h.val * 128 + d.val = 128 * h.val + d.val; omega))
theorem ref_k (x1 x5 : FVec Ideal S_ .f32) (r : FVec Ideal S21504x6144 .f32) (b : Fin 3) (s : Fin 7168) (h : Fin 16) (d : Fin 128) :
    val_main_v12 (F := Ideal) x1 x5 r (ix4 b s h d) = val_main_v7 (F := Ideal) x1 x5 r (ix3 b s ⟨2048 + (128 * h.val + d.val), by omega⟩) := by
  unfold val_main_v12 val_main_v9
  generalize val_main_v7 (F := Ideal) x1 x5 r = p
  pointwise
  exact congrArg (fun n => p (ix3 b s n)) (Fin.ext (by show 2048 + (h.val * 128 + d.val) = 2048 + (128 * h.val + d.val); omega))
theorem ref_v (x1 x5 : FVec Ideal S_ .f32) (r : FVec Ideal S21504x6144 .f32) (b : Fin 3) (s : Fin 7168) (h : Fin 16) (d : Fin 128) :
    val_main_v13 (F := Ideal) x1 x5 r (ix4 b s h d) = val_main_v7 (F := Ideal) x1 x5 r (ix3 b s ⟨4096 + (128 * h.val + d.val), by omega⟩) := by
  unfold val_main_v13 val_main_v10
  generalize val_main_v7 (F := Ideal) x1 x5 r = p
  pointwise
  exact congrArg (fun n => p (ix3 b s n)) (Fin.ext (by show 4096 + (h.val * 128 + d.val) = 4096 + (128 * h.val + d.val); omega))

/-- The norms. -/
theorem ref_norm_q (x1 x5 : FVec Ideal S_ .f32) (x6 : FVec Ideal S16x128 .f32) (r : FVec Ideal S21504x6144 .f32) (b : Fin 3) (s : Fin 7168) (h : Fin 16) (d : Fin 128) :
    val_main_v26 (F := Ideal) x1 x5 x6 r (ix4 b s h d) = rms n128 (fun d => val_main_v11 (F := Ideal) x1 x5 r (ix4 b s h d)) (x6 (ix2 h d)) d := by
  unfold rms eps
  generalize hq : val_main_v11 (F := Ideal) x1 x5 r = q
  pointwise [val_main_v26, val_main_v25, val_main_v24, val_main_v23, val_main_v22, val_main_v21, val_main_v20, val_main_v19, val_main_v18,
    val_main_v17, val_main_v16, val_main_v15, val_main_v14, val_main_cst, val_main_cst_0, val_main_cst_1, hq]
theorem ref_norm_k (x1 x5 : FVec Ideal S_ .f32) (x7 : FVec Ideal S16x128 .f32) (r : FVec Ideal S21504x6144 .f32) (b : Fin 3) (s : Fin 7168) (h : Fin 16) (d : Fin 128) :
    val_main_v55 (F := Ideal) x1 x5 x7 r (ix4 b s h d) = rms n128 (fun d => val_main_v12 (F := Ideal) x1 x5 r (ix4 b s h d)) (x7 (ix2 h d)) d := by
  unfold rms eps
  generalize hq : val_main_v12 (F := Ideal) x1 x5 r = q
  pointwise [val_main_v55, val_main_v54, val_main_v53, val_main_v52, val_main_v51, val_main_v50, val_main_v49, val_main_v48, val_main_v47,
    val_main_v46, val_main_v45, val_main_v44, val_main_v43, val_main_cst_2, val_main_cst_3, val_main_cst_4, hq]

/-- The rotated heads. -/
theorem ref_rot_q (x1 x5 : FVec Ideal S_ .f32) (x2 x3 : FVec Ideal S3x7168x64 .f32) (x6 : FVec Ideal S16x128 .f32) (r : FVec Ideal S21504x6144 .f32) (b : Fin 3) (s : Fin 7168) (h : Fin 16) (d : Fin 128) :
    val_main_v42 (F := Ideal) x1 x2 x3 x5 x6 r (ix4 b s h d)
      = rotary (fun d => val_main_v26 (F := Ideal) x1 x5 x6 r (ix4 b s h d)) (fun j => x2 (ix3 b s j)) (fun j => x3 (ix3 b s j)) d := by
  generalize hq : val_main_v26 (F := Ideal) x1 x5 x6 r = q
  rcases half_surj d with ⟨j, rfl⟩ | ⟨j, rfl⟩
  · rw [rotary_lo]
    unfold rot1
    pointwise [val_main_v42, val_main_v41, val_main_v40, val_main_v39, val_main_v38, val_main_v37, val_main_v36, val_main_v35, val_main_v34, val_main_v33, val_main_v32,
      val_main_v31, val_main_v30, val_main_v29, val_main_v28, val_main_v27, hq]
  · rw [rotary_hi]
    unfold rot2
    pointwise [val_main_v42, val_main_v41, val_main_v40, val_main_v39, val_main_v38, val_main_v37, val_main_v36, val_main_v35, val_main_v34, val_main_v33, val_main_v32,
      val_main_v31, val_main_v30, val_main_v29, val_main_v28, val_main_v27, hq]
theorem ref_rot_k (x1 x5 : FVec Ideal S_ .f32) (x2 x3 : FVec Ideal S3x7168x64 .f32) (x7 : FVec Ideal S16x128 .f32) (r : FVec Ideal S21504x6144 .f32) (b : Fin 3) (s : Fin 7168) (h : Fin 16) (d : Fin 128) :
    val_main_v71 (F := Ideal) x1 x2 x3 x5 x7 r (ix4 b s h d)
      = rotary (fun d => val_main_v55 (F := Ideal) x1 x5 x7 r (ix4 b s h d)) (fun j => x2 (ix3 b s j)) (fun j => x3 (ix3 b s j)) d := by
  generalize hq : val_main_v55 (F := Ideal) x1 x5 x7 r = q
  rcases half_surj d with ⟨j, rfl⟩ | ⟨j, rfl⟩
  · rw [rotary_lo]
    unfold rot1
    pointwise [val_main_v71, val_main_v70, val_main_v69, val_main_v68, val_main_v67, val_main_v66, val_main_v65, val_main_v64, val_main_v63, val_main_v62, val_main_v61,
      val_main_v60, val_main_v59, val_main_v58, val_main_v57, val_main_v56, hq]
  · rw [rotary_hi]
    unfold rot2
    pointwise [val_main_v71, val_main_v70, val_main_v69, val_main_v68, val_main_v67, val_main_v66, val_main_v65, val_main_v64, val_main_v63, val_main_v62, val_main_v61,
      val_main_v60, val_main_v59, val_main_v58, val_main_v57, val_main_v56, hq]

/-- The results' layouts. -/
theorem merge_heads {φ : FTy} (a : FVec Ideal S3x7168x16x128 φ) (b : Fin 3) (s : Fin 7168) (h : Fin 16) (d : Fin 128) :
    shapeCast S3x7168x2048 a shapeCasts_S3x7168x16x128_S3x7168x2048 (ix3 b s ⟨128 * h.val + d.val, by omega⟩) = a (ix4 b s h d) := by
  pointwise
theorem ref_qT (x1 x5 : FVec Ideal S_ .f32) (x2 x3 : FVec Ideal S3x7168x64 .f32) (x6 : FVec Ideal S16x128 .f32) (r : FVec Ideal S21504x6144 .f32) (b : Fin 3) (s : Fin 7168) (h : Fin 16) (d : Fin 128) :
    val_main_v75 (F := Ideal) x1 x2 x3 x5 x6 r (ix3 b ⟨128 * h.val + d.val, by omega⟩ s) = val_main_v42 (F := Ideal) x1 x2 x3 x5 x6 r (ix4 b s h d) := by
  unfold val_main_v75 val_main_v74
  generalize val_main_v42 (F := Ideal) x1 x2 x3 x5 x6 r = q
  refine Eq.trans ?_ (merge_heads (φ := .bf16) q b s h d)
  generalize shapeCast S3x7168x2048 q shapeCasts_S3x7168x16x128_S3x7168x2048 = q'
  pointwise
theorem ref_kRot (x1 x5 : FVec Ideal S_ .f32) (x2 x3 : FVec Ideal S3x7168x64 .f32) (x7 : FVec Ideal S16x128 .f32) (r : FVec Ideal S21504x6144 .f32) (b : Fin 3) (s : Fin 7168) (h : Fin 16) (d : Fin 128) :
    val_main_v76 (F := Ideal) x1 x2 x3 x5 x7 r (ix3 b s ⟨128 * h.val + d.val, by omega⟩) = val_main_v71 (F := Ideal) x1 x2 x3 x5 x7 r (ix4 b s h d) := by
  unfold val_main_v76
  exact merge_heads (φ := .bf16) _ b s h d
theorem ref_vT (x1 x5 : FVec Ideal S_ .f32) (r : FVec Ideal S21504x6144 .f32) (b : Fin 3) (s : Fin 7168) (h : Fin 16) (d : Fin 128) :
    val_main_v78 (F := Ideal) x1 x5 r (ix3 b ⟨128 * h.val + d.val, by omega⟩ s) = val_main_v13 (F := Ideal) x1 x5 r (ix4 b s h d) := by
  show _ = val_main_v72 (F := Ideal) x1 x5 r (ix4 b s h d)
  unfold val_main_v78 val_main_v77
  generalize val_main_v72 (F := Ideal) x1 x5 r = q
  refine Eq.trans ?_ (merge_heads (φ := .bf16) q b s h d)
  generalize shapeCast S3x7168x2048 q shapeCasts_S3x7168x16x128_S3x7168x2048 = q'
  pointwise

end Cert.QkvRefIdeal.Hand

end
-- ==== Proof.QkvClaim.lean ====
/-
  The query, key and value projections: from arguments that agree, the kernel's four result arrays and the reference's are
  equal as extended reals.
-/
module

public import proofs.«01_k».proof.Defs
public import proofs.«01_k».proof.Proof.QkvValue
public import proofs.«01_k».proof.Proof.QkvRefRead

@[expose] public section

set_option maxRecDepth 16384

noncomputable section

namespace Cert.Proof.QkvClaim

open Idealize.ShloMosaic Idealize.ShloMosaic.TcCoe Idealize.SL.Sem
open Idealize.ShloMosaic.Pointwise
open Cert.Proof.Math
open Cert.QkvRefIdeal.Hand (flat)

/-- The flattened input, in the working type. -/
theorem x_flat (a : FVec Ideal Cert.QkvRefIdeal.S3x7168x2048 .bf16) (b : Fin 3) (s : Fin 7168) (k : Fin 2048)
    (h : Cert.QkvRefIdeal.S3x7168x2048.ShapeCasts Cert.QkvRefIdeal.S21504x2048) (h') :
    @Eq EReal (extf (F := Ideal) .f32 (shapeCast Cert.QkvRefIdeal.S21504x2048 a h) h' (ix2 (flat b s) k)) (a (ix3 b s k)) :=
  shapeCast_apply a h _ (ix3 b s k) (by
    rewrite [Shape.rowMajor_val_three, Shape.rowMajor_val_two]
    show (b.val * 7168 + s.val) * 2048 + k.val = (7168 * b.val + s.val) * 2048 + k.val
    omega)

theorem flat_codes (a : FVec Ideal Cert.QkvRefIdeal.S21504x2048 .fp8e4m3) (b : Fin 3) (s : Fin 7168) (k : Fin 2048)
    (h : Cert.QkvRefIdeal.S21504x2048.ShapeCasts Cert.QkvRefIdeal.S3x7168x2048) :
    shapeCast Cert.QkvRefIdeal.S3x7168x2048 a h (ix3 b s k) = a (ix2 (flat b s) k) :=
  shapeCast_apply a h _ (ix2 (flat b s) k) (by
    rewrite [Shape.rowMajor_val_three, Shape.rowMajor_val_two]
    show (7168 * b.val + s.val) * 2048 + k.val = (b.val * 7168 + s.val) * 2048 + k.val
    omega)

/-- The claim. -/
theorem algebraic [h : Cert.QkvIdeal.Facts] [h' : Cert.QkvRefIdeal.Facts] : Cert.algebraic_QkvIdeal_QkvRefIdeal := by
  intro m g m' g' _ hagree
  refine ⟨fun c => QkvIdeal.Hand.codes m c, fun c => QkvIdeal.Hand.qT m c, fun c => QkvIdeal.Hand.kRot m c, fun c => QkvIdeal.Hand.vT m c, ?_, ?_⟩
  · refine (θ_run Cert.QkvIdeal.defs _ _).mono (fun _ h c => ?_) (Cert.QkvIdeal.Value.run_blocks (F := Ideal) m g)
    obtain ⟨h0, h1, h2, h3, hrest⟩ := h c
    exact ⟨h0.trans (QkvIdeal.Hand.codes_eq m c), h1.trans (QkvIdeal.Hand.q_eq m c), h2.trans (QkvIdeal.Hand.k_eq m c),
      h3.trans (QkvIdeal.Hand.v_eq m c), hrest⟩
  · refine (θ_run Cert.QkvRefIdeal.defs _ _).mono (fun _ h c => ?_) (Cert.QkvRefIdeal.Value.run (F := Ideal) m' g')
    obtain ⟨h0, h1, h2, h3, hrest⟩ := h c
    obtain ⟨e0, e1, e2, e3, e4, e5, e6, e7⟩ := hagree c
    have hp : ∀ (b : Fin 3) (s : Fin 7168) (n : Fin 6144), QkvRefIdeal.Read.val_main_v7 (F := Ideal)
        (m' ((c.tc : Thread Cert.QkvRefIdeal.nD Cert.QkvRefIdeal.τ).loc Cert.QkvRefIdeal.main_arg1))
        (m' ((c.tc : Thread Cert.QkvRefIdeal.nD Cert.QkvRefIdeal.τ).loc Cert.QkvRefIdeal.main_arg5))
        (QkvRefIdeal.Value.reg_main_v3_1 m' c) (ix3 b s n) = QkvIdeal.Hand.qkv m c b s n := by
      intro b s n
      rw [QkvRefIdeal.Hand.ref_qkv, QkvRefIdeal.Hand.prod_eq, QkvRefIdeal.Hand.pay2_apply, e0, e1, e4, e5]
      refine congrArg (· * _) (Finset.sum_congr rfl fun k _ => ?_)
      rw [x_flat]
    refine ⟨h0.trans ?_, h1.trans ?_, h2.trans ?_, h3.trans ?_, hrest⟩
    · refine (QkvRefIdeal.Read.val_main_v73_eq (QkvRefIdeal.Value.exitV m' c)).trans ?_
      rw [QkvRefIdeal.Value.exit_main_v3_0]
      funext (y : Cert.QkvRefIdeal.S3x7168x2048.Idx)
      obtain ⟨b, s, k, rfl⟩ : ∃ b s k, y = ix3 b s k := ⟨y 0, y 1, y 2, eq_ix3 y⟩
      refine (flat_codes _ b s k _).trans ?_
      rw [QkvRefIdeal.Hand.codes_eq, QkvRefIdeal.Hand.pay1_apply, e0, e1, x_flat]
      rfl
    · refine (QkvRefIdeal.Read.val_main_v75_eq (QkvRefIdeal.Value.exitV m' c)).trans ?_
      rw [QkvRefIdeal.Value.exit_main_arg1, QkvRefIdeal.Value.exit_main_arg2, QkvRefIdeal.Value.exit_main_arg3, QkvRefIdeal.Value.exit_main_arg5,
        QkvRefIdeal.Value.exit_main_arg6, QkvRefIdeal.Value.exit_main_v3_1]
      funext (y : Cert.QkvRefIdeal.S3x2048x7168.Idx)
      obtain ⟨b, n, s, rfl⟩ : ∃ b n s, y = ix3 b n s := ⟨y 0, y 1, y 2, eq_ix3 y⟩
      obtain ⟨h, d, rfl⟩ := QkvIdeal.Hand.col_surj n
      refine Eq.trans ?_ (QkvIdeal.Hand.qT_at m c b h d s).symm
      refine (QkvRefIdeal.Hand.ref_qT _ _ _ _ _ _ b s h d).trans ?_
      rw [QkvRefIdeal.Hand.ref_rot_q]
      simp only [QkvRefIdeal.Hand.ref_norm_q, QkvRefIdeal.Hand.ref_q, hp, e2, e3, e6]
      rfl
    · refine (QkvRefIdeal.Read.val_main_v76_eq (QkvRefIdeal.Value.exitV m' c)).trans ?_
      rw [QkvRefIdeal.Value.exit_main_arg1, QkvRefIdeal.Value.exit_main_arg2, QkvRefIdeal.Value.exit_main_arg3, QkvRefIdeal.Value.exit_main_arg5,
        QkvRefIdeal.Value.exit_main_arg7, QkvRefIdeal.Value.exit_main_v3_1]
      funext (y : Cert.QkvRefIdeal.S3x7168x2048.Idx)
      obtain ⟨b, s, n, rfl⟩ : ∃ b s n, y = ix3 b s n := ⟨y 0, y 1, y 2, eq_ix3 y⟩
      obtain ⟨h, d, rfl⟩ := QkvIdeal.Hand.col_surj n
      refine Eq.trans ?_ (QkvIdeal.Hand.kRot_at m c b h d s).symm
      refine (QkvRefIdeal.Hand.ref_kRot _ _ _ _ _ _ b s h d).trans ?_
      rw [QkvRefIdeal.Hand.ref_rot_k]
      simp only [QkvRefIdeal.Hand.ref_norm_k, QkvRefIdeal.Hand.ref_k, hp, e2, e3, e7]
      rfl
    · refine (QkvRefIdeal.Read.val_main_v78_eq (QkvRefIdeal.Value.exitV m' c)).trans ?_
      rw [QkvRefIdeal.Value.exit_main_arg1, QkvRefIdeal.Value.exit_main_arg5, QkvRefIdeal.Value.exit_main_v3_1]
      funext (y : Cert.QkvRefIdeal.S3x2048x7168.Idx)
      obtain ⟨b, n, s, rfl⟩ : ∃ b n s, y = ix3 b n s := ⟨y 0, y 1, y 2, eq_ix3 y⟩
      obtain ⟨h, d, rfl⟩ := QkvIdeal.Hand.col_surj n
      refine (QkvRefIdeal.Hand.ref_vT _ _ _ b s h d).trans ?_
      rw [QkvRefIdeal.Hand.ref_v, hp]
      rfl

end Cert.Proof.QkvClaim

end
-- ==== Proof.AmaxFrame.lean ====
/-
  The maximum of |x|: its 21 row blocks run one after the other, each joining its own maximum onto what the block
  before left in the one result buffer; the first block starts from zero, whatever the buffer held.
-/
module

public import proofs.«01_k».proof.Proof.Gen.Amax.Skeleton
public import proofs.«01_k».proof.Proof.Gen.Amax.Frame
public import Idealize.ShloMosaic.Lib.Pipeline.Value
public import Idealize.ShloMosaic.Lib.UnfoldOut
public import Idealize.ShloMosaic.Lib.Claim

@[expose] public section

set_option maxRecDepth 16384

noncomputable section

namespace Cert.Amax.Hand

open Cert.Amax Cert.Amax.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- A buffer stored to whole, once, holds what was stored. -/
theorem read_stored {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- One run of the body: the block is left as it was, and the result buffer goes from `x1` to the block's maximum joined
    onto `x1` (onto zero at the first block). -/
theorem body_run (c : Dev nD) (i : grid0.Coords) (arg1 : Memref sig .tc .vmem S1024x2048 .bf16) (harg1 : arg1.IsWhole)
    (arg2 : Memref sig .tc .vmem S8x128 .f32) (harg2 : arg2.IsWhole) (x0 : Vec F S1024x2048 .bf16) (x1 : Vec F S8x128 .f32)
    (E : Set ℕ) (K : PUnit → sProp 𝕄) :
    iprop(owns (c : Thread nD τ) arg1 fullShare x0 ∗ owns (c : Thread nD τ) arg2 fullShare x1
        ∗ (iprop(owns (c : Thread nD τ) arg1 fullShare x0 ∗ owns (c : Thread nD τ) arg2 fullShare (k0_pay1 i x0 x1)) -∗ K ⟨⟩))
      ⊢ wp frame (wpE (defs₀ (F := F)) Variants.none c none) E (cc0_amax_x i arg1 harg1 arg2 harg2) K := by
  simp only [cc0_amax_x_eq_skeleton]; unfold cc0_amax_x_skel
  unfold owns
  iintro ⟨⟨%f0, %hf0, H0⟩, ⟨%f1, %hf1, H1⟩, Hk⟩
  obtain rfl := harg1.eq_unread hf0; obtain rfl := harg2.eq_unread hf1
  sl_exec
  sl_step
  iapply Hk
  isplitl [H0]
  · iexists _; isplitr; · ipureintro; exact harg1.read_unread _
    iexact H0
  iexists _; isplitr
  swap; · iexact H1
  ipureintro
  simp only [View.readAt_eq_ld, harg1.read_unread, harg2.read_unread]
  rw [read_stored _ _ hz2]
  repeat rw [View.ld_unit_zero hz2]

/-- What the result buffer holds after the first `n + 1` blocks. -/
def acc (c : Dev nD) : ℕ → Vec F S8x128 .f32
  | 0 => k0_pay1 (grid0.coords ⟨0, by rw [N_0]; omega⟩) (iblk m c 0 ⟨0, by show 0 < grid0.N; rw [N_0]; omega⟩) (constant S8x128 .f32 0x00000000#32)
  | n + 1 => if h : n + 1 < grid0.N then k0_pay1 (grid0.coords ⟨n + 1, h⟩) (iblk m c 0 ⟨n + 1, h⟩) (acc c n) else acc c n

/-- The first block does not read what the result buffer held. -/
theorem first_block (i : grid0.Coords) (hi : (i 0).val = 0) (x0 : Vec F S1024x2048 .bf16) (x1 x1' : Vec F S8x128 .f32) :
    k0_pay1 i x0 x1 = k0_pay1 i x0 x1' := by
  unfold k0_pay1
  rw [hi]
  rfl

theorem coords_zero : ∀ t : Fin grid0.N, t.val = 0 → (grid0.coords t 0).val = 0 := by decide +kernel

/-- The proof data of the pipeline: the block stays in place, and the result buffer holds `acc`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => acc m c t.val
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = acc m c t.val := by dsimp only [dats]
theorem before0_0 (c : Dev nD) (t : Fin cfg0.N) (d) : (dats m 0 c).before 0 t d = iblk m c 0 t :=
  before0_0_of m (dats m 0 c) (A_eq m c 0) (after0_0 m c) t d

/-- What the body finds in the result buffer leads it to `acc` at every block. -/
theorem acc_step (c : Dev nD) (t : Fin cfg0.N) (d) :
    k0_pay1 (grid0.coords t) (iblk m c 0 t) ((dats m 0 c).before 1 t d) = acc m c t.val := by
  obtain ⟨n, hn⟩ := t
  cases n with
  | zero => exact first_block _ (coords_zero ⟨0, hn⟩ rfl) _ _ _
  | succ n =>
    have hn' : n + 1 < 21 := by have h : n + 1 < grid0.N := hn; rwa [N_0] at h
    have hb : (dats m 0 c).before 1 ⟨n + 1, hn⟩ d = acc m c n := by
      refine ((dats m 0 c).before_out_kept 1 rfl ⟨n + 1, hn⟩ (Nat.succ_ne_zero n) ?_ (fun _ => rfl) (fun _ _ => rfl) d).trans (after0_1 m c _)
      refine Bool.eq_false_iff.mpr fun hf => ?_
      have := (flush0_1 _).mp hf
      have e : (n + 1 - 1) % 21 = 20 := this
      omega
    rw [hb]
    show _ = acc m c (n + 1)
    rw [acc, dif_pos (show n + 1 < grid0.N from hn)]

abbrev ms0_0 (t : Fin cfg0.N) : Memref sig .tc .vmem S1024x2048 .bf16 := win0_0.stage (cfg0.slots t 0)
abbrev ms0_1 (t : Fin cfg0.N) : Memref sig .tc .vmem S8x128 .f32 := win0_1.stage (cfg0.slots t 1)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  rw [← acc_step m c t d1]
  iapply (body_run c (grid0.coords t) _ _ _ _ (iblk m c 0 t) ((dats m 0 c).before 1 t d1) Set.univ _)
  isplitl [H0]; · iexact H0
  isplitl [H1]; · iexact H1
  iintro ⟨H0, H1⟩
  isplitl [HΦ]; · iexact HΦ
  isplitl [Ho]; · iexact Ho
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array as the proof data leave it, and every semaphore back at zero. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1, hostOps1_1])) :=
  (θ_run defs _ _).mono (fun _ h => h.1) (run_main_quiescent m ρ)

/-- The argument ends unchanged, and every semaphore is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.Amax.Hand

end
-- ==== Proof.AmaxIdealFrame.lean ====
/-
  The maximum of |x|: its 21 row blocks run one after the other, each joining its own maximum onto what the block
  before left in the one result buffer; the first block starts from zero, whatever the buffer held.
-/
module

public import proofs.«01_k».proof.Proof.Gen.AmaxIdeal.Skeleton
public import proofs.«01_k».proof.Proof.Gen.AmaxIdeal.Frame
public import Idealize.ShloMosaic.Lib.Pipeline.Value
public import Idealize.ShloMosaic.Lib.UnfoldOut
public import Idealize.ShloMosaic.Lib.Claim

@[expose] public section

set_option maxRecDepth 16384

noncomputable section

namespace Cert.AmaxIdeal.Hand

open Cert.AmaxIdeal Cert.AmaxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- A buffer stored to whole, once, holds what was stored. -/
theorem read_stored {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- One run of the body: the block is left as it was, and the result buffer goes from `x1` to the block's maximum joined
    onto `x1` (onto zero at the first block). -/
theorem body_run (c : Dev nD) (i : grid0.Coords) (arg1 : Memref sig .tc .vmem S1024x2048 .bf16) (harg1 : arg1.IsWhole)
    (arg2 : Memref sig .tc .vmem S8x128 .f32) (harg2 : arg2.IsWhole) (x0 : Vec F S1024x2048 .bf16) (x1 : Vec F S8x128 .f32)
    (E : Set ℕ) (K : PUnit → sProp 𝕄) :
    iprop(owns (c : Thread nD τ) arg1 fullShare x0 ∗ owns (c : Thread nD τ) arg2 fullShare x1
        ∗ (iprop(owns (c : Thread nD τ) arg1 fullShare x0 ∗ owns (c : Thread nD τ) arg2 fullShare (k0_pay1 i x0 x1)) -∗ K ⟨⟩))
      ⊢ wp frame (wpE (defs₀ (F := F)) Variants.none c none) E (cc0_amax_x i arg1 harg1 arg2 harg2) K := by
  simp only [cc0_amax_x_eq_skeleton]; unfold cc0_amax_x_skel
  unfold owns
  iintro ⟨⟨%f0, %hf0, H0⟩, ⟨%f1, %hf1, H1⟩, Hk⟩
  obtain rfl := harg1.eq_unread hf0; obtain rfl := harg2.eq_unread hf1
  sl_exec
  sl_step
  iapply Hk
  isplitl [H0]
  · iexists _; isplitr; · ipureintro; exact harg1.read_unread _
    iexact H0
  iexists _; isplitr
  swap; · iexact H1
  ipureintro
  simp only [View.readAt_eq_ld, harg1.read_unread, harg2.read_unread]
  rw [read_stored _ _ hz2]
  repeat rw [View.ld_unit_zero hz2]

/-- What the result buffer holds after the first `n + 1` blocks. -/
def acc (c : Dev nD) : ℕ → Vec F S8x128 .f32
  | 0 => k0_pay1 (grid0.coords ⟨0, by rw [N_0]; omega⟩) (iblk m c 0 ⟨0, by show 0 < grid0.N; rw [N_0]; omega⟩) (constant S8x128 .f32 0x00000000#32)
  | n + 1 => if h : n + 1 < grid0.N then k0_pay1 (grid0.coords ⟨n + 1, h⟩) (iblk m c 0 ⟨n + 1, h⟩) (acc c n) else acc c n

/-- The first block does not read what the result buffer held. -/
theorem first_block (i : grid0.Coords) (hi : (i 0).val = 0) (x0 : Vec F S1024x2048 .bf16) (x1 x1' : Vec F S8x128 .f32) :
    k0_pay1 i x0 x1 = k0_pay1 i x0 x1' := by
  unfold k0_pay1
  rw [hi]
  rfl

theorem coords_zero : ∀ t : Fin grid0.N, t.val = 0 → (grid0.coords t 0).val = 0 := by decide +kernel

/-- The proof data of the pipeline: the block stays in place, and the result buffer holds `acc`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => acc m c t.val
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = acc m c t.val := by dsimp only [dats]
theorem before0_0 (c : Dev nD) (t : Fin cfg0.N) (d) : (dats m 0 c).before 0 t d = iblk m c 0 t :=
  before0_0_of m (dats m 0 c) (A_eq m c 0) (after0_0 m c) t d

/-- What the body finds in the result buffer leads it to `acc` at every block. -/
theorem acc_step (c : Dev nD) (t : Fin cfg0.N) (d) :
    k0_pay1 (grid0.coords t) (iblk m c 0 t) ((dats m 0 c).before 1 t d) = acc m c t.val := by
  obtain ⟨n, hn⟩ := t
  cases n with
  | zero => exact first_block _ (coords_zero ⟨0, hn⟩ rfl) _ _ _
  | succ n =>
    have hn' : n + 1 < 21 := by have h : n + 1 < grid0.N := hn; rwa [N_0] at h
    have hb : (dats m 0 c).before 1 ⟨n + 1, hn⟩ d = acc m c n := by
      refine ((dats m 0 c).before_out_kept 1 rfl ⟨n + 1, hn⟩ (Nat.succ_ne_zero n) ?_ (fun _ => rfl) (fun _ _ => rfl) d).trans (after0_1 m c _)
      refine Bool.eq_false_iff.mpr fun hf => ?_
      have := (flush0_1 _).mp hf
      have e : (n + 1 - 1) % 21 = 20 := this
      omega
    rw [hb]
    show _ = acc m c (n + 1)
    rw [acc, dif_pos (show n + 1 < grid0.N from hn)]

abbrev ms0_0 (t : Fin cfg0.N) : Memref sig .tc .vmem S1024x2048 .bf16 := win0_0.stage (cfg0.slots t 0)
abbrev ms0_1 (t : Fin cfg0.N) : Memref sig .tc .vmem S8x128 .f32 := win0_1.stage (cfg0.slots t 1)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  rw [← acc_step m c t d1]
  iapply (body_run c (grid0.coords t) _ _ _ _ (iblk m c 0 t) ((dats m 0 c).before 1 t d1) Set.univ _)
  isplitl [H0]; · iexact H0
  isplitl [H1]; · iexact H1
  iintro ⟨H0, H1⟩
  isplitl [HΦ]; · iexact HΦ
  isplitl [Ho]; · iexact Ho
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array as the proof data leave it, and every semaphore back at zero. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1, hostOps1_1])) :=
  (θ_run defs _ _).mono (fun _ h => h.1) (run_main_quiescent m ρ)

/-- The argument ends unchanged, and every semaphore is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.AmaxIdeal.Hand

end
-- ==== Proof.AmaxKernel.lean ====
/-
  The largest magnitude of the layer's input: what the kernel's 21 row blocks leave in the maximum buffer, and the scale
  the host reads from it.
-/
module

public import proofs.«01_k».proof.Proof.MaxMath
public import proofs.«01_k».proof.Proof.AmaxIdealFrame

@[expose] public section

set_option maxRecDepth 16384

noncomputable section

namespace Cert.AmaxIdeal.Hand

open Cert.AmaxIdeal Cert.AmaxIdeal.Gen Idealize.ShloMosaic Idealize.ShloMosaic.TcCoe Idealize.SL.Sem
open Idealize.ShloMosaic.StableHlo
open Idealize.ShloMosaic.Pipeline (Dat)
open Idealize.ShloMosaic.Pointwise
open Cert.Proof.Math

section Blocks

variable {F : FTy → Type} [FloatOps F]
variable (m : (ℓ : Loc nD τ sig) → Buf (Elt F) ℓ)

/-- The result window's one block starts at the array's origin, and the input's block at point `t` is row block `t`. -/
theorem index0_1 : ∀ (t : Fin cfg0.N) (a : Fin win0_1.shape.rank), win0_1.index t a = 0 :=
  (by decide +kernel : ∀ (t : Fin grid0.N) (a : Fin win0_1.shape.rank), win0_1.index t a = 0)
theorem index0_0 : ∀ t : Fin cfg0.N, win0_0.index t 0 = t.val ∧ win0_0.index t 1 = 0 :=
  (by decide +kernel : ∀ t : Fin grid0.N, win0_0.index t 0 = t.val ∧ win0_0.index t 1 = 0)

/-- Row `r` of row block `t`, as a row of the array. -/
abbrev row (t : Fin cfg0.N) (r : Fin 1024) : Fin 21504 :=
  ⟨t.val * 1024 + r.val, by have h : t.val < grid0.N := t.isLt; rw [N_0] at h; omega⟩

theorem emb_0 (t : Fin cfg0.N) (r : Fin 1024) (k : Fin 2048) : (win0_0.rect t).emb (ix2 r k) = ix2 (row t r) k :=
  funext fun a => Fin.ext (by
    rw [win0_0.rect_emb_val t _ a rfl]
    match a with
    | ⟨0, _⟩ => exact at_idx (index0_0 t).1
    | ⟨1, _⟩ => exact at_zero (index0_0 t).2)

theorem iblk_0 (c : Dev nD) (t : Fin cfg0.N) (r : Fin 1024) (k : Fin 2048) :
    (iblk m c 0 t : S1024x2048.Idx → Elt F .bf16) (ix2 r k) = V m c main_v0 (ix2 (row t r) k) :=
  congrArg (V m c main_v0) (emb_0 t r k)

/-- Every row is in some row block. -/
theorem row_surj (i : Fin 21504) : ∃ (t : Fin cfg0.N) (r : Fin 1024), row t r = i := by
  refine ⟨⟨i.val / 1024, by show i.val / 1024 < grid0.N; rw [N_0]; omega⟩, ⟨i.val % 1024, by omega⟩, Fin.ext ?_⟩
  show i.val / 1024 * 1024 + i.val % 1024 = i.val
  omega

/-- The last block. -/
abbrev last : Fin cfg0.N := ⟨20, by show 20 < grid0.N; rw [N_0]; omega⟩
theorem cover_1 (i : S8x128.Idx) : ∃ t : Fin cfg0.N, (cfg0.win 1).flush t = true ∧ i ∈ ((cfg0.win 1).blk t).view.set := by
  refine ⟨last, (flush0_1 _).mpr rfl, ?_⟩
  have h := ((cfg0.win 1).blk last).view.emb_mem_set i
  have e : ((cfg0.win 1).blk last).view.emb i = i :=
    funext fun a => Fin.ext (win0_1.rect_emb_val_of_index_zero last a (index0_1 last a) i)
  rwa [e] at h
theorem read_1 (t : Fin cfg0.N) (G : S8x128.Idx → Elt F .f32) : (win0_1.blk t).view.read (Elt F) G = G :=
  funext fun y => congrArg G (funext fun a => Fin.ext (win0_1.rect_emb_val_of_index_zero t a (index0_1 t a) y))

theorem V_main_v0 (c : Dev nD) : V m c main_v0 = shapeCast S21504x2048 (m ((c.tc : Thread nD τ).loc main_arg0)) shapeCasts_S3x7168x2048_S21504x2048 := by
  show StableHlo.after hostOps0 _ _ = _
  after_results
  try rfl

/-! ### The host's reading of the maximum -/

/-- The exit contents of the launch. -/
abbrev exitV (c : Dev nD) : Valuation τ sig (Elt F) :=
  Pipeline.withArrays spec0 c (Gen.V0 m c) fun w => (dats m 0 c).arrAt w cfg0.N

theorem exit_max (c : Dev nD) : exitV m c (Proc.devRef .tc main_v1) = (dats m 0 c).arrAt 1 cfg0.N :=
  Pipeline.withArrays_arr spec0 Gen.launch0.win.arr_inj c (Gen.V0 m c) _ 1

/-- The largest element of the maximum buffer. -/
def top (M : FVec F S8x128 .f32) : FVec F S_ .f32 :=
  Host.reduce FloatOps.maximumf M (constant S_ .f32 0xFF800000#32) reducesTo_S8x128_S_d0_1 h_S_
/-- The scale of a largest magnitude: by the largest code, or one when every element is zero. -/
def scaleOf (M : FVec F S_ .f32) : FVec F S_ .f32 :=
  select (cmpf .oeq M (constant S_ .f32 0x00000000#32)) (constant S_ .f32 0x3F800000#32) (Host.divf M (constant S_ .f32 0x43E00000#32))

set_option maxHeartbeats 2000000 in
theorem tail_scale (V0 : Valuation τ sig (Elt F)) :
    after (List.flatten [Gen.hostOps1, Gen.hostOps1_1]) V0 (Proc.devRef .tc main_v5) = scaleOf (top (V0 (Proc.devRef .tc main_v1))) := by
  simp only [Gen.hostOps1, Gen.hostOps1_1, TRef.ternary, TRef.unary, TRef.toBuf, TRef.ofBuf, cast_eq, List.flatten_cons, List.flatten_nil, List.append_nil, List.cons_append, List.nil_append]
  after_results_simp
  try rfl
theorem fin_scale (c : Dev nD) :
    Pipeline.afterTail₀ cfgs (dats m) 0 (Gen.V0 m) [Gen.hostOps1, Gen.hostOps1_1] c main_v5 = scaleOf (top ((dats m 0 c).arrAt 1 cfg0.N)) :=
  (tail_scale (exitV m c)).trans (by rw [exit_max])

/-- What the run leaves: the scale, and the argument. -/
theorem run (ρ : Dev nD → PrngReg) : θ_run defs (onTc (τ := τ) (main (F := F))) ⟨m, fun _ => 0, ρ⟩ fun r => ∀ c : Dev nD,
    r.2.mem ((c.tc : Thread nD τ).loc main_v5) = scaleOf (top ((dats m 0 c).arrAt 1 cfg0.N))
    ∧ r.2.mem ((c.tc : Thread nD τ).loc main_arg0) = m ((c.tc : Thread nD τ).loc main_arg0) :=
  (θ_run defs _ _).mono (fun r h c => ⟨
      ((h.1 c).2 main_v5 (Pipeline.mem_restRefs_of main_v5 (by decide) (by decide))).trans (fin_scale m c), h.2.1 c⟩)
    (θ_run_and (run_main m ρ) (frame m ρ))

end Blocks

/-! ## At the extended reals, element by element -/

section AtIdeal

variable (m : (ℓ : Loc nD τ sig) → Buf (Elt Ideal) ℓ)

/-- The layer's input, and the same row by row. -/
abbrev x (c : Dev nD) : S3x7168x2048.Idx → EReal := m ((c.tc : Thread nD τ).loc main_arg0)
def rows (c : Dev nD) (i : Fin 21504) (j : Fin 2048) : EReal :=
  x m c (ix3 ⟨i.val / 7168, by omega⟩ ⟨i.val % 7168, by omega⟩ j)

theorem rows_apply (c : Dev nD) (i : Fin 21504) (j : Fin 2048) :
    @Eq EReal (shapeCast S21504x2048 (m ((c.tc : Thread nD τ).loc main_arg0)) shapeCasts_S3x7168x2048_S21504x2048 (ix2 i j)) (rows m c i j) :=
  shapeCast_apply _ shapeCasts_S3x7168x2048_S21504x2048 _ (ix3 ⟨i.val / 7168, by omega⟩ ⟨i.val % 7168, by omega⟩ j) (by
    rewrite [Shape.rowMajor_val_three, Shape.rowMajor_val_two]
    show (i.val / 7168 * 7168 + i.val % 7168) * 2048 + j.val = i.val * 2048 + j.val
    omega)

/-- A block's elements, in the working type. -/
def blkAt (c : Dev nD) (t : Fin cfg0.N) : FVec Ideal S1024x2048 .f32 :=
  extf .f32 (shapeCast S1024x2048 (iblk m c 0 t) shapeCasts_S1024x2048_S1024x2048) bitsLt_bf16_f32
theorem blkAt_apply (c : Dev nD) (t : Fin cfg0.N) (r : Fin 1024) (j : Fin 2048) : blkAt m c t (ix2 r j) = rows m c (row t r) j := by
  rw [← rows_apply, ← V_main_v0, ← iblk_0]
  unfold blkAt
  generalize iblk m c 0 t = v
  revert v
  intro (v : FVec Ideal S1024x2048 .bf16)
  pointwise

/-- The maximum buffer's array after the run. -/
theorem max_eq (c : Dev nD) : (dats m 0 c).arrAt 1 cfg0.N = acc m c 20 := by
  refine (dats m 0 c).arrAt_eq_of_cover 1 _ (fun t ht => ?_) cover_1
  rw [read_1]
  show (cfg0.win 1).cut (grid0.coords t) ((dats m 0 c).after 1 t) = _
  rw [after0_1]
  have h1 := (flush0_1 t).mp ht
  have h2 : t.val < 21 := lt_of_lt_of_eq t.isLt N_0
  have h3 : t.val = 20 := by omega
  rw [h3]
  rfl

/-! ### The maximum, by its upper bounds -/

/-- Every element of a maximum buffer is at most `x`. -/
def Below (a : FVec Ideal S8x128 .f32) (x : EReal) : Prop := ∀ (r : Fin 8) (l : Fin 128), a (ix2 r l) ≤ x

/-- The maxima of a block's magnitudes over its groups of eight rows, and one of their 16 column stretches. -/
def groups (v : FVec Ideal S1024x2048 .f32) : FVec Ideal S8x2048 .f32 :=
  multiReduction .maximumf [0] S8x2048 (shapeCast S128x8x2048 (absf v) shapeCasts_S1024x2048_S128x8x2048) 0xFF800000#32 reduces_S128x8x2048_S8x2048 (.inl rfl) rfl

theorem slicesG (k : Fin 16) : S8x2048.Slices ![0, 128 * k.val] S8x128 := by
  revert k; decide

def stretch (v : FVec Ideal S1024x2048 .f32) (k : Fin 16) : FVec Ideal S8x128 .f32 :=
  extractStridedSlice S8x128 ![0, 128 * k.val] (groups v) (slicesG k)

theorem stretch_apply (v : FVec Ideal S1024x2048 .f32) (k : Fin 16) (r : Fin 8) (l : Fin 128) :
    stretch v k (ix2 r l) = Finset.univ.fold max (Ideal.ofBits .f32 0xFF800000#32) fun g : Fin 128 =>
      mag (v (ix2 ⟨g.val * 8 + r.val, by omega⟩ ⟨128 * k.val + l.val, by omega⟩)) := by
  pointwise [stretch, groups]

/-- The later stretches, and the maxima joined one after the other. -/
def later : List (Fin 16) := [1, 2, 3, 4, 5, 6, 7, 8, 9, 10, 11, 12, 13, 14, 15]
theorem mem_later : ∀ k : Fin 16, k = 0 ∨ k ∈ later := by decide
def joined (v : FVec Ideal S1024x2048 .f32) : FVec Ideal S8x128 .f32 :=
  later.foldl (fun a k => maximumf a (stretch v k)) (stretch v 0)

theorem foldl_below (f : Fin 16 → FVec Ideal S8x128 .f32) (x : EReal) (L : List (Fin 16)) (a : FVec Ideal S8x128 .f32) :
    Below (L.foldl (fun a k => maximumf a (f k)) a) x ↔ Below a x ∧ ∀ k ∈ L, Below (f k) x := by
  induction L generalizing a with
  | nil => simp
  | cons k L ih =>
    rw [List.foldl_cons, ih, List.forall_mem_cons, ← and_assoc]
    refine and_congr_left fun _ => ?_
    exact ⟨fun h => ⟨fun r l => (max_le_iff.mp (h r l)).1, fun r l => (max_le_iff.mp (h r l)).2⟩, fun h r l => max_le (h.1 r l) (h.2 r l)⟩

/-- The bounds of a block's joined maxima are those of its magnitudes. -/
theorem joined_below (v : FVec Ideal S1024x2048 .f32) (x : EReal) :
    Below (joined v) x ↔ ∀ (i : Fin 1024) (j : Fin 2048), mag (v (ix2 i j)) ≤ x := by
  have e : Below (joined v) x ↔ ∀ k, Below (stretch v k) x := by
    unfold joined
    rw [foldl_below]
    refine ⟨fun h k => ?_, fun h => ⟨h 0, fun k _ => h k⟩⟩
    rcases mem_later k with rfl | hk
    · exact h.1
    · exact h.2 k hk
  rw [e]
  unfold Below
  simp only [stretch_apply, maxOver_le]
  refine ⟨fun h i j => ?_, fun h k r l g => h _ _⟩
  have := h ⟨j.val / 128, by omega⟩ ⟨i.val % 8, by omega⟩ ⟨j.val % 128, by omega⟩ ⟨i.val / 8, by omega⟩
  have hi : (⟨i.val / 8 * 8 + i.val % 8, by omega⟩ : Fin 1024) = i := Fin.ext (by show i.val / 8 * 8 + i.val % 8 = i.val; omega)
  have hj : (⟨128 * (j.val / 128) + j.val % 128, by omega⟩ : Fin 2048) = j := Fin.ext (by show 128 * (j.val / 128) + j.val % 128 = j.val; omega)
  rwa [hi, hj] at this

/-- What a block starts its maximum from. -/
def start (b : BitVec 32) (a : FVec Ideal S8x128 .f32) : FVec Ideal S8x128 .f32 :=
  Scalar.select (Scalar.cmpi .eq b 0#32) (broadcast S8x128 (Scalar.ofBits (F := Ideal) .f32 0x00000000#32)) (shapeCast S8x128 a shapeCasts_S8x128_S8x128)

set_option maxRecDepth 65536 in
theorem maxAt_eq (c : Dev nD) (t : Fin cfg0.N) (a : FVec Ideal S8x128 .f32) :
    k0_pay1 (F := Ideal) (grid0.coords t) (iblk m c 0 t) a = maximumf (start (BitVec.ofNat 32 (grid0.coords t 0).val) a) (joined (blkAt m c t)) := rfl

/-- A block's maximum joined onto `a`: its bounds are those of what it starts from and of the block's magnitudes. -/
theorem maxAt_below (c : Dev nD) (t : Fin cfg0.N) (a : FVec Ideal S8x128 .f32) (x : EReal) :
    Below (k0_pay1 (F := Ideal) (grid0.coords t) (iblk m c 0 t) a) x ↔ Below (start (BitVec.ofNat 32 (grid0.coords t 0).val) a) x
      ∧ ∀ (i : Fin 1024) (j : Fin 2048), mag (rows m c (row t i) j) ≤ x := by
  have e : Below (k0_pay1 (F := Ideal) (grid0.coords t) (iblk m c 0 t) a) x
      ↔ Below (start (BitVec.ofNat 32 (grid0.coords t 0).val) a) x ∧ Below (joined (blkAt m c t)) x := by
    rw [maxAt_eq]
    exact ⟨fun h => ⟨fun r l => (max_le_iff.mp (h r l)).1, fun r l => (max_le_iff.mp (h r l)).2⟩, fun h r l => max_le (h.1 r l) (h.2 r l)⟩
  rw [e, joined_below]
  simp only [blkAt_apply]

theorem coords_succ : ∀ t : Fin grid0.N, t.val ≠ 0 → (BitVec.ofNat 32 (grid0.coords t 0).val) ≠ 0#32 := by decide +kernel

theorem start_zero (a : FVec Ideal S8x128 .f32) (x : EReal) : Below (start 0#32 a) x ↔ 0 ≤ x := by
  have e : start 0#32 a = fun _ => Ideal.ofBits .f32 0x00000000#32 := rfl
  rw [e, zero_f32]
  exact ⟨fun h => h 0 0, fun h _ _ => h⟩

theorem start_succ (b : BitVec 32) (hi : b ≠ 0#32) (a : FVec Ideal S8x128 .f32) : Below (start b a) = Below a := by
  have e : ∀ r l, start b a (ix2 r l) = a (ix2 r l) := by
    intro r l
    have hc : Scalar.cmpi .eq b 0#32 = 0#1 := by
      show BitVec.ofBool (b == 0#32) = 0#1
      rw [beq_eq_false_iff_ne.mpr hi]; rfl
    unfold start
    rw [hc]
    pointwise
  unfold Below
  simp only [e]

/-- The bounds of the maximum buffer after the first `n + 1` blocks. -/
theorem acc_below (c : Dev nD) (x : EReal) : ∀ n : ℕ, n < 21 →
    (Below (acc m c n) x ↔ 0 ≤ x ∧ ∀ t : Fin cfg0.N, t.val ≤ n → ∀ (i : Fin 1024) (j : Fin 2048), mag (rows m c (row t i) j) ≤ x) := by
  intro n
  induction n with
  | zero =>
    intro _
    rw [acc, maxAt_below, coords_zero _ rfl, start_zero]
    refine and_congr_right fun _ => ⟨fun h t ht i j => ?_, fun h i j => h _ le_rfl i j⟩
    have e : t = ⟨0, by show 0 < grid0.N; rw [N_0]; omega⟩ := Fin.ext (Nat.le_zero.mp ht)
    rw [e]; exact h i j
  | succ n ih =>
    intro hn
    have hN : n + 1 < grid0.N := by rw [N_0]; exact hn
    rw [acc, dif_pos hN, maxAt_below, start_succ _ (coords_succ ⟨n + 1, hN⟩ (Nat.succ_ne_zero n)), ih (by omega), and_assoc]
    refine and_congr_right fun _ => ⟨fun h t ht i j => ?_, fun h => ⟨fun t ht => h t (by omega), fun i j => h _ le_rfl i j⟩⟩
    rcases Nat.lt_or_ge t.val (n + 1) with h' | h'
    · exact h.1 t (by omega) i j
    · have e : t = ⟨n + 1, hN⟩ := Fin.ext (by show t.val = n + 1; omega)
      rw [e]; exact h.2 i j

/-- The largest magnitude of the layer's input. -/
theorem top_le (c : Dev nD) (x : EReal) : (top (F := Ideal) (acc m c 20)) ix0 ≤ x ↔ ∀ (i : Fin 21504) (j : Fin 2048), mag (rows m c i j) ≤ x := by
  have e : (top (F := Ideal) (acc m c 20)) ix0 ≤ x ↔ Below (acc m c 20) x := by
    generalize (acc m c 20) = M
    have e : (top (F := Ideal) M) ix0 = Finset.univ.fold max (Ideal.ofBits .f32 0xFF800000#32) fun k : Fin 8 × Fin 128 => (M : FVec Ideal S8x128 .f32) (ix2 k.1 k.2) := by
      pointwise [top]
    rw [e, maxOver_le]
    exact ⟨fun h r l => h (r, l), fun h k => h k.1 k.2⟩
  rw [e, acc_below m c x 20 (by omega)]
  constructor
  · intro h i j
    obtain ⟨t, r, rfl⟩ := row_surj i
    have ht : t.val < 21 := lt_of_lt_of_eq t.isLt N_0
    exact h.2 t (by omega) r j
  · exact fun h => ⟨le_trans (mag_nonneg _) (h 0 0), fun t _ i j => h _ j⟩

end AtIdeal

end Cert.AmaxIdeal.Hand

end
-- ==== Proof.AmaxClaim.lean ====
/-
  The scale of the layer's input: from arguments that agree, the kernel's and the reference's are equal as extended reals.
-/
module

public import proofs.«01_k».proof.Defs
public import proofs.«01_k».proof.Proof.AmaxKernel
public import proofs.«01_k».proof.Proof.Gen.AmaxRefIdeal.Run
public import proofs.«01_k».proof.Proof.Gen.AmaxRefIdeal.Read

@[expose] public section

set_option maxRecDepth 16384

noncomputable section

namespace Cert.Proof.AmaxClaim

open Idealize.ShloMosaic Idealize.ShloMosaic.TcCoe Idealize.SL.Sem
open Idealize.ShloMosaic.Pointwise
open Cert.Proof.Math

section Ref
open Cert.AmaxRefIdeal Cert.AmaxRefIdeal.Gen Cert.AmaxRefIdeal.Read

/-- The bounds of the reference's largest magnitude. -/
theorem ref_max_le (a : FVec Ideal S3x7168x2048 .bf16) (x : EReal) :
    (val_main_v2 (F := Ideal) a : FVec Ideal S_ .f32) ix0 ≤ x ↔ ∀ (b : Fin 3) (s : Fin 7168) (j : Fin 2048), mag (a (ix3 b s j)) ≤ x := by
  have e : (val_main_v2 (F := Ideal) a : FVec Ideal S_ .f32) ix0
      = Finset.univ.fold max (Ideal.ofBits .f32 0xFF800000#32) fun k : Fin 3 × Fin 7168 × Fin 2048 => mag (a (ix3 k.1 k.2.1 k.2.2)) := by
    pointwise [val_main_v2, val_main_v1, val_main_v0, val_main_cst]
  rw [e, maxOver_le]
  exact ⟨fun h b s j => h (b, s, j), fun h k => h k.1 k.2.1 k.2.2⟩

end Ref

/-- The claim. -/
theorem algebraic [h : Cert.AmaxIdeal.Facts] [h' : Cert.AmaxRefIdeal.Facts] : Cert.algebraic_AmaxIdeal_AmaxRefIdeal := by
  intro m g m' g' _ hagree
  refine ⟨fun c => AmaxIdeal.Hand.scaleOf (AmaxIdeal.Hand.top (F := Ideal) (AmaxIdeal.Hand.acc m c 20)), ?_, ?_⟩
  · refine (θ_run Cert.AmaxIdeal.defs _ _).mono (fun _ h c => ?_) (Cert.AmaxIdeal.Hand.run (F := Ideal) m g)
    obtain ⟨h0, hrest⟩ := h c
    exact ⟨h0.trans (by rw [AmaxIdeal.Hand.max_eq m c]), hrest⟩
  · refine (θ_run Cert.AmaxRefIdeal.defs _ _).mono (fun _ h c => ?_) (Cert.AmaxRefIdeal.Value.run (F := Ideal) m' g')
    obtain ⟨h0, hrest⟩ := h c
    have e0 := hagree c
    refine ⟨h0.trans ?_, hrest⟩
    refine congrArg (AmaxIdeal.Hand.scaleOf (F := Ideal)) (a₁ := AmaxRefIdeal.Read.val_main_v2 (F := Ideal)
      (m' ((c.tc : Thread Cert.AmaxRefIdeal.nD Cert.AmaxRefIdeal.τ).loc Cert.AmaxRefIdeal.main_arg0))) ?_
    funext (y : Cert.AmaxRefIdeal.S_.Idx)
    obtain rfl : y = ix0 := funext fun a => a.elim0
    refine eq_of_bounds fun x => (ref_max_le _ x).trans (Iff.trans ?_ (AmaxIdeal.Hand.top_le m c x).symm)
    rw [e0]
    constructor
    · exact fun h i j => h _ _ _
    · intro h b s j
      have := h ⟨b.val * 7168 + s.val, by omega⟩ j
      have hb : (⟨(b.val * 7168 + s.val) / 7168, by omega⟩ : Fin 3) = b := Fin.ext (by show (b.val * 7168 + s.val) / 7168 = b.val; omega)
      have hs : (⟨(b.val * 7168 + s.val) % 7168, by omega⟩ : Fin 7168) = s := Fin.ext (by show (b.val * 7168 + s.val) % 7168 = s.val; omega)
      unfold AmaxIdeal.Hand.rows at this
      rwa [hb, hs] at this

end Cert.Proof.AmaxClaim

end
-- ==== Proof.lean ====
/- The proof of the claim of this problem: every launch runs to completion with its semaphores back at zero, and
   each kernel call computes, over the ideal numbers, the part of the layer its reference states. -/
module

public import proofs.«01_k».proof.Defs
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.DownRefIdeal.Frame
public import proofs.«01_k».proof.Proof.DownClaim
public import proofs.«01_k».proof.Proof.Gen.Gateup
public import proofs.«01_k».proof.Proof.Gen.Gateup.Frame
public import proofs.«01_k».proof.Proof.Gen.Gateup.Skeleton
public import proofs.«01_k».proof.Proof.GateupFrame
public import proofs.«01_k».proof.Proof.Gen.GateupIdeal
public import proofs.«01_k».proof.Proof.Gen.GateupIdeal.Frame
public import proofs.«01_k».proof.Proof.Gen.GateupIdeal.Skeleton
public import proofs.«01_k».proof.Proof.GateupIdealFrame
public import proofs.«01_k».proof.Proof.Gen.GateupRefIdeal
public import proofs.«01_k».proof.Proof.Gen.GateupRefIdeal.Frame
public import proofs.«01_k».proof.Proof.GateupClaim
public import proofs.«01_k».proof.Proof.Gen.Oproj
public import proofs.«01_k».proof.Proof.Gen.Oproj.Frame
public import proofs.«01_k».proof.Proof.Gen.Oproj.Skeleton
public import proofs.«01_k».proof.Proof.OprojFrame
public import proofs.«01_k».proof.Proof.Gen.OprojIdeal
public import proofs.«01_k».proof.Proof.Gen.OprojIdeal.Frame
public import proofs.«01_k».proof.Proof.Gen.OprojIdeal.Skeleton
public import proofs.«01_k».proof.Proof.OprojIdealFrame
public import proofs.«01_k».proof.Proof.Gen.OprojRefIdeal
public import proofs.«01_k».proof.Proof.Gen.OprojRefIdeal.Frame
public import proofs.«01_k».proof.Proof.OprojClaim
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvRefIdeal
public import proofs.«01_k».proof.Proof.Gen.QkvRefIdeal.Frame
public import proofs.«01_k».proof.Proof.QkvClaim
public import proofs.«01_k».proof.Proof.Gen.Amax
public import proofs.«01_k».proof.Proof.Gen.Amax.Frame
public import proofs.«01_k».proof.Proof.Gen.Amax.Skeleton
public import proofs.«01_k».proof.Proof.AmaxFrame
public import proofs.«01_k».proof.Proof.Gen.AmaxIdeal
public import proofs.«01_k».proof.Proof.Gen.AmaxIdeal.Frame
public import proofs.«01_k».proof.Proof.Gen.AmaxIdeal.Skeleton
public import proofs.«01_k».proof.Proof.AmaxIdealFrame
public import proofs.«01_k».proof.Proof.Gen.AmaxRefIdeal
public import proofs.«01_k».proof.Proof.AmaxClaim
public import proofs.«01_k».proof.Proof.Gen.AmaxRefIdeal.Run
public import Idealize.ShloMosaic.Adequacy
public import Idealize.ShloMosaic.Init

@[expose] public section

noncomputable section

namespace Cert.Proof

open Idealize.ShloMosaic Idealize.SL.Sem

/-- The reference of the scale of x runs on the host alone, so it has no semaphore to leave raised. -/
theorem ref_amax_frame : Cert.quiescent_AmaxRefIdeal (hAmaxRefIdeal := Cert.AmaxRefIdeal.Gen.facts) :=
  fun m ρ _ => (θ_run Cert.AmaxRefIdeal.defs _ _).mono
    (fun r h => ⟨fun c => (h c).2, Idealize.ShloMosaic.sem_eq_zero_of_no_sems (by decide) r.2⟩)
    (Cert.AmaxRefIdeal.Value.run (F := Ideal) m ρ)

theorem claim : Cert.Claim :=
  ⟨Cert.Down.Gen.facts,
   Cert.DownIdeal.Gen.facts,
   Cert.DownRefIdeal.Gen.facts,
   Cert.Gateup.Gen.facts,
   Cert.GateupIdeal.Gen.facts,
   Cert.GateupRefIdeal.Gen.facts,
   Cert.Oproj.Gen.facts,
   Cert.OprojIdeal.Gen.facts,
   Cert.OprojRefIdeal.Gen.facts,
   Cert.Qkv.Gen.facts,
   Cert.QkvIdeal.Gen.facts,
   Cert.QkvRefIdeal.Gen.facts,
   Cert.Amax.Gen.facts,
   Cert.AmaxIdeal.Gen.facts,
   Cert.AmaxRefIdeal.Gen.facts,
   fun m ρ _ => Cert.Down.Gen.frame m ρ,
   fun m ρ _ => Cert.DownIdeal.Gen.frame m ρ,
   fun m ρ _ => Cert.DownRefIdeal.Gen.frame m ρ,
   fun m ρ _ => Cert.Gateup.Hand.frame m ρ,
   fun m ρ _ => Cert.GateupIdeal.Hand.frame m ρ,
   fun m ρ _ => Cert.GateupRefIdeal.Gen.frame m ρ,
   fun m ρ _ => Cert.Oproj.Hand.frame m ρ,
   fun m ρ _ => Cert.OprojIdeal.Hand.frame m ρ,
   fun m ρ _ => Cert.OprojRefIdeal.Gen.frame m ρ,
   fun m ρ _ => Cert.Qkv.Gen.frame m ρ,
   fun m ρ _ => Cert.QkvIdeal.Gen.frame m ρ,
   fun m ρ _ => Cert.QkvRefIdeal.Gen.frame m ρ,
   fun m ρ _ => Cert.Amax.Hand.frame m ρ,
   fun m ρ _ => Cert.AmaxIdeal.Hand.frame m ρ,
   ref_amax_frame,
   trivial,
   Cert.Proof.DownClaim.algebraic,
   trivial,
   Cert.Proof.GateupClaim.algebraic,
   trivial,
   Cert.Proof.OprojClaim.algebraic,
   trivial,
   Cert.Proof.QkvClaim.algebraic,
   trivial,
   Cert.Proof.AmaxClaim.algebraic⟩

end Cert.Proof

end
